-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_rows [hPre_finite_rows : Cert.Pre_finite_rows.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_rows.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_rows [hPre_finite_rows : Cert.Pre_finite_rows.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_rows.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_finite_rows [hKernel3Ideal : Cert.Kernel3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_rows m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_finite_rows [hReference3Ideal : Cert.Reference3Ideal.Facts] [hPre_finite_rows : Cert.Pre_finite_rows.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_rows m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v12)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v12) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_rows [hKernel3Ideal : Cert.Kernel3Ideal.Facts] [hReference3Ideal : Cert.Reference3Ideal.Facts] [hPre_finite_rows : Cert.Pre_finite_rows.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_rows m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v42_0)) (v1 : (c : Dev Cert.Kernel3Ideal.nD) → Buf (Elt Ideal) ((c.tc : Thread Cert.Kernel3Ideal.nD Cert.Kernel3Ideal.τ).loc Cert.Kernel3Ideal.main_v42_1)) (v2 : (c : Dev Cert.Kernel3Ideal.nD) → Buf (Elt Ideal) ((c.tc : Thread Cert.Kernel3Ideal.nD Cert.Kernel3Ideal.τ).loc Cert.Kernel3Ideal.main_v42_2)) (v3 : (c : Dev Cert.Kernel3Ideal.nD) → Buf (Elt Ideal) ((c.tc : Thread Cert.Kernel3Ideal.nD Cert.Kernel3Ideal.τ).loc Cert.Kernel3Ideal.main_v42_3)) (v4 : (c : Dev Cert.Kernel3Ideal.nD) → Buf (Elt Ideal) ((c.tc : Thread Cert.Kernel3Ideal.nD Cert.Kernel3Ideal.τ).loc Cert.Kernel3Ideal.main_v42_4)) (v5 : (c : Dev Cert.Kernel3Ideal.nD) → Buf (Elt Ideal) ((c.tc : Thread Cert.Kernel3Ideal.nD Cert.Kernel3Ideal.τ).loc Cert.Kernel3Ideal.main_v42_5)) (v6 : (c : Dev Cert.Kernel3Ideal.nD) → Buf (Elt Ideal) ((c.tc : Thread Cert.Kernel3Ideal.nD Cert.Kernel3Ideal.τ).loc Cert.Kernel3Ideal.main_v42_6)) (v7 : (c : Dev Cert.Kernel3Ideal.nD) → Buf (Elt Ideal) ((c.tc : Thread Cert.Kernel3Ideal.nD Cert.Kernel3Ideal.τ).loc Cert.Kernel3Ideal.main_v42_7)) (v8 : (c : Dev Cert.Kernel3Ideal.nD) → Buf (Elt Ideal) ((c.tc : Thread Cert.Kernel3Ideal.nD Cert.Kernel3Ideal.τ).loc Cert.Kernel3Ideal.main_v42_8)) (v9 : (c : Dev Cert.Kernel3Ideal.nD) → Buf (Elt Ideal) ((c.tc : Thread Cert.Kernel3Ideal.nD Cert.Kernel3Ideal.τ).loc Cert.Kernel3Ideal.main_v42_9)) (v10 : (c : Dev Cert.Kernel3Ideal.nD) → Buf (Elt Ideal) ((c.tc : Thread Cert.Kernel3Ideal.nD Cert.Kernel3Ideal.τ).loc Cert.Kernel3Ideal.main_v42_10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42_0) = v0 c
          ∧ r.2.mem ((c.tc : Thread Cert.Kernel3Ideal.nD Cert.Kernel3Ideal.τ).loc Cert.Kernel3Ideal.main_v42_1) = v1 c
          ∧ r.2.mem ((c.tc : Thread Cert.Kernel3Ideal.nD Cert.Kernel3Ideal.τ).loc Cert.Kernel3Ideal.main_v42_2) = v2 c
          ∧ r.2.mem ((c.tc : Thread Cert.Kernel3Ideal.nD Cert.Kernel3Ideal.τ).loc Cert.Kernel3Ideal.main_v42_3) = v3 c
          ∧ r.2.mem ((c.tc : Thread Cert.Kernel3Ideal.nD Cert.Kernel3Ideal.τ).loc Cert.Kernel3Ideal.main_v42_4) = v4 c
          ∧ r.2.mem ((c.tc : Thread Cert.Kernel3Ideal.nD Cert.Kernel3Ideal.τ).loc Cert.Kernel3Ideal.main_v42_5) = v5 c
          ∧ r.2.mem ((c.tc : Thread Cert.Kernel3Ideal.nD Cert.Kernel3Ideal.τ).loc Cert.Kernel3Ideal.main_v42_6) = v6 c
          ∧ r.2.mem ((c.tc : Thread Cert.Kernel3Ideal.nD Cert.Kernel3Ideal.τ).loc Cert.Kernel3Ideal.main_v42_7) = v7 c
          ∧ r.2.mem ((c.tc : Thread Cert.Kernel3Ideal.nD Cert.Kernel3Ideal.τ).loc Cert.Kernel3Ideal.main_v42_8) = v8 c
          ∧ r.2.mem ((c.tc : Thread Cert.Kernel3Ideal.nD Cert.Kernel3Ideal.τ).loc Cert.Kernel3Ideal.main_v42_9) = v9 c
          ∧ r.2.mem ((c.tc : Thread Cert.Kernel3Ideal.nD Cert.Kernel3Ideal.τ).loc Cert.Kernel3Ideal.main_v42_10) = v10 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v85) = v0 c
          ∧ r.2.mem ((c.tc : Thread Cert.Reference3Ideal.nD Cert.Reference3Ideal.τ).loc Cert.Reference3Ideal.main_v86) = v1 c
          ∧ r.2.mem ((c.tc : Thread Cert.Reference3Ideal.nD Cert.Reference3Ideal.τ).loc Cert.Reference3Ideal.main_v87) = v2 c
          ∧ r.2.mem ((c.tc : Thread Cert.Reference3Ideal.nD Cert.Reference3Ideal.τ).loc Cert.Reference3Ideal.main_v88) = v3 c
          ∧ r.2.mem ((c.tc : Thread Cert.Reference3Ideal.nD Cert.Reference3Ideal.τ).loc Cert.Reference3Ideal.main_v89) = v4 c
          ∧ r.2.mem ((c.tc : Thread Cert.Reference3Ideal.nD Cert.Reference3Ideal.τ).loc Cert.Reference3Ideal.main_v90) = v5 c
          ∧ r.2.mem ((c.tc : Thread Cert.Reference3Ideal.nD Cert.Reference3Ideal.τ).loc Cert.Reference3Ideal.main_v91) = v6 c
          ∧ r.2.mem ((c.tc : Thread Cert.Reference3Ideal.nD Cert.Reference3Ideal.τ).loc Cert.Reference3Ideal.main_v92) = v7 c
          ∧ r.2.mem ((c.tc : Thread Cert.Reference3Ideal.nD Cert.Reference3Ideal.τ).loc Cert.Reference3Ideal.main_v93) = v8 c
          ∧ r.2.mem ((c.tc : Thread Cert.Reference3Ideal.nD Cert.Reference3Ideal.τ).loc Cert.Reference3Ideal.main_v94) = v9 c
          ∧ r.2.mem ((c.tc : Thread Cert.Reference3Ideal.nD Cert.Reference3Ideal.τ).loc Cert.Reference3Ideal.main_v95) = v10 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts) (hPre_routed : Cert.Pre_routed.Facts) (hPre_finite_rows : Cert.Pre_finite_rows.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Kernel3Ideal_pre_finite_rows (hKernel3Ideal := hKernel3Ideal) (hPre_finite_rows := hPre_finite_rows)
    ∧ quiescent_Reference3Ideal (hReference3Ideal := hReference3Ideal)
    ∧ quiescent_Reference3Ideal_pre_finite_rows (hReference3Ideal := hReference3Ideal) (hPre_finite_rows := hPre_finite_rows)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ algebraic_Kernel3Ideal_Reference3Ideal_pre_finite_rows (hKernel3Ideal := hKernel3Ideal) (hReference3Ideal := hReference3Ideal) (hPre_finite_rows := hPre_finite_rows)
-- ==== Pre_finite_rows.lean ====
abbrev S16384x1024 : Shape := ⟨2, ![16384, 1024]⟩
abbrev S4x1024 : Shape := ⟨2, ![4, 1024]⟩
abbrev S1024x2560 : Shape := ⟨2, ![1024, 2560]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S4x1024 : S_.BroadcastsInDim S4x1024 (![] : Fin 0 → Fin S4x1024.rank)
  reducesTo_S4x1024_S_d0_1 : S4x1024.ReducesTo [0, 1] S_
  bcast_S_S1024x2560 : S_.BroadcastsInDim S1024x2560 (![] : Fin 0 → Fin S1024x2560.rank)
  reducesTo_S1024x2560_S_d0_1 : S1024x2560.ReducesTo [0, 1] S_
  bcast_S_S1792 : S_.BroadcastsInDim S1792 (![] : Fin 0 → Fin S1792.rank)
  reducesTo_S1792_S_d0 : S1792.ReducesTo [0] S_
  bcast_S_S512 : S_.BroadcastsInDim S512 (![] : Fin 0 → Fin S512.rank)
  reducesTo_S512_S_d0 : S512.ReducesTo [0] S_
  bcast_S_S8x64 : S_.BroadcastsInDim S8x64 (![] : Fin 0 → Fin S8x64.rank)
  reducesTo_S8x64_S_d0_1 : S8x64.ReducesTo [0, 1] S_

variable [Facts]

def fn_part1 {F : FTy → Type} [FloatOps F] (main_arg9 : FVec F S512 .f32) (main_arg10 : FVec F S512 .f32) (main_arg11 : FVec F S8x64 .f32) (main_v13 : IVec S_ 1) (main_v16 : IVec S1792 1) : IVec S_ 1 :=
  let main_c_5 : IVec S_ 1 := constantI S_ 1 1#1
  let main_v17 : IVec S_ 1 := (fun x v => Host.reduce IntOp.andi x v reducesTo_S1792_S_d0 h_S_) main_v16 main_c_5
  let main_v18 : IVec S_ 1 := andi main_v13 main_v17
  let main_v19 : FVec F S512 .f32 := Host.absf main_arg9
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512 .f32 := Host.absf main_arg10
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S8x64 .f32 := Host.absf main_arg11
  let main_cst_10 : FVec F S_ .f32 := constant S_ .f32 0x7F800000#32
  let main_v30 : FVec F S8x64 .f32 := broadcastInDim S8x64 ![] bcast_S_S8x64 main_cst_10
  let main_v31 : IVec S8x64 1 := cmpf .olt main_v29 main_v30
  let main_c_11 : IVec S_ 1 := constantI S_ 1 1#1
  let main_v32 : IVec S_ 1 := (fun x v => Host.reduce IntOp.andi x v reducesTo_S8x64_S_d0_1 h_S_) main_v31 main_c_11
  let main_v33 : IVec S_ 1 := andi main_v28 main_v32
  main_v33

def fn {F : FTy → Type} [FloatOps F] (main_arg0 : FVec F S16384x1024 .f32) (main_arg1 : FVec F S4x1024 .f32) (main_arg2 : FVec F S1024x2560 .f32) (main_arg3 : FVec F S1792 .f32) (main_arg4 : FVec F S512 .f32) (main_arg5 : FVec F S64x512 .f32) (main_arg6 : FVec F S512 .f32) (main_arg7 : FVec F S64x512 .f32) (main_arg8 : FVec F S128x512 .f32) (main_arg9 : FVec F S512 .f32) (main_arg10 : FVec F S512 .f32) (main_arg11 : FVec F S8x64 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S4x1024 .f32 := Host.absf main_arg1
  let main_cst_0 : FVec F S_ .f32 := constant S_ .f32 0x7F800000#32
  let main_v5 : FVec F S4x1024 .f32 := broadcastInDim S4x1024 ![] bcast_S_S4x1024 main_cst_0
  let main_v6 : IVec S4x1024 1 := cmpf .olt main_v4 main_v5
  let main_c_1 : IVec S_ 1 := constantI S_ 1 1#1
  let main_v7 : IVec S_ 1 := (fun x v => Host.reduce IntOp.andi x v reducesTo_S4x1024_S_d0_1 h_S_) main_v6 main_c_1
  let main_v8 : IVec S_ 1 := andi main_v3 main_v7
  let main_v9 : FVec F S1024x2560 .f32 := Host.absf main_arg2
  let main_cst_2 : FVec F S_ .f32 := constant S_ .f32 0x7F800000#32
  let main_v10 : FVec F S1024x2560 .f32 := broadcastInDim S1024x2560 ![] bcast_S_S1024x2560 main_cst_2
  let main_v11 : IVec S1024x2560 1 := cmpf .olt main_v9 main_v10
  let main_c_3 : IVec S_ 1 := constantI S_ 1 1#1
  let main_v12 : IVec S_ 1 := (fun x v => Host.reduce IntOp.andi x v reducesTo_S1024x2560_S_d0_1 h_S_) main_v11 main_c_3
  let main_v13 : IVec S_ 1 := andi main_v8 main_v12
  let main_v14 : FVec F S1792 .f32 := Host.absf main_arg3
  let main_cst_4 : FVec F S_ .f32 := constant S_ .f32 0x7F800000#32
  let main_v15 : FVec F S1792 .f32 := broadcastInDim S1792 ![] bcast_S_S1792 main_cst_4
  let main_v16 : IVec S1792 1 := cmpf .olt main_v14 main_v15
  fn_part1 (F := F) main_arg9 main_arg10 main_arg11 main_v13 main_v16
-- ==== Pre_finite_scores.lean ====
abbrev S16384x512 : Shape := ⟨2, ![16384, 512]⟩
abbrev S16384x128 : Shape := ⟨2, ![16384, 128]⟩
abbrev S8 : Shape := ⟨1, ![8]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S16384x128 : S_.BroadcastsInDim S16384x128 (![] : Fin 0 → Fin S16384x128.rank)
  reducesTo_S16384x128_S_d0_1 : S16384x128.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S16384x512 .f32) (main_arg1 : FVec F S16384x128 .f32) (main_arg2 : FVec F S16384x128 .f32) (main_arg3 : FVec F S8 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x128 .f32 := Host.absf main_arg1
  let main_cst_0 : FVec F S_ .f32 := constant S_ .f32 0x7F800000#32
  let main_v5 : FVec F S16384x128 .f32 := broadcastInDim S16384x128 ![] bcast_S_S16384x128 main_cst_0
  let main_v6 : IVec S16384x128 1 := cmpf .olt main_v4 main_v5
  let main_c_1 : IVec S_ 1 := constantI S_ 1 1#1
  let main_v7 : IVec S_ 1 := (fun x v => Host.reduce IntOp.andi x v reducesTo_S16384x128_S_d0_1 h_S_) main_v6 main_c_1
  let main_v8 : IVec S_ 1 := andi main_v3 main_v7
  let main_cst_2 : FVec F S_ .f32 := constant S_ .f32 0x7F800000#32
  let main_v9 : FVec F S8 .f32 := broadcastInDim S8 ![] bcast_S_S8 main_cst_2
  let main_v10 : IVec S8 1 := cmpf .olt main_arg3 main_v9
  let main_c_3 : IVec S_ 1 := constantI S_ 1 1#1
  let main_v11 : IVec S_ 1 := (fun x v => Host.reduce IntOp.andi x v reducesTo_S8_S_d0 h_S_) main_v10 main_c_3
  let main_v12 : IVec S_ 1 := andi main_v8 main_v11
  main_v12
-- ==== Pre_routed.lean ====
abbrev S40960x1024 : Shape := ⟨2, ![40960, 1024]⟩
abbrev S80 : Shape := ⟨1, ![80]⟩
abbrev S1 : Shape := ⟨1, ![1]⟩
abbrev S4x16x1024x512 : Shape := ⟨4, ![4, 16, 1024, 512]⟩
abbrev S4x16x512x1024 : Shape := ⟨4, ![4, 16, 512, 1024]⟩
abbrev S_ : Shape := ⟨0, ![]⟩

class Facts : Prop where
  bcast_S_S80 : S_.BroadcastsInDim S80 (![] : Fin 0 → Fin S80.rank)
  reducesTo_S80_S_d0 : S80.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : FVec F S40960x1024 .f32) (main_arg1 : IVec S80 32) (main_arg2 : IVec S1 32) (main_arg3 : FVec F S4x16x1024x512 .f32) (main_arg4 : FVec F S4x16x1024x512 .f32) (main_arg5 : FVec F S4x16x512x1024 .f32) : IVec S_ 1 :=
  let main_c : IVec S_ 32 := constantI S_ 32 0#32
  let main_v0 : IVec S80 32 := broadcastInDim S80 ![] bcast_S_S80 main_c
  let main_v1 : IVec S80 1 := cmpi .sge main_arg1 main_v0
  let main_c_0 : IVec S_ 32 := constantI S_ 32 16#32
  let main_v2 : IVec S80 32 := broadcastInDim S80 ![] bcast_S_S80 main_c_0
  let main_v3 : IVec S80 1 := cmpi .slt main_arg1 main_v2
  let main_v4 : IVec S80 1 := andi main_v1 main_v3
  let main_c_1 : IVec S_ 1 := constantI S_ 1 1#1
  let main_v5 : IVec S_ 1 := (fun x v => Host.reduce IntOp.andi x v reducesTo_S80_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg2 main_v6
  let main_c_3 : IVec S_ 1 := constantI S_ 1 1#1
  let main_v8 : IVec S_ 1 := (fun x v => Host.reduce IntOp.andi x v reducesTo_S1_S_d0 h_S_) main_v7 main_c_3
  let main_v9 : IVec S_ 1 := andi main_v5 main_v8
  main_v9
-- ==== Kernel.lean ====
abbrev S16384x512 : Shape := ⟨2, ![16384, 512]⟩
abbrev S16384x128 : Shape := ⟨2, ![16384, 128]⟩
abbrev S8 : Shape := ⟨1, ![8]⟩
abbrev S8x1 : Shape := ⟨2, ![8, 1]⟩
abbrev S8x128 : Shape := ⟨2, ![8, 128]⟩
abbrev S512x512 : Shape := ⟨2, ![512, 512]⟩
abbrev S512x128 : Shape := ⟨2, ![512, 128]⟩
abbrev S128x128 : Shape := ⟨2, ![128, 128]⟩
abbrev S256x128 : Shape := ⟨2, ![256, 128]⟩
abbrev S128x256 : Shape := ⟨2, ![128, 256]⟩
abbrev S1x1 : Shape := ⟨2, ![1, 1]⟩
abbrev S128x512 : Shape := ⟨2, ![128, 512]⟩
abbrev S128x64 : Shape := ⟨2, ![128, 64]⟩
abbrev S256x64 : Shape := ⟨2, ![256, 64]⟩
abbrev S128 : Shape := ⟨1, ![128]⟩
abbrev S128x1 : Shape := ⟨2, ![128, 1]⟩

abbrev nBuf : Space → Nat
  | .hbm => 7
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S8, .f32⟩
  | .hbm, ⟨4, _⟩ => ⟨S8x1, .f32⟩
  | .hbm, ⟨5, _⟩ => ⟨S8x128, .f32⟩
  | .hbm, ⟨6, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x128, .f32⟩
  | .local _ .vmem, ⟨3, _⟩ => ⟨S512x128, .f32⟩
  | .local _ .vmem, ⟨4, _⟩ => ⟨S128x128, .f32⟩
  | .local _ .vmem, ⟨5, _⟩ => ⟨S128x128, .f32⟩
  | .local _ .vmem, ⟨6, _⟩ => ⟨S512x128, .f32⟩
  | .local _ .vmem, ⟨7, _⟩ => ⟨S512x128, .f32⟩
  | .local _ .vmem, ⟨8, _⟩ => ⟨S128x128, .f32⟩
  | .local _ .vmem, ⟨9, _⟩ => ⟨S128x128, .f32⟩
  | .local _ .vmem, ⟨10, _⟩ => ⟨S8x128, .f32⟩
  | .local _ .vmem, ⟨11, _⟩ => ⟨S512x512, .f32⟩
  | .local _ .vmem, ⟨12, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c4_i32 : BitVec 32 := 4#32
  let v1 : BitVec 32 := Scalar.muli c4_i32 arg1
  let c1_i32 : BitVec 32 := 1#32
  let v2 : BitVec 32 := Scalar.subi v1 c1_i32
  let c0_i32 : BitVec 32 := 0#32
  let v3 : BitVec 32 := Scalar.maxsi v2 c0_i32
  let v4 : BitVec 32 := Scalar.addi v0 v3
  let c0_i32_0 : BitVec 32 := 0#32
  let c0_i32_1 : BitVec 32 := 0#32
  ![v4.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S16384x512 : Shape := ⟨2, ![16384, 512]⟩
abbrev S16384x128 : Shape := ⟨2, ![16384, 128]⟩
abbrev S8 : Shape := ⟨1, ![8]⟩
abbrev S2x4 : Shape := ⟨2, ![2, 4]⟩
abbrev S4x32x128x2x4x64 : Shape := ⟨6, ![4, 32, 128, 2, 4, 64]⟩
abbrev S4x32x128x2x64 : Shape := ⟨5, ![4, 32, 128, 2, 64]⟩
abbrev S4x1x128x2x64 : Shape := ⟨5, ![4, 1, 128, 2, 64]⟩
abbrev S_ : Shape := ⟨0, ![]⟩
abbrev S4x31x128x2x64 : Shape := ⟨5, ![4, 31, 128, 2, 64]⟩
abbrev S4x32x256x2x64 : Shape := ⟨5, ![4, 32, 256, 2, 64]⟩
abbrev S4x32x2x256x128x4 : Shape := ⟨6, ![4, 32, 2, 256, 128, 4]⟩
abbrev S4x32x2x4x128x256 : Shape := ⟨6, ![4, 32, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x32x1x1x128x256 : Shape := ⟨6, ![1, 32, 1, 1, 128, 256]⟩
abbrev S2x4x1x1 : Shape := ⟨4, ![2, 4, 1, 1]⟩
abbrev S4x32x2x4x128 : Shape := ⟨5, ![4, 32, 2, 4, 128]⟩
abbrev S4x32x2x4x128x1 : Shape := ⟨6, ![4, 32, 2, 4, 128, 1]⟩
abbrev S1x1x2x4x1x1 : Shape := ⟨6, ![1, 1, 2, 4, 1, 1]⟩
abbrev S4x32x2x64x4x128 : Shape := ⟨6, ![4, 32, 2, 64, 4, 128]⟩

abbrev nBuf : Space → Nat
  | .hbm => 87
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x128, .f32⟩
  | .hbm, ⟨2, _⟩ => ⟨S16384x128, .f32⟩
  | .hbm, ⟨3, _⟩ => ⟨S8, .f32⟩
  | .hbm, ⟨4, _⟩ => ⟨S2x4, .f32⟩
  | .hbm, ⟨5, _⟩ => ⟨S4x32x128x2x4x64, .f32⟩
  | .hbm, ⟨6, _⟩ => ⟨S4x32x128x2x64, .f32⟩
  | .hbm, ⟨7, _⟩ => ⟨S4x32x128x2x64, .f32⟩
  | .hbm, ⟨8, _⟩ => ⟨S4x1x128x2x64, .f32⟩
  | .hbm, ⟨9, _⟩ => ⟨S_, .f32⟩
  | .hbm, ⟨10, _⟩ => ⟨S4x1x128x2x64, .f32⟩
  | .hbm, ⟨11, _⟩ => ⟨S4x31x128x2x64, .f32⟩
  | .hbm, ⟨12, _⟩ => ⟨S4x32x128x2x64, .f32⟩
  | .hbm, ⟨13, _⟩ => ⟨S4x32x256x2x64, .f32⟩
  | .hbm, ⟨14, _⟩ => ⟨S4x31x128x2x64, .f32⟩
  | .hbm, ⟨15, _⟩ => ⟨S4x32x128x2x64, .f32⟩
  | .hbm, ⟨16, _⟩ => ⟨S4x32x256x2x64, .f32⟩
  | .hbm, ⟨17, _⟩ => ⟨S4x32x2x256x128x4, .f32⟩
  | .hbm, ⟨18, _⟩ => ⟨S4x32x2x4x128x256, .f32⟩
  | .hbm, ⟨19, _⟩ => ⟨S_, .f32⟩
  | .hbm, ⟨20, _⟩ => ⟨S4x32x2x4x128x256, .f32⟩
  | .hbm, ⟨21, _⟩ => ⟨S4x32x2x4x128x256, .f32⟩
  | .hbm, ⟨22, _⟩ => ⟨S128, .i32⟩
  | .hbm, ⟨23, _⟩ => ⟨S128x1, .i32⟩
  | .hbm, ⟨24, _⟩ => ⟨S256, .i32⟩
  | .hbm, ⟨25, _⟩ => ⟨S1x256, .i32⟩
  | .hbm, ⟨26, _⟩ => ⟨S_, .i32⟩
  | .hbm, ⟨27, _⟩ => ⟨S128x1, .i32⟩
  | .hbm, ⟨28, _⟩ => ⟨S128x1, .i32⟩
  | .hbm, ⟨29, _⟩ => ⟨S128x256, .i32⟩
  | .hbm, ⟨30, _⟩ => ⟨S128x256, .i32⟩
  | .hbm, ⟨31, _⟩ => ⟨S128x256, .i32⟩
  | .hbm, ⟨32, _⟩ => ⟨S_, .i32⟩
  | .hbm, ⟨33, _⟩ => ⟨S128x256, .i32⟩
  | .hbm, ⟨34, _⟩ => ⟨S128x256, .i1⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S128x256, .i1⟩
  | .hbm, ⟨39, _⟩ => ⟨S32, .i32⟩
  | .hbm, ⟨40, _⟩ => ⟨S32x1x1, .i32⟩
  | .hbm, ⟨41, _⟩ => ⟨S_, .i32⟩
  | .hbm, ⟨42, _⟩ => ⟨S32x1x1, .i32⟩
  | .hbm, ⟨43, _⟩ => ⟨S32x1x1, .i32⟩
  | .hbm, ⟨44, _⟩ => ⟨S1x1x256, .i32⟩
  | .hbm, ⟨45, _⟩ => ⟨S32x1x256, .i32⟩
  | .hbm, ⟨46, _⟩ => ⟨S32x1x256, .i32⟩
  | .hbm, ⟨47, _⟩ => ⟨S32x1x256, .i32⟩
  | .hbm, ⟨48, _⟩ => ⟨S_, .i32⟩
  | .hbm, ⟨49, _⟩ => ⟨S32x1x256, .i32⟩
  | .hbm, ⟨50, _⟩ => ⟨S32x1x256, .i32⟩
  | .hbm, ⟨51, _⟩ => ⟨S_, .i32⟩
  | .hbm, ⟨52, _⟩ => ⟨S32x1x256, .i32⟩
  | .hbm, ⟨53, _⟩ => ⟨S32x1x256, .i1⟩
  | .hbm, ⟨54, _⟩ => ⟨S1x128x256, .i1⟩
  | .hbm, ⟨55, _⟩ => ⟨S32x128x256, .i1⟩
  | .hbm, ⟨56, _⟩ => ⟨S32x128x256, .i1⟩
  | .hbm, ⟨57, _⟩ => ⟨S32x128x256, .i1⟩
  | .hbm, ⟨58, _⟩ => ⟨S1x32x1x1x128x256, .i1⟩
  | .hbm, ⟨59, _⟩ => ⟨S2x4x1x1, .f32⟩
  | .hbm, ⟨60, _⟩ => ⟨S_, .f32⟩
  | .hbm, ⟨61, _⟩ => ⟨S_, .f32⟩
  | .hbm, ⟨62, _⟩ => ⟨S4x32x2x4x128x256, .i1⟩
  | .hbm, ⟨63, _⟩ => ⟨S4x32x2x4x128x256, .f32⟩
  | .hbm, ⟨64, _⟩ => ⟨S4x32x2x4x128x256, .f32⟩
  | .hbm, ⟨65, _⟩ => ⟨S_, .f32⟩
  | .hbm, ⟨66, _⟩ => ⟨S4x32x2x4x128, .f32⟩
  | .hbm, ⟨67, _⟩ => ⟨S4x32x2x4x128x1, .f32⟩
  | .hbm, ⟨68, _⟩ => ⟨S1x1x2x4x1x1, .f32⟩
  | .hbm, ⟨69, _⟩ => ⟨S4x32x2x4x128x1, .f32⟩
  | .hbm, ⟨70, _⟩ => ⟨S4x32x2x4x128x1, .f32⟩
  | .hbm, ⟨71, _⟩ => ⟨S4x32x2x4x128x256, .f32⟩
  | .hbm, ⟨72, _⟩ => ⟨S4x32x2x4x128x256, .f32⟩
  | .hbm, ⟨73, _⟩ => ⟨S4x32x2x4x128x256, .f32⟩
  | .hbm, ⟨74, _⟩ => ⟨S_, .f32⟩
  | .hbm, ⟨75, _⟩ => ⟨S4x32x2x4x128, .f32⟩
  | .hbm, ⟨76, _⟩ => ⟨S4x32x2x4x128x1, .f32⟩
  | .hbm, ⟨77, _⟩ => ⟨S1x1x2x4x1x1, .f32⟩
  | .hbm, ⟨78, _⟩ => ⟨S4x32x2x4x128x1, .f32⟩
  | .hbm, ⟨79, _⟩ => ⟨S4x32x2x4x128x1, .f32⟩
  | .hbm, ⟨80, _⟩ => ⟨S4x32x2x4x128x1, .f32⟩
  | .hbm, ⟨81, _⟩ => ⟨S4x32x2x4x128x1, .f32⟩
  | .hbm, ⟨82, _⟩ => ⟨S4x32x2x4x128x256, .f32⟩
  | .hbm, ⟨83, _⟩ => ⟨S4x32x2x4x128x256, .f32⟩
  | .hbm, ⟨84, _⟩ => ⟨S4x32x2x64x4x128, .f32⟩
  | .hbm, ⟨85, _⟩ => ⟨S4x32x128x2x4x64, .f32⟩
  | .hbm, ⟨86, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c_1 : Ref sig .tc := ⟨.hbm, 32, rfl⟩
abbrev main_v25 : Ref sig .tc := ⟨.hbm, 33, rfl⟩
abbrev main_v26 : Ref sig .tc := ⟨.hbm, 34, rfl⟩
abbrev main_c_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_c_4 : Ref sig .tc := ⟨.hbm, 48, rfl⟩
abbrev main_v38 : Ref sig .tc := ⟨.hbm, 49, rfl⟩
abbrev main_v39 : Ref sig .tc := ⟨.hbm, 50, rfl⟩
abbrev main_c_5 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_v48 : Ref sig .tc := ⟨.hbm, 64, rfl⟩
abbrev main_cst_7 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_8 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== Kernel2.lean ====
abbrev S40960x1024 : Shape := ⟨2, ![40960, 1024]⟩
abbrev S80 : Shape := ⟨1, ![80]⟩
abbrev S1 : Shape := ⟨1, ![1]⟩
abbrev S4x16x1024x512 : Shape := ⟨4, ![4, 16, 1024, 512]⟩
abbrev S4x16x512x1024 : Shape := ⟨4, ![4, 16, 512, 1024]⟩
abbrev S_ : Shape := ⟨0, ![]⟩
abbrev S80x1 : Shape := ⟨2, ![80, 1]⟩
abbrev S512x1024 : Shape := ⟨2, ![512, 1024]⟩
abbrev S1x1x1024x512 : Shape := ⟨4, ![1, 1, 1024, 512]⟩
abbrev S1x1x512x1024 : Shape := ⟨4, ![1, 1, 512, 1024]⟩
abbrev S1024x512 : Shape := ⟨2, ![1024, 512]⟩
abbrev S512x512 : Shape := ⟨2, ![512, 512]⟩

abbrev nBuf : Space → Nat
  | .hbm => 19
  | .vmem => 13
  | .smem => 3
  | _ => 0

abbrev bufTy : (tb : Table) → Fin (tcTables nBuf tb) → BufTy
  | .hbm, ⟨0, _⟩ => ⟨S40960x1024, .f32⟩
  | .hbm, ⟨1, _⟩ => ⟨S4x16x1024x512, .f32⟩
  | .hbm, ⟨2, _⟩ => ⟨S4x16x1024x512, .f32⟩
  | .hbm, ⟨3, _⟩ => ⟨S4x16x512x1024, .f32⟩
  | .hbm, ⟨4, _⟩ => ⟨S80, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S80, .i32⟩
  | .hbm, ⟨9, _⟩ => ⟨S80, .i32⟩
  | .hbm, ⟨10, _⟩ => ⟨S_, .i32⟩
  | .hbm, ⟨11, _⟩ => ⟨S80, .i32⟩
  | .hbm, ⟨12, _⟩ => ⟨S80, .i1⟩
  | .hbm, ⟨13, _⟩ => ⟨S_, .i32⟩
  | .hbm, ⟨14, _⟩ => ⟨S80, .i32⟩
  | .hbm, ⟨15, _⟩ => ⟨S80, .i32⟩
  | .hbm, ⟨16, _⟩ => ⟨S80, .i32⟩
  | .hbm, ⟨17, _⟩ => ⟨S80x1, .i32⟩
  | .hbm, ⟨18, _⟩ => ⟨S40960x1024, .f32⟩
  | .local _ .vmem, ⟨0, _⟩ => ⟨S512x1024, .f32⟩
  | .local _ .vmem, ⟨1, _⟩ => ⟨S512x1024, .f32⟩
  | .local _ .vmem, ⟨2, _⟩ => ⟨S1x1x1024x512, .f32⟩
  | .local _ .vmem, ⟨3, _⟩ => ⟨S1x1x1024x512, .f32⟩
  | .local _ .vmem, ⟨4, _⟩ => ⟨S1x1x1024x512, .f32⟩
  | .local _ .vmem, ⟨5, _⟩ => ⟨S1x1x1024x512, .f32⟩
  | .local _ .vmem, ⟨6, _⟩ => ⟨S1x1x512x1024, .f32⟩
  | .local _ .vmem, ⟨7, _⟩ => ⟨S1x1x512x1024, .f32⟩
  | .local _ .vmem, ⟨8, _⟩ => ⟨S512x1024, .f32⟩
  | .local _ .vmem, ⟨9, _⟩ => ⟨S512x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S80, .i32⟩
  | .local _ .smem, ⟨1, _⟩ => ⟨S1, .i32⟩
  | .local _ .smem, ⟨2, _⟩ => ⟨S80, .i32⟩
  | _, _ => ⟨S40960x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v12 : Ref sig .tc := ⟨.hbm, 18, rfl⟩
abbrev main_arg1 : Ref sig .tc := ⟨.smem, 0, rfl⟩
abbrev main_arg2 : Ref sig .tc := ⟨.smem, 1, rfl⟩
abbrev main_v11 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![80], ![false]⟩

abbrev pre0 : Pipeline.Prefetch sig := ⟨3, ![main_arg1.idx, main_arg2.idx, main_v11.idx], fun | 0 => main_arg1.names | 1 => main_arg2.names | 2 => main_v11.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 2 (Rect.unit (s := S80) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 2 (Rect.unit (s := S80) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S80.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 2 (Rect.unit (s := S80) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S40960x1024 : Shape := ⟨2, ![40960, 1024]⟩
abbrev S80 : Shape := ⟨1, ![80]⟩
abbrev S1 : Shape := ⟨1, ![1]⟩
abbrev S4x16x1024x512 : Shape := ⟨4, ![4, 16, 1024, 512]⟩
abbrev S4x16x512x1024 : Shape := ⟨4, ![4, 16, 512, 1024]⟩
abbrev S40960 : Shape := ⟨1, ![40960]⟩
abbrev S_ : Shape := ⟨0, ![]⟩
abbrev S80x512 : Shape := ⟨2, ![80, 512]⟩
abbrev S40960x1 : Shape := ⟨2, ![40960, 1]⟩
abbrev S1x16 : Shape := ⟨2, ![1, 16]⟩
abbrev S40960x16 : Shape := ⟨2, ![40960, 16]⟩
abbrev S1x16x1024x512 : Shape := ⟨4, ![1, 16, 1024, 512]⟩
abbrev S16x1024x512 : Shape := ⟨3, ![16, 1024, 512]⟩
abbrev S40960x16x512 : Shape := ⟨3, ![40960, 16, 512]⟩
abbrev S40960x16x1 : Shape := ⟨3, ![40960, 16, 1]⟩
abbrev S1x16x512x1024 : Shape := ⟨4, ![1, 16, 512, 1024]⟩
abbrev S16x512x1024 : Shape := ⟨3, ![16, 512, 1024]⟩

abbrev nBuf : Space → Nat
  | .hbm => 64
  | .vmem => 0
  | .smem => 0
  | _ => 0

abbrev bufTy : (tb : Table) → Fin (tcTables nBuf tb) → BufTy
  | .hbm, ⟨0, _⟩ => ⟨S40960x1024, .f32⟩
  | .hbm, ⟨1, _⟩ => ⟨S80, .i32⟩
  | .hbm, ⟨2, _⟩ => ⟨S1, .i32⟩
  | .hbm, ⟨3, _⟩ => ⟨S4x16x1024x512, .f32⟩
  | .hbm, ⟨4, _⟩ => ⟨S4x16x1024x512, .f32⟩
  | .hbm, ⟨5, _⟩ => ⟨S4x16x512x1024, .f32⟩
  | .hbm, ⟨6, _⟩ => ⟨S40960, .i32⟩
  | .hbm, ⟨7, _⟩ => ⟨S_, .i32⟩
  | .hbm, ⟨8, _⟩ => ⟨S_, .i32⟩
  | .hbm, ⟨9, _⟩ => ⟨S40960, .i32⟩
  | .hbm, ⟨10, _⟩ => ⟨S40960, .i32⟩
  | .hbm, ⟨11, _⟩ => ⟨S40960, .i32⟩
  | .hbm, ⟨12, _⟩ => ⟨S_, .i32⟩
  | .hbm, ⟨13, _⟩ => ⟨S40960, .i32⟩
  | .hbm, ⟨14, _⟩ => ⟨S40960, .i1⟩
  | .hbm, ⟨15, _⟩ => ⟨S40960, .i32⟩
  | .hbm, ⟨16, _⟩ => ⟨S40960, .i32⟩
  | .hbm, ⟨17, _⟩ => ⟨S_, .i32⟩
  | .hbm, ⟨18, _⟩ => ⟨S40960, .i32⟩
  | .hbm, ⟨19, _⟩ => ⟨S40960, .i1⟩
  | .hbm, ⟨20, _⟩ => ⟨S40960, .i1⟩
  | .hbm, ⟨21, _⟩ => ⟨S_, .i32⟩
  | .hbm, ⟨22, _⟩ => ⟨S40960, .i32⟩
  | .hbm, ⟨23, _⟩ => ⟨S40960, .i32⟩
  | .hbm, ⟨24, _⟩ => ⟨S40960, .i32⟩
  | .hbm, ⟨25, _⟩ => ⟨S80x512, .i32⟩
  | .hbm, ⟨26, _⟩ => ⟨S40960, .i32⟩
  | .hbm, ⟨27, _⟩ => ⟨S_, .i32⟩
  | .hbm, ⟨28, _⟩ => ⟨S40960, .i32⟩
  | .hbm, ⟨29, _⟩ => ⟨S40960, .i1⟩
  | .hbm, ⟨30, _⟩ => ⟨S40960x1, .i1⟩
  | .hbm, ⟨31, _⟩ => ⟨S40960x1, .i32⟩
  | .hbm, ⟨32, _⟩ => ⟨S1x16, .i32⟩
  | .hbm, ⟨33, _⟩ => ⟨S40960x16, .i32⟩
  | .hbm, ⟨34, _⟩ => ⟨S40960x16, .i32⟩
  | .hbm, ⟨35, _⟩ => ⟨S40960x16, .i1⟩
  | .hbm, ⟨36, _⟩ => ⟨S40960x16, .f32⟩
  | .hbm, ⟨37, _⟩ => ⟨S_, .f32⟩
  | .hbm, ⟨38, _⟩ => ⟨S_, .f32⟩
  | .hbm, ⟨39, _⟩ => ⟨S40960x16, .i1⟩
  | .hbm, ⟨40, _⟩ => ⟨S40960x16, .f32⟩
  | .hbm, ⟨41, _⟩ => ⟨S40960x16, .f32⟩
  | .hbm, ⟨42, _⟩ => ⟨S1x16x1024x512, .f32⟩
  | .hbm, ⟨43, _⟩ => ⟨S16x1024x512, .f32⟩
  | .hbm, ⟨44, _⟩ => ⟨S40960x16x512, .f32⟩
  | .hbm, ⟨45, _⟩ => ⟨S40960x16x512, .f32⟩
  | .hbm, ⟨46, _⟩ => ⟨S40960x16x512, .f32⟩
  | .hbm, ⟨47, _⟩ => ⟨S_, .f32⟩
  | .hbm, ⟨48, _⟩ => ⟨S40960x16x512, .f32⟩
  | .hbm, ⟨49, _⟩ => ⟨S40960x16x512, .f32⟩
  | .hbm, ⟨50, _⟩ => ⟨S_, .f32⟩
  | .hbm, ⟨51, _⟩ => ⟨S40960x16x512, .f32⟩
  | .hbm, ⟨52, _⟩ => ⟨S40960x16x512, .f32⟩
  | .hbm, ⟨53, _⟩ => ⟨S40960x16x512, .f32⟩
  | .hbm, ⟨54, _⟩ => ⟨S1x16x1024x512, .f32⟩
  | .hbm, ⟨55, _⟩ => ⟨S16x1024x512, .f32⟩
  | .hbm, ⟨56, _⟩ => ⟨S40960x16x512, .f32⟩
  | .hbm, ⟨57, _⟩ => ⟨S40960x16x512, .f32⟩
  | .hbm, ⟨58, _⟩ => ⟨S40960x16x1, .f32⟩
  | .hbm, ⟨59, _⟩ => ⟨S40960x16x512, .f32⟩
  | .hbm, ⟨60, _⟩ => ⟨S40960x16x512, .f32⟩
  | .hbm, ⟨61, _⟩ => ⟨S1x16x512x1024, .f32⟩
  | .hbm, ⟨62, _⟩ => ⟨S16x512x1024, .f32⟩
  | .hbm, ⟨63, _⟩ => ⟨S40960x1024, .f32⟩
  | _, _ => ⟨S40960x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v8 : Ref sig .tc := ⟨.hbm, 36, rfl⟩
abbrev main_cst : Ref sig .tc := ⟨.hbm, 37, rfl⟩
abbrev main_call2_v0 : Ref sig .tc := ⟨.hbm, 38, rfl⟩
abbrev main_call2_v1 : Ref sig .tc := ⟨.hbm, 39, rfl⟩
abbrev main_call2_v2 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_call3_v0 : Ref sig .tc := ⟨.hbm, 45, rfl⟩
abbrev main_call3_v1 : Ref sig .tc := ⟨.hbm, 46, rfl⟩
abbrev main_call3_cst : Ref sig .tc := ⟨.hbm, 47, rfl⟩
abbrev main_call3_v2 : Ref sig .tc := ⟨.hbm, 48, rfl⟩
abbrev main_call3_v3 : Ref sig .tc := ⟨.hbm, 49, rfl⟩
abbrev main_call3_cst_0 : Ref sig .tc := ⟨.hbm, 50, rfl⟩
abbrev main_call3_v4 : Ref sig .tc := ⟨.hbm, 51, rfl⟩
abbrev main_call3_v5 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩

abbrev nD : Nat := 1
abbrev τ : Topo := Topo.v7x

variable {F : FTy → Type} [FloatOps F]
-- ==== Kernel3.lean ====
abbrev S16384x1024 : Shape := ⟨2, ![16384, 1024]⟩
abbrev S4x1024 : Shape := ⟨2, ![4, 1024]⟩
abbrev S1024x2560 : Shape := ⟨2, ![1024, 2560]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S_ : Shape := ⟨0, ![]⟩
abbrev S1024x768 : Shape := ⟨2, ![1024, 768]⟩
abbrev S1024x1792 : Shape := ⟨2, ![1024, 1792]⟩
abbrev S1024x512 : Shape := ⟨2, ![1024, 512]⟩
abbrev S1024x128 : Shape := ⟨2, ![1024, 128]⟩
abbrev S1024x64 : Shape := ⟨2, ![1024, 64]⟩
abbrev S128 : Shape := ⟨1, ![128]⟩
abbrev S64 : Shape := ⟨1, ![64]⟩
abbrev S1x1792 : Shape := ⟨2, ![1, 1792]⟩
abbrev S64x1024 : Shape := ⟨2, ![64, 1024]⟩
abbrev S128x1024 : Shape := ⟨2, ![128, 1024]⟩
abbrev S1x512 : Shape := ⟨2, ![1, 512]⟩
abbrev S3x512 : Shape := ⟨2, ![3, 512]⟩
abbrev S8x512 : Shape := ⟨2, ![8, 512]⟩
abbrev S512x1 : Shape := ⟨2, ![512, 1]⟩
abbrev S512x512 : Shape := ⟨2, ![512, 512]⟩
abbrev S4x1x1024 : Shape := ⟨3, ![4, 1, 1024]⟩
abbrev S16384x512 : Shape := ⟨2, ![16384, 512]⟩
abbrev S16384x128 : Shape := ⟨2, ![16384, 128]⟩
abbrev S256x1024 : Shape := ⟨2, ![256, 1024]⟩
abbrev S1x1x1024 : Shape := ⟨3, ![1, 1, 1024]⟩
abbrev S256x512 : Shape := ⟨2, ![256, 512]⟩
abbrev S256x128 : Shape := ⟨2, ![256, 128]⟩
abbrev S8x1792 : Shape := ⟨2, ![8, 1792]⟩
abbrev S256x768 : Shape := ⟨2, ![256, 768]⟩
abbrev S1x1024 : Shape := ⟨2, ![1, 1024]⟩
abbrev S16x1024 : Shape := ⟨2, ![16, 1024]⟩
abbrev S272x1024 : Shape := ⟨2, ![272, 1024]⟩
abbrev S272x1792 : Shape := ⟨2, ![272, 1792]⟩
abbrev S256x1792 : Shape := ⟨2, ![256, 1792]⟩
abbrev S16x1792 : Shape := ⟨2, ![16, 1792]⟩

abbrev nBuf : Space → Nat
  | .hbm => 84
  | .vmem => 34
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S1024x2560, .f32⟩
  | .hbm, ⟨3, _⟩ => ⟨S1792, .f32⟩
  | .hbm, ⟨4, _⟩ => ⟨S512, .f32⟩
  | .hbm, ⟨5, _⟩ => ⟨S64x512, .f32⟩
  | .hbm, ⟨6, _⟩ => ⟨S512, .f32⟩
  | .hbm, ⟨7, _⟩ => ⟨S64x512, .f32⟩
  | .hbm, ⟨8, _⟩ => ⟨S128x512, .f32⟩
  | .hbm, ⟨9, _⟩ => ⟨S512, .f32⟩
  | .hbm, ⟨10, _⟩ => ⟨S512, .f32⟩
  | .hbm, ⟨11, _⟩ => ⟨S8x64, .f32⟩
  | .hbm, ⟨12, _⟩ => ⟨S_, .f32⟩
  | .hbm, ⟨13, _⟩ => ⟨S64x512, .f32⟩
  | .hbm, ⟨14, _⟩ => ⟨S512, .i32⟩
  | .hbm, ⟨15, _⟩ => ⟨S_, .i32⟩
  | .hbm, ⟨16, _⟩ => ⟨S_, .i32⟩
  | .hbm, ⟨17, _⟩ => ⟨S512, .i32⟩
  | .hbm, ⟨18, _⟩ => ⟨S512, .i32⟩
  | .hbm, ⟨19, _⟩ => ⟨S512, .i32⟩
  | .hbm, ⟨20, _⟩ => ⟨S_, .i32⟩
  | .hbm, ⟨21, _⟩ => ⟨S512, .i32⟩
  | .hbm, ⟨22, _⟩ => ⟨S512, .i1⟩
  | .hbm, ⟨23, _⟩ => ⟨S512, .i32⟩
  | .hbm, ⟨24, _⟩ => ⟨S512, .i32⟩
  | .hbm, ⟨25, _⟩ => ⟨S_, .i32⟩
  | .hbm, ⟨26, _⟩ => ⟨S512, .i32⟩
  | .hbm, ⟨27, _⟩ => ⟨S512, .i1⟩
  | .hbm, ⟨28, _⟩ => ⟨S512, .i1⟩
  | .hbm, ⟨29, _⟩ => ⟨S_, .i32⟩
  | .hbm, ⟨30, _⟩ => ⟨S512, .i32⟩
  | .hbm, ⟨31, _⟩ => ⟨S512, .i32⟩
  | .hbm, ⟨32, _⟩ => ⟨S512, .i32⟩
  | .hbm, ⟨33, _⟩ => ⟨S1024x768, .f32⟩
  | .hbm, ⟨34, _⟩ => ⟨S1024x768, .bf16⟩
  | .hbm, ⟨35, _⟩ => ⟨S1024x1792, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S1024x128, .f32⟩
  | .hbm, ⟨40, _⟩ => ⟨S1024x64, .f32⟩
  | .hbm, ⟨41, _⟩ => ⟨S1024x64, .f32⟩
  | .hbm, ⟨42, _⟩ => ⟨S1024x1792, .f32⟩
  | .hbm, ⟨43, _⟩ => ⟨S1024x1792, .bf16⟩
  | .hbm, ⟨44, _⟩ => ⟨S512, .f32⟩
  | .hbm, ⟨45, _⟩ => ⟨S512, .f32⟩
  | .hbm, ⟨46, _⟩ => ⟨S512, .f32⟩
  | .hbm, ⟨47, _⟩ => ⟨S128, .f32⟩
  | .hbm, ⟨48, _⟩ => ⟨S64, .f32⟩
  | .hbm, ⟨49, _⟩ => ⟨S64, .f32⟩
  | .hbm, ⟨50, _⟩ => ⟨S1792, .f32⟩
  | .hbm, ⟨51, _⟩ => ⟨S1x1792, .f32⟩
  | .hbm, ⟨52, _⟩ => ⟨S64x1024, .f32⟩
  | .hbm, ⟨53, _⟩ => ⟨S64x1024, .f32⟩
  | .hbm, ⟨54, _⟩ => ⟨S128x1024, .f32⟩
  | .hbm, ⟨55, _⟩ => ⟨S128x1024, .bf16⟩
  | .hbm, ⟨56, _⟩ => ⟨S128x512, .bf16⟩
  | .hbm, ⟨57, _⟩ => ⟨S512, .f32⟩
  | .hbm, ⟨58, _⟩ => ⟨S1x512, .f32⟩
  | .hbm, ⟨59, _⟩ => ⟨S1x512, .f32⟩
  | .hbm, ⟨60, _⟩ => ⟨S1x512, .f32⟩
  | .hbm, ⟨61, _⟩ => ⟨S1x512, .f32⟩
  | .hbm, ⟨62, _⟩ => ⟨S1x512, .f32⟩
  | .hbm, ⟨63, _⟩ => ⟨S_, .f32⟩
  | .hbm, ⟨64, _⟩ => ⟨S3x512, .f32⟩
  | .hbm, ⟨65, _⟩ => ⟨S8x512, .f32⟩
  | .hbm, ⟨66, _⟩ => ⟨S512x1, .i32⟩
  | .hbm, ⟨67, _⟩ => ⟨S1x512, .i32⟩
  | .hbm, ⟨68, _⟩ => ⟨S512x512, .i32⟩
  | .hbm, ⟨69, _⟩ => ⟨S512x512, .i32⟩
  | .hbm, ⟨70, _⟩ => ⟨S512x512, .i1⟩
  | .hbm, ⟨71, _⟩ => ⟨S512x512, .bf16⟩
  | .hbm, ⟨72, _⟩ => ⟨S4x1x1024, .f32⟩
  | .hbm, ⟨73, _⟩ => ⟨S16384x512, .f32⟩
  | .hbm, ⟨74, _⟩ => ⟨S16384x128, .f32⟩
  | .hbm, ⟨75, _⟩ => ⟨S16384x128, .f32⟩
  | .hbm, ⟨76, _⟩ => ⟨S16384x512, .f32⟩
  | .hbm, ⟨77, _⟩ => ⟨S16384x512, .f32⟩
  | .hbm, ⟨78, _⟩ => ⟨S16384x512, .f32⟩
  | .hbm, ⟨79, _⟩ => ⟨S16384x512, .f32⟩
  | .hbm, ⟨80, _⟩ => ⟨S16384x512, .f32⟩
  | .hbm, ⟨81, _⟩ => ⟨S16384x512, .f32⟩
  | .hbm, ⟨82, _⟩ => ⟨S16384x512, .f32⟩
  | .hbm, ⟨83, _⟩ => ⟨S16384x512, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1024x768, .bf16⟩
  | .local _ .vmem, ⟨5, _⟩ => ⟨S1024x1792, .bf16⟩
  | .local _ .vmem, ⟨6, _⟩ => ⟨S1x1792, .f32⟩
  | .local _ .vmem, ⟨7, _⟩ => ⟨S128x1024, .bf16⟩
  | .local _ .vmem, ⟨8, _⟩ => ⟨S128x512, .bf16⟩
  | .local _ .vmem, ⟨9, _⟩ => ⟨S8x512, .f32⟩
  | .local _ .vmem, ⟨10, _⟩ => ⟨S512x512, .bf16⟩
  | .local _ .vmem, ⟨11, _⟩ => ⟨S256x512, .f32⟩
  | .local _ .vmem, ⟨12, _⟩ => ⟨S256x512, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | .local _ .vmem, ⟨30, _⟩ => ⟨S256x512, .f32⟩
  | .local _ .vmem, ⟨31, _⟩ => ⟨S256x512, .f32⟩
  | .local _ .vmem, ⟨32, _⟩ => ⟨S256x512, .f32⟩
  | .local _ .vmem, ⟨33, _⟩ => ⟨S8x1792, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_0 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42_0 : Ref sig .tc := ⟨.hbm, 73, rfl⟩
abbrev main_v42_1 : Ref sig .tc := ⟨.hbm, 74, rfl⟩
abbrev main_v42_2 : Ref sig .tc := ⟨.hbm, 75, rfl⟩
abbrev main_v42_3 : Ref sig .tc := ⟨.hbm, 76, rfl⟩
abbrev main_v42_4 : Ref sig .tc := ⟨.hbm, 77, rfl⟩
abbrev main_v42_5 : Ref sig .tc := ⟨.hbm, 78, rfl⟩
abbrev main_v42_6 : Ref sig .tc := ⟨.hbm, 79, rfl⟩
abbrev main_v42_7 : Ref sig .tc := ⟨.hbm, 80, rfl⟩
abbrev main_v42_8 : Ref sig .tc := ⟨.hbm, 81, rfl⟩
abbrev main_v42_9 : Ref sig .tc := ⟨.hbm, 82, rfl⟩
abbrev main_v42_10 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28
abbrev cc0_sem18_0 : DmaSem sig := 29
abbrev cc0_sem18_1 : DmaSem sig := 30
abbrev cc0_sem19_0 : DmaSem sig := 31
abbrev cc0_sem19_1 : DmaSem sig := 32

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1792 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1792 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S16384x1024 : Shape := ⟨2, ![16384, 1024]⟩
abbrev S4x1024 : Shape := ⟨2, ![4, 1024]⟩
abbrev S1024x2560 : Shape := ⟨2, ![1024, 2560]⟩
abbrev S1792 : Shape := ⟨1, ![1792]⟩
abbrev S512 : Shape := ⟨1, ![512]⟩
abbrev S64x512 : Shape := ⟨2, ![64, 512]⟩
abbrev S128x512 : Shape := ⟨2, ![128, 512]⟩
abbrev S8x64 : Shape := ⟨2, ![8, 64]⟩
abbrev S4x1x1024 : Shape := ⟨3, ![4, 1, 1024]⟩
abbrev S4x4096x1024 : Shape := ⟨3, ![4, 4096, 1024]⟩
abbrev S4x4097x1024 : Shape := ⟨3, ![4, 4097, 1024]⟩
abbrev S4x4097x2560 : Shape := ⟨3, ![4, 4097, 2560]⟩
abbrev S4x4096x768 : Shape := ⟨3, ![4, 4096, 768]⟩
abbrev S4x4096x512 : Shape := ⟨3, ![4, 4096, 512]⟩
abbrev S4x4096x128 : Shape := ⟨3, ![4, 4096, 128]⟩
abbrev S4x4096x1792 : Shape := ⟨3, ![4, 4096, 1792]⟩
abbrev S1x1x1792 : Shape := ⟨3, ![1, 1, 1792]⟩
abbrev S4x4096x64 : Shape := ⟨3, ![4, 4096, 64]⟩
abbrev S1x1x512 : Shape := ⟨3, ![1, 1, 512]⟩
abbrev S_ : Shape := ⟨0, ![]⟩
abbrev S4x4096x8x64 : Shape := ⟨4, ![4, 4096, 8, 64]⟩
abbrev S4x4096x8 : Shape := ⟨3, ![4, 4096, 8]⟩
abbrev S4x4096x8x1 : Shape := ⟨4, ![4, 4096, 8, 1]⟩
abbrev S1x1x8x64 : Shape := ⟨4, ![1, 1, 8, 64]⟩
abbrev S16384x512 : Shape := ⟨2, ![16384, 512]⟩
abbrev S16384x128 : Shape := ⟨2, ![16384, 128]⟩

abbrev nBuf : Space → Nat
  | .hbm => 120
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x1024, .f32⟩
  | .hbm, ⟨2, _⟩ => ⟨S1024x2560, .f32⟩
  | .hbm, ⟨3, _⟩ => ⟨S1792, .f32⟩
  | .hbm, ⟨4, _⟩ => ⟨S512, .f32⟩
  | .hbm, ⟨5, _⟩ => ⟨S64x512, .f32⟩
  | .hbm, ⟨6, _⟩ => ⟨S512, .f32⟩
  | .hbm, ⟨7, _⟩ => ⟨S64x512, .f32⟩
  | .hbm, ⟨8, _⟩ => ⟨S128x512, .f32⟩
  | .hbm, ⟨9, _⟩ => ⟨S512, .f32⟩
  | .hbm, ⟨10, _⟩ => ⟨S512, .f32⟩
  | .hbm, ⟨11, _⟩ => ⟨S8x64, .f32⟩
  | .hbm, ⟨12, _⟩ => ⟨S4x1x1024, .f32⟩
  | .hbm, ⟨13, _⟩ => ⟨S4x4096x1024, .f32⟩
  | .hbm, ⟨14, _⟩ => ⟨S4x4097x1024, .f32⟩
  | .hbm, ⟨15, _⟩ => ⟨S4x4097x2560, .f32⟩
  | .hbm, ⟨16, _⟩ => ⟨S4x4096x768, .f32⟩
  | .hbm, ⟨17, _⟩ => ⟨S4x4096x512, .f32⟩
  | .hbm, ⟨18, _⟩ => ⟨S4x4096x128, .f32⟩
  | .hbm, ⟨19, _⟩ => ⟨S4x4096x128, .f32⟩
  | .hbm, ⟨20, _⟩ => ⟨S4x4096x1792, .f32⟩
  | .hbm, ⟨21, _⟩ => ⟨S4x4096x1792, .f32⟩
  | .hbm, ⟨22, _⟩ => ⟨S4x4096x1792, .f32⟩
  | .hbm, ⟨23, _⟩ => ⟨S1x1x1792, .f32⟩
  | .hbm, ⟨24, _⟩ => ⟨S4x4096x1792, .f32⟩
  | .hbm, ⟨25, _⟩ => ⟨S4x4096x1792, .f32⟩
  | .hbm, ⟨26, _⟩ => ⟨S4x4096x1792, .f32⟩
  | .hbm, ⟨27, _⟩ => ⟨S4x4096x512, .f32⟩
  | .hbm, ⟨28, _⟩ => ⟨S4x4096x64, .f32⟩
  | .hbm, ⟨29, _⟩ => ⟨S4x4096x512, .f32⟩
  | .hbm, ⟨30, _⟩ => ⟨S4x4096x512, .f32⟩
  | .hbm, ⟨31, _⟩ => ⟨S4x4096x64, .f32⟩
  | .hbm, ⟨32, _⟩ => ⟨S4x4096x128, .f32⟩
  | .hbm, ⟨33, _⟩ => ⟨S4x4096x64, .f32⟩
  | .hbm, ⟨34, _⟩ => ⟨S4x4096x512, .f32⟩
  | .hbm, ⟨35, _⟩ => ⟨S1x1x512, .f32⟩
  | .hbm, ⟨36, _⟩ => ⟨S4x4096x512, .f32⟩
  | .hbm, ⟨37, _⟩ => ⟨S4x4096x512, .f32⟩
  | .hbm, ⟨38, _⟩ => ⟨S4x4096x512, .f32⟩
  | .hbm, ⟨39, _⟩ => ⟨S4x4096x512, .f32⟩
  | .hbm, ⟨40, _⟩ => ⟨S_, .f32⟩
  | .hbm, ⟨41, _⟩ => ⟨S4x4096x512, .f32⟩
  | .hbm, ⟨42, _⟩ => ⟨S4x4096x512, .f32⟩
  | .hbm, ⟨43, _⟩ => ⟨S_, .f32⟩
  | .hbm, ⟨44, _⟩ => ⟨S4x4096x512, .f32⟩
  | .hbm, ⟨45, _⟩ => ⟨S4x4096x512, .f32⟩
  | .hbm, ⟨46, _⟩ => ⟨S_, .f32⟩
  | .hbm, ⟨47, _⟩ => ⟨S4x4096x512, .f32⟩
  | .hbm, ⟨48, _⟩ => ⟨S4x4096x512, .f32⟩
  | .hbm, ⟨49, _⟩ => ⟨S4x4096x512, .f32⟩
  | .hbm, ⟨50, _⟩ => ⟨S1x1x512, .f32⟩
  | .hbm, ⟨51, _⟩ => ⟨S4x4096x512, .f32⟩
  | .hbm, ⟨52, _⟩ => ⟨S4x4096x512, .f32⟩
  | .hbm, ⟨53, _⟩ => ⟨S4x4096x512, .f32⟩
  | .hbm, ⟨54, _⟩ => ⟨S4x4096x512, .f32⟩
  | .hbm, ⟨55, _⟩ => ⟨S_, .f32⟩
  | .hbm, ⟨56, _⟩ => ⟨S4x4096x512, .f32⟩
  | .hbm, ⟨57, _⟩ => ⟨S4x4096x512, .f32⟩
  | .hbm, ⟨58, _⟩ => ⟨S_, .f32⟩
  | .hbm, ⟨59, _⟩ => ⟨S4x4096x512, .f32⟩
  | .hbm, ⟨60, _⟩ => ⟨S4x4096x512, .f32⟩
  | .hbm, ⟨61, _⟩ => ⟨S4x4096x128, .f32⟩
  | .hbm, ⟨62, _⟩ => ⟨S4x4096x128, .f32⟩
  | .hbm, ⟨63, _⟩ => ⟨S_, .f32⟩
  | .hbm, ⟨64, _⟩ => ⟨S4x4096x128, .f32⟩
  | .hbm, ⟨65, _⟩ => ⟨S4x4096x128, .f32⟩
  | .hbm, ⟨66, _⟩ => ⟨S_, .f32⟩
  | .hbm, ⟨67, _⟩ => ⟨S4x4096x128, .f32⟩
  | .hbm, ⟨68, _⟩ => ⟨S4x4096x128, .f32⟩
  | .hbm, ⟨69, _⟩ => ⟨S4x4096x512, .f32⟩
  | .hbm, ⟨70, _⟩ => ⟨S1x1x512, .f32⟩
  | .hbm, ⟨71, _⟩ => ⟨S4x4096x512, .f32⟩
  | .hbm, ⟨72, _⟩ => ⟨S4x4096x512, .f32⟩
  | .hbm, ⟨73, _⟩ => ⟨S4x4096x8x64, .f32⟩
  | .hbm, ⟨74, _⟩ => ⟨S4x4096x8x64, .f32⟩
  | .hbm, ⟨75, _⟩ => ⟨S_, .f32⟩
  | .hbm, ⟨76, _⟩ => ⟨S4x4096x8, .f32⟩
  | .hbm, ⟨77, _⟩ => ⟨S4x4096x8x1, .f32⟩
  | .hbm, ⟨78, _⟩ => ⟨S4x4096x8x1, .f32⟩
  | .hbm, ⟨79, _⟩ => ⟨S_, .f32⟩
  | .hbm, ⟨80, _⟩ => ⟨S4x4096x8x1, .f32⟩
  | .hbm, ⟨81, _⟩ => ⟨S4x4096x8x1, .f32⟩
  | .hbm, ⟨82, _⟩ => ⟨S4x4096x8x64, .f32⟩
  | .hbm, ⟨83, _⟩ => ⟨S4x4096x8x64, .f32⟩
  | .hbm, ⟨84, _⟩ => ⟨S_, .f32⟩
  | .hbm, ⟨85, _⟩ => ⟨S4x4096x512, .f32⟩
  | .hbm, ⟨86, _⟩ => ⟨S4x4096x512, .f32⟩
  | .hbm, ⟨87, _⟩ => ⟨S1x1x512, .f32⟩
  | .hbm, ⟨88, _⟩ => ⟨S4x4096x512, .f32⟩
  | .hbm, ⟨89, _⟩ => ⟨S4x4096x512, .f32⟩
  | .hbm, ⟨90, _⟩ => ⟨S_, .f32⟩
  | .hbm, ⟨91, _⟩ => ⟨S4x4096x512, .f32⟩
  | .hbm, ⟨92, _⟩ => ⟨S4x4096x512, .f32⟩
  | .hbm, ⟨93, _⟩ => ⟨S4x4096x512, .f32⟩
  | .hbm, ⟨94, _⟩ => ⟨S4x4096x8x64, .f32⟩
  | .hbm, ⟨95, _⟩ => ⟨S4x4096x8x64, .f32⟩
  | .hbm, ⟨96, _⟩ => ⟨S4x4096x8x64, .f32⟩
  | .hbm, ⟨97, _⟩ => ⟨S1x1x8x64, .f32⟩
  | .hbm, ⟨98, _⟩ => ⟨S4x4096x8x64, .f32⟩
  | .hbm, ⟨99, _⟩ => ⟨S4x4096x8x64, .f32⟩
  | .hbm, ⟨100, _⟩ => ⟨S_, .f32⟩
  | .hbm, ⟨101, _⟩ => ⟨S4x4096x8, .f32⟩
  | .hbm, ⟨102, _⟩ => ⟨S4x4096x8x1, .f32⟩
  | .hbm, ⟨103, _⟩ => ⟨S4x4096x8x64, .f32⟩
  | .hbm, ⟨104, _⟩ => ⟨S4x4096x8x64, .f32⟩
  | .hbm, ⟨105, _⟩ => ⟨S4x4096x8x64, .f32⟩
  | .hbm, ⟨106, _⟩ => ⟨S4x4096x8x64, .f32⟩
  | .hbm, ⟨107, _⟩ => ⟨S4x4096x8x64, .f32⟩
  | .hbm, ⟨108, _⟩ => ⟨S4x4096x8x64, .f32⟩
  | .hbm, ⟨109, _⟩ => ⟨S16384x512, .f32⟩
  | .hbm, ⟨110, _⟩ => ⟨S16384x128, .f32⟩
  | .hbm, ⟨111, _⟩ => ⟨S16384x128, .f32⟩
  | .hbm, ⟨112, _⟩ => ⟨S16384x512, .f32⟩
  | .hbm, ⟨113, _⟩ => ⟨S16384x512, .f32⟩
  | .hbm, ⟨114, _⟩ => ⟨S16384x512, .f32⟩
  | .hbm, ⟨115, _⟩ => ⟨S16384x512, .f32⟩
  | .hbm, ⟨116, _⟩ => ⟨S16384x512, .f32⟩
  | .hbm, ⟨117, _⟩ => ⟨S16384x512, .f32⟩
  | .hbm, ⟨118, _⟩ => ⟨S16384x512, .f32⟩
  | .hbm, ⟨119, _⟩ => ⟨S16384x512, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_cst_0 : Ref sig .tc := ⟨.hbm, 43, rfl⟩
abbrev main_v30 : Ref sig .tc := ⟨.hbm, 44, rfl⟩
abbrev main_v31 : Ref sig .tc := ⟨.hbm, 45, rfl⟩
abbrev main_cst_1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_2 : Ref sig .tc := ⟨.hbm, 55, rfl⟩
abbrev main_v40 : Ref sig .tc := ⟨.hbm, 56, rfl⟩
abbrev main_v41 : Ref sig .tc := ⟨.hbm, 57, rfl⟩
abbrev main_cst_3 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_4 : Ref sig .tc := ⟨.hbm, 63, rfl⟩
abbrev main_v46 : Ref sig .tc := ⟨.hbm, 64, rfl⟩
abbrev main_v47 : Ref sig .tc := ⟨.hbm, 65, rfl⟩
abbrev main_cst_5 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_6 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_7 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_8 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_cst_9 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_10 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩

abbrev nD : Nat := 1
abbrev τ : Topo := Topo.v7x

variable {F : FTy → Type} [FloatOps F]
-- ==== Proof.AttMath.lean ====
module

public import Idealize.ShloMosaic.Lib.Pointwise
public import Idealize.ShloMosaic.PureOps.Ideal

/-! # One row of attention with a sink, as extended reals

The kernel divides the weighted sum once by the denominator; the reference divides every weight.
The two agree where the row's maximum is finite: the denominator is then a positive real. -/

@[expose] public section

noncomputable section

open Idealize.ShloMosaic

namespace AttMath

variable {n : Nat}

/-- The row's maximum: of the scores and the sink. -/
def top (s : Fin n → EReal) (sink : EReal) : EReal := max (Finset.univ.fold max ⊥ s) sink

/-- The row's denominator: the sum of the exponentials and the sink's. -/
def den (s : Fin n → EReal) (sink : EReal) : EReal :=
  (∑ k, Ideal.exp (s k - top s sink)) + Ideal.exp (sink - top s sink)

/-- The kernel's row: one division, after the weighted sum. -/
def once (s v : Fin n → EReal) (sink : EReal) : EReal :=
  Ideal.div (∑ k, Ideal.exp (s k - top s sink) * v k) (den s sink)

/-- The reference's row: each weight divided, then the sum. -/
def each (s v : Fin n → EReal) (sink : EReal) : EReal :=
  ∑ k, Ideal.div (Ideal.exp (s k - top s sink)) (den s sink) * v k

/-- An exponential of a number that is not `⊤` is a real, and is not negative. -/
theorem exp_real (x : EReal) (h : x ≠ ⊤) : ∃ r : ℝ, 0 ≤ r ∧ Ideal.exp x = (r : EReal) := by
  induction x with
  | bot => exact ⟨0, le_refl _, rfl⟩
  | top => exact absurd rfl h
  | coe r => exact ⟨Real.exp r, (Real.exp_pos r).le, rfl⟩

/-- The exponential of a real is positive. -/
theorem exp_pos_real (x : ℝ) : 0 < Ideal.exp (x : EReal) := by
  change (0 : EReal) < ((Real.exp x : ℝ) : EReal)
  exact_mod_cast Real.exp_pos x

/-- A score is at most the row's maximum. -/
theorem le_top (s : Fin n → EReal) (sink : EReal) (k : Fin n) : s k ≤ top s sink := by
  refine le_trans ?_ (le_max_left _ _)
  rw [Finset.le_fold_max]
  exact Or.inr ⟨k, Finset.mem_univ k, le_refl _⟩

/-- The row's maximum is not `⊤` when neither a score nor the sink is. -/
theorem top_ne_top (s : Fin n → EReal) (sink : EReal) (hs : ∀ k, s k ≠ ⊤) (hk : sink ≠ ⊤) :
    top s sink ≠ ⊤ := by
  have h : top s sink < ⊤ := by
    refine max_lt ?_ (lt_top_iff_ne_top.mpr hk)
    rw [Finset.fold_max_lt]
    exact ⟨bot_lt_top, fun k _ => lt_top_iff_ne_top.mpr (hs k)⟩
  exact h.ne

/-- A sum of nonnegative reals is one. -/
theorem sum_real (f : Fin n → EReal) (h : ∀ k, ∃ r : ℝ, 0 ≤ r ∧ f k = (r : EReal)) :
    ∃ r : ℝ, 0 ≤ r ∧ ∑ k, f k = (r : EReal) := by
  choose g hg hf using h
  refine ⟨∑ k, g k, Finset.sum_nonneg fun k _ => hg k, ?_⟩
  rw [Finset.sum_congr rfl fun k _ => hf k]
  have H : ∀ t : Finset (Fin n), ∑ k ∈ t, (g k : EReal) = ((∑ k ∈ t, g k : ℝ) : EReal) := by
    intro t
    induction t using Finset.cons_induction with
    | empty => simp
    | cons a t ha ih => rw [Finset.sum_cons, Finset.sum_cons, ih, EReal.coe_add]
  exact H _

/-- A sum times a nonnegative real is the sum of the products. -/
theorem sum_mul_real (f : Fin n → EReal) (c : EReal) (h0 : 0 ≤ c) (ht : c ≠ ⊤) :
    (∑ k, f k) * c = ∑ k, f k * c := by
  have H : ∀ t : Finset (Fin n), (∑ k ∈ t, f k) * c = ∑ k ∈ t, f k * c := by
    intro t
    induction t using Finset.cons_induction with
    | empty => simp
    | cons a t ha ih =>
      rw [Finset.sum_cons, Finset.sum_cons, EReal.right_distrib_of_nonneg_of_ne_top h0 ht, ih]
  exact H _

/-- The denominator is a positive real where the maximum is one and some score is a real. -/
theorem den_real (s : Fin n → EReal) (sink : EReal) (hs : ∀ k, s k ≠ ⊤) (hk : sink ≠ ⊤)
    (k0 : Fin n) (h0 : s k0 ≠ ⊥) : ∃ r : ℝ, 0 < r ∧ den s sink = (r : EReal) := by
  have hm := top_ne_top s sink hs hk
  have hb : top s sink ≠ ⊥ := fun hb => h0 (le_bot_iff.mp (hb ▸ le_top s sink k0))
  unfold den
  generalize top s sink = m at hm hb
  lift m to ℝ using ⟨hm, hb⟩
  have hsub : ∀ x : EReal, x ≠ ⊤ → x - (m : EReal) ≠ ⊤ := by
    intro x hx
    induction x with
    | bot => simp
    | top => exact absurd rfl hx
    | coe r => exact_mod_cast EReal.coe_ne_top (r - m)
  obtain ⟨a, ha, hsum⟩ := sum_real (fun k => Ideal.exp (s k - (m : EReal))) fun k => exp_real _ (hsub _ (hs k))
  obtain ⟨b, hb', hsk⟩ := exp_real _ (hsub _ hk)
  have hpos : (0 : EReal) < ∑ k, Ideal.exp (s k - (m : EReal)) := by
    have hle : Ideal.exp (s k0 - (m : EReal)) ≤ ∑ k, Ideal.exp (s k - (m : EReal)) := by
      refine Finset.single_le_sum (f := fun k => Ideal.exp (s k - (m : EReal))) (fun k _ => ?_) (Finset.mem_univ k0)
      obtain ⟨r, hr, he⟩ := exp_real _ (hsub _ (hs k))
      change (0 : EReal) ≤ Ideal.exp (s k - (m : EReal))
      rw [he]; exact_mod_cast hr
    refine lt_of_lt_of_le ?_ hle
    obtain ⟨r, hr⟩ : ∃ r : ℝ, s k0 = (r : EReal) := by
      have h1 := hs k0
      generalize s k0 = z at h0 h1
      lift z to ℝ using ⟨h1, h0⟩
      exact ⟨z, rfl⟩
    rw [hr]
    exact exp_pos_real (r - m)
  rw [hsum] at hpos
  refine ⟨a + b, add_pos_of_pos_of_nonneg (by exact_mod_cast hpos) hb', ?_⟩
  rw [hsum, hsk]; rfl

/-- Dividing once is dividing each weight. -/
theorem once_eq_each (s v : Fin n → EReal) (sink : EReal) (hs : ∀ k, s k ≠ ⊤) (hk : sink ≠ ⊤)
    (k0 : Fin n) (h0 : s k0 ≠ ⊥) : once s v sink = each s v sink := by
  obtain ⟨r, hr, hd⟩ := den_real s sink hs hk k0 h0
  unfold once each
  have hne : den s sink ≠ 0 := by rw [hd]; exact_mod_cast hr.ne'
  simp only [Ideal.div, if_neg hne]
  have hi0 : (0 : EReal) ≤ (den s sink)⁻¹ := by
    rw [hd, ← EReal.coe_inv]; exact_mod_cast (inv_pos.mpr hr).le
  have hit : (den s sink)⁻¹ ≠ ⊤ := by rw [hd, ← EReal.coe_inv]; exact EReal.coe_ne_top r⁻¹
  rw [sum_mul_real _ _ hi0 hit]
  exact Finset.sum_congr rfl fun k _ => by ac_rfl

/-- Only the values whose weight is not zero are read: where the score is `⊥` the value may be any. -/
theorem each_congr (s v v' : Fin n → EReal) (sink : EReal) (hs : ∀ k, s k ≠ ⊤) (hk : sink ≠ ⊤)
    (k0 : Fin n) (h0 : s k0 ≠ ⊥) (hv : ∀ k, s k ≠ ⊥ → v k = v' k) : each s v sink = each s v' sink := by
  obtain ⟨r, hr, hd⟩ := den_real s sink hs hk k0 h0
  have hne : den s sink ≠ 0 := by rw [hd]; exact_mod_cast hr.ne'
  refine Finset.sum_congr rfl fun k _ => ?_
  by_cases h : s k = ⊥
  · have : Ideal.exp (s k - top s sink) = 0 := by rw [h, EReal.bot_sub]; rfl
    simp only [Ideal.div, if_neg hne, this, zero_mul]
  · rw [hv k h]

end AttMath

end
-- ==== Proof.AttItem.lean ====
module

public import proofs.«01_k».proof.Proof.Gen.KernelIdeal.Frame
public import proofs.«01_k».proof.Proof.AttMath
public import Idealize.ShloMosaic.Lib.Pointwise

/-! # One head of one query block, as the body computes it

The body treats 4 query blocks of 128 rows and 8 heads of 64 columns, every pair by the same
operations on different slices: `item` states them once, at the block `j` and the head `h`. -/

@[expose] public section

set_option maxRecDepth 16384

noncomputable section

namespace Cert.KernelIdeal.Att

open Idealize.ShloMosaic Idealize.ShloMosaic.TcCoe Idealize.SL.Sem
open Cert.KernelIdeal.Gen

/-- The mask's fill is `⊥`. -/
theorem negInf : Ideal.ofBits .f32 0xFF800000#32 = (⊥ : EReal) := by
  simp [Ideal.ofBits, Ideal.ieee]

/-- The rows of block `j` lie in the queries. -/
theorem slice_rows (j : Fin 4) : S512x512.Slices ![128 * j.val, 0] S128x512 := by
  revert j; decide

/-- The columns of head `h` lie in a block of queries. -/
theorem slice_cols (h : Fin 8) : S128x512.Slices ![0, 64 * h.val] S128x64 := by
  revert h; decide

/-- The columns of head `h`'s group lie in a block of keys. -/
theorem slice_keys (h : Fin 8) : S256x128.Slices ![0, 64 * (h.val / 4)] S256x64 := by
  revert h; decide

/-- The columns of head `h`'s group lie in the product with the extended values. -/
theorem slice_out (h : Fin 8) : S128x128.Slices ![0, 64 * (h.val / 4)] S128x64 := by
  revert h; decide

/-- The first column of the other group lies in the product with the extended values. -/
theorem slice_lane (h : Fin 8) : S128x128.Slices ![0, 64 * (1 - h.val / 4)] S128x1 := by
  revert h; decide

variable (Q : FVec Ideal S512x512 .bf16) (K : FVec Ideal S256x128 .bf16) (M : IVec S128x256 1)
  (V : FVec Ideal S256x128 .bf16) (S : FVec Ideal S1x1 .f32) (j : Fin 4) (h : Fin 8)

/-- The masked scores. -/
def score : FVec Ideal S128x256 .f32 :=
  select M (mulf (matmul dot_S128x64_S256x64_S128x256_1_1_0_0_n_n none
      (extractStridedSlice S128x64 ![0, 64 * h.val] (extractStridedSlice S128x512 ![128 * j.val, 0] Q (slice_rows j)) (slice_cols h))
      (extractStridedSlice S256x64 ![0, 64 * (h.val / 4)] K (slice_keys h))
      (constant S128x256 .f32 0x00000000#32))
    (broadcast S128x256 (Scalar.ofBits .f32 0x3E000000#32)))
    (broadcast S128x256 (Scalar.ofBits .f32 0xFF800000#32))

/-- The rows' maxima, with the sink. -/
def rowMax : FVec Ideal S128x1 .f32 :=
  maximumf (shapeCast S128x1 (multiReduction .maximumf [1] S128 (score Q K M j h) 0xFF800000#32 reduces_S128x256_S128 (.inl rfl) rfl)
      shapeCasts_S128_S128x1)
    (broadcastTo S128x1 (shapeCast S1x1 S shapeCasts_S1x1_S1x1) broadcasts_S1x1_S128x1)

/-- The weights times the extended values. -/
def weighted : FVec Ideal S128x128 .f32 :=
  matmul dot_S128x256_S256x128_S128x128_1_0_0_1_n_n none
    (truncf .bf16 (exp (subf (score Q K M j h) (broadcastTo S128x256 (rowMax Q K M S j h) broadcasts_S128x1_S128x256))) bitsLt_bf16_f32)
    V (constant S128x128 .f32 0x00000000#32)

/-- The head's output block. -/
def item : FVec Ideal S128x64 .f32 :=
  divf (extractStridedSlice S128x64 ![0, 64 * (h.val / 4)] (weighted Q K M V S j h) (slice_out h))
    (broadcastTo S128x64
      (addf (extractStridedSlice S128x1 ![0, 64 * (1 - h.val / 4)] (weighted Q K M V S j h) (slice_lane h))
        (exp (subf (broadcastTo S128x1 (shapeCast S1x1 S shapeCasts_S1x1_S1x1) broadcasts_S1x1_S128x1) (rowMax Q K M S j h))))
      broadcasts_S128x1_S128x64)

/-- A score at row `r` and key `k`. -/
theorem score_at (r : Fin 128) (k : Fin 256) :
    score Q K M j h (ix2 r k) =
      if M (ix2 r k) = 1#1 then
        (∑ d : Fin 64, Q (ix2 (⟨128 * j.val + r.val, by omega⟩ : Fin 512) (⟨64 * h.val + d.val, by omega⟩ : Fin 512))
          * K (ix2 k (⟨64 * (h.val / 4) + d.val, by omega⟩ : Fin 128))) * Ideal.ofBits .f32 0x3E000000#32
      else ⊥ := by
  unfold score
  pointwise
  rw [negInf]
  rfl

/-- The head's output at row `r` and column `d`: the weighted sum of the values' column over the weighted sum
    of the other group's first column and the sink's exponential. -/
theorem item_at (r : Fin 128) (d : Fin 64) :
    item Q K M V S j h (ix2 r d) =
      Ideal.div (∑ k : Fin 256, Ideal.exp (score Q K M j h (ix2 r k)
            - AttMath.top (fun k => score Q K M j h (ix2 r k)) (S (ix2 0 0)))
          * V (ix2 k (⟨64 * (h.val / 4) + d.val, by omega⟩ : Fin 128)))
        ((∑ k : Fin 256, Ideal.exp (score Q K M j h (ix2 r k)
            - AttMath.top (fun k => score Q K M j h (ix2 r k)) (S (ix2 0 0)))
          * V (ix2 k (⟨64 * (1 - h.val / 4), by omega⟩ : Fin 128)))
        + Ideal.exp (S (ix2 0 0) - AttMath.top (fun k => score Q K M j h (ix2 r k)) (S (ix2 0 0)))) := by
  unfold item weighted rowMax
  generalize score Q K M j h = s
  pointwise [AttMath.top]
  rw [negInf]

/-- With values extended by ones in the other group's columns, the output is the row of attention. -/
theorem item_once (v : Fin 256 → Fin 128 → EReal)
    (hV : ∀ k c, V (ix2 k c) = if c.val / 64 = h.val / 4 then v k c else 1) (r : Fin 128) (d : Fin 64) :
    item Q K M V S j h (ix2 r d) =
      AttMath.once (fun k => score Q K M j h (ix2 r k))
        (fun k => v k (⟨64 * (h.val / 4) + d.val, by omega⟩ : Fin 128)) (S (ix2 0 0)) := by
  have h1 : ∀ k : Fin 256, V (ix2 k (⟨64 * (h.val / 4) + d.val, by omega⟩ : Fin 128))
      = v k (⟨64 * (h.val / 4) + d.val, by omega⟩ : Fin 128) := fun k => by
    rw [hV, if_pos (by change (64 * (h.val / 4) + d.val) / 64 = _; omega)]
  have h2 : ∀ k : Fin 256, V (ix2 k (⟨64 * (1 - h.val / 4), by omega⟩ : Fin 128)) = 1 := fun k => by
    rw [hV, if_neg (by change ¬ (64 * (1 - h.val / 4)) / 64 = _; omega)]
  rw [item_at]
  simp only [h1, h2, mul_one]
  rfl

end Cert.KernelIdeal.Att

end
-- ==== Proof.AttSpec.lean ====
module

public import proofs.«01_k».proof.Proof.AttMath
public import Idealize.ShloMosaic.Lib.WordCmp

/-! # The windowed attention over flat arrays

Row `R` of the 16384 is position `R % 128` of block `R / 128`; a batch member has 32 blocks. It reads the 256
keys of its block and the one before, those at most 127 before it, and none before its member's first. -/

@[expose] public section

set_option maxRecDepth 16384

noncomputable section

namespace AttSpec

open Idealize.ShloMosaic

/-- The band's word: key `k` is at most 127 before query `r`, counted from the block before. -/
theorem band_word (r k : Nat) (hr : r < 128) (hk : k < 256) :
    IntOp.andi (IntOp.cmpi .sge (IntOp.subi (IntOp.addi (BitVec.ofNat 32 r) 128#32) (BitVec.ofNat 32 k)) 0#32)
        (IntOp.cmpi .slt (IntOp.subi (IntOp.addi (BitVec.ofNat 32 r) 128#32) (BitVec.ofNat 32 k)) 128#32)
      = BitVec.ofBool (decide (r < k ∧ k ≤ r + 128)) := by
  rw [WordCmp.andi_sge_zero_slt_ofNat (k := 128) (by decide)]
  congr 1
  refine decide_eq_decide.mpr ?_
  change ((BitVec.ofNat 32 r + 128#32) - BitVec.ofNat 32 k).toNat < 128 ↔ _
  rw [BitVec.toNat_sub, BitVec.toNat_add]
  simp only [BitVec.toNat_ofNat]
  omega

/-- A matrix read at a row and a column. -/
abbrev Mat (n c : Nat) := Fin n → Fin c → EReal

/-- Key `k` of the row `R` is seen. -/
def Seen (R : Fin 16384) (k : Fin 256) : Prop :=
  (R.val % 128 < k.val ∧ k.val ≤ R.val % 128 + 128) ∧ (R.val / 128 % 32 = 0 → 128 ≤ k.val)

instance (R : Fin 16384) (k : Fin 256) : Decidable (Seen R k) := inferInstanceAs (Decidable (_ ∧ _))

/-- The row of the arrays that key `k` of the row `R` is. -/
def keyRow (R : Fin 16384) (k : Fin 256) : Fin 16384 := ⟨R.val / 128 * 128 + k.val - 128, by omega⟩

/-- The score of row `R` and key `k` for the head of column `C`. -/
def score (q : Mat 16384 512) (K : Mat 16384 128) (R : Fin 16384) (C : Fin 512) (k : Fin 256) : EReal :=
  if Seen R k then
    (∑ d : Fin 64, q R (⟨64 * (C.val / 64) + d.val, by omega⟩ : Fin 512) *
      K (keyRow R k) (⟨64 * (C.val / 64 / 4) + d.val, by omega⟩ : Fin 128)) * Ideal.ofBits .f32 0x3E000000#32
  else ⊥

/-- The value of key `k` at column `C`. -/
def value (V : Mat 16384 128) (R : Fin 16384) (C : Fin 512) (k : Fin 256) : EReal :=
  V (keyRow R k) (⟨64 * (C.val / 64 / 4) + C.val % 64, by omega⟩ : Fin 128)

/-- The attention's output at row `R` and column `C`. -/
def out (q : Mat 16384 512) (K V : Mat 16384 128) (s : Fin 8 → EReal) (R : Fin 16384) (C : Fin 512) : EReal :=
  AttMath.each (score q K R C) (value V R C) (s ⟨C.val / 64, by omega⟩)

/-- An extended real that is a real. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy
  exact ⟨a * b, (EReal.coe_mul a b).symm⟩

theorem Real'.sum {n : Nat} (f : Fin n → EReal) (h : ∀ i, Real' (f i)) : Real' (∑ i, f i) := by
  have H : ∀ t : Finset (Fin n), Real' (∑ i ∈ t, f i) := by
    intro t
    induction t using Finset.cons_induction with
    | empty => exact ⟨0, by simp⟩
    | cons a t ha ih =>
      obtain ⟨x, hx⟩ := h a
      obtain ⟨y, hy⟩ := ih
      exact ⟨x + y, by rw [Finset.sum_cons, hx, hy, EReal.coe_add]⟩
  exact H _

/-- The scale is a real. -/
theorem scale_real : Real' (Ideal.ofBits .f32 0x3E000000#32) := by
  refine ⟨1 / 8, ?_⟩
  simp [Ideal.ofBits, Ideal.ieee, -EReal.coe_mul]
  norm_num

variable {q : Mat 16384 512} {K V : Mat 16384 128} {s : Fin 8 → EReal}

/-- A score is a real where the key is seen. -/
theorem score_real (hq : ∀ R C, Real' (q R C)) (hK : ∀ R C, Real' (K R C)) (R : Fin 16384) (C : Fin 512) (k : Fin 256)
    (h : Seen R k) : Real' (score q K R C k) := by
  rw [score, if_pos h]
  exact (Real'.sum _ fun d => (hq _ _).mul (hK _ _)).mul scale_real

/-- No score is `⊤`. -/
theorem score_ne_top (hq : ∀ R C, Real' (q R C)) (hK : ∀ R C, Real' (K R C)) (R : Fin 16384) (C : Fin 512) (k : Fin 256) :
    score q K R C k ≠ ⊤ := by
  by_cases h : Seen R k
  · obtain ⟨r, hr⟩ := score_real hq hK R C k h
    rw [hr]; exact EReal.coe_ne_top r
  · rw [score, if_neg h]; exact bot_ne_top

/-- The row's own key. -/
def own (R : Fin 16384) : Fin 256 := ⟨128 + R.val % 128, by omega⟩

theorem seen_own (R : Fin 16384) : Seen R (own R) := by
  unfold Seen own
  refine ⟨⟨?_, ?_⟩, fun _ => ?_⟩ <;> simp <;> omega

/-- Its score is not `⊥`. -/
theorem score_own (hq : ∀ R C, Real' (q R C)) (hK : ∀ R C, Real' (K R C)) (R : Fin 16384) (C : Fin 512) :
    score q K R C (own R) ≠ ⊥ := by
  obtain ⟨r, hr⟩ := score_real hq hK R C _ (seen_own R)
  rw [hr]; exact EReal.coe_ne_bot r

/-- Scores and values that agree where a key is seen, divided weight by weight. -/
theorem out_each (hq : ∀ R C, Real' (q R C)) (hK : ∀ R C, Real' (K R C)) (hs : ∀ h, s h ≠ ⊤) (R : Fin 16384) (C : Fin 512)
    (v : Fin 256 → EReal) (hv : ∀ k, Seen R k → v k = value V R C k) :
    AttMath.each (score q K R C) v (s ⟨C.val / 64, by omega⟩) = out q K V s R C := by
  refine AttMath.each_congr _ _ _ _ (score_ne_top hq hK R C) (hs _) (own R) (score_own hq hK R C) fun k hk => hv k ?_
  by_contra h
  exact hk (by rw [score, if_neg h])

/-- The same, divided once. -/
theorem out_once (hq : ∀ R C, Real' (q R C)) (hK : ∀ R C, Real' (K R C)) (hs : ∀ h, s h ≠ ⊤) (R : Fin 16384) (C : Fin 512)
    (v : Fin 256 → EReal) (hv : ∀ k, Seen R k → v k = value V R C k) :
    AttMath.once (score q K R C) v (s ⟨C.val / 64, by omega⟩) = out q K V s R C := by
  rw [AttMath.once_eq_each _ _ _ (score_ne_top hq hK R C) (hs _) (own R) (score_own hq hK R C)]
  exact out_each hq hK hs R C v hv

end AttSpec

end
-- ==== Proof.AttBody.lean ====
module

public import proofs.«01_k».proof.Proof.AttItem
public import proofs.«01_k».proof.Proof.AttSpec
public import Idealize.ShloMosaic.Lib.Pipeline.ValueKit

/-! # What the body stores, at an index

The 32 outputs of the body are one family of `item`s, laid out in 4 rows of 8. -/

@[expose] public section

set_option maxRecDepth 16384

noncomputable section

namespace Cert.KernelIdeal.Att

open Idealize.ShloMosaic Idealize.ShloMosaic.TcCoe Idealize.SL.Sem
open Cert.KernelIdeal.Gen

/-- The keys that query block `j` reads: the block before it, then its own. -/
def keys (k : Vec Ideal S512x128 .f32) (kp : Vec Ideal S128x128 .f32) : Fin 4 → FVec Ideal S256x128 .bf16
  | 0 => k0_pay5 k kp
  | 1 => k0_pay6 k
  | 2 => k0_pay7 k
  | 3 => k0_pay8 k

/-- The mask of query block `j`. -/
def mask (i : grid0.Coords) : Fin 4 → IVec S128x256 1
  | 0 => k0_pay14 i
  | _ => k0_pay13

/-- The values that query block `j` reads. -/
def vals (v : Vec Ideal S512x128 .f32) (vp : Vec Ideal S128x128 .f32) : Fin 4 → FVec Ideal S256x128 .bf16
  | 0 => k0_pay9 v vp
  | 1 => k0_pay10 v
  | 2 => k0_pay11 v
  | 3 => k0_pay12 v

/-- The values of head `h`'s group, with ones in the other group's columns. -/
def ext (v : FVec Ideal S256x128 .bf16) (h : Fin 8) : FVec Ideal S256x128 .bf16 :=
  if h.val < 4 then select (cmpi .slt (iota .tc S256x128 32 [1] iota_S256x128_d1_w32) (broadcast S256x128 64#32)) v (k0_pay15 (F := Ideal))
  else select (cmpi .sge (iota .tc S256x128 32 [1] iota_S256x128_d1_w32) (broadcast S256x128 64#32)) v (k0_pay15 (F := Ideal))

/-- Head `h`'s sink. -/
def sink (x : Vec Ideal S8x128 .f32) : Fin 8 → Vec Ideal S1x1 .f32
  | 0 => View.ld x r0_3
  | 1 => View.ld x r0_4
  | 2 => View.ld x r0_5
  | 3 => View.ld x r0_6
  | 4 => View.ld x r0_7
  | 5 => View.ld x r0_8
  | 6 => View.ld x r0_9
  | 7 => View.ld x r0_10

/-- 8 blocks side by side. -/
def strip (f : Fin 8 → FVec Ideal S128x64 .f32) : FVec Ideal S128x512 .f32 :=
  concatenate S128x512 1 [⟨S128x64, f 0⟩, ⟨S128x64, f 1⟩, ⟨S128x64, f 2⟩, ⟨S128x64, f 3⟩, ⟨S128x64, f 4⟩,
      ⟨S128x64, f 5⟩, ⟨S128x64, f 6⟩, ⟨S128x64, f 7⟩]
    concatenates_S128x64_S128x64_S128x64_S128x64_S128x64_S128x64_S128x64_S128x64_S128x512_d1

/-- 4 strips, one above another. -/
def stack (g : Fin 4 → FVec Ideal S128x512 .f32) : FVec Ideal S512x512 .f32 :=
  concatenate S512x512 0 [⟨S128x512, g 0⟩, ⟨S128x512, g 1⟩, ⟨S128x512, g 2⟩, ⟨S128x512, g 3⟩]
    concatenates_S128x512_S128x512_S128x512_S128x512_S512x512_d0

set_option maxHeartbeats 1000000 in
/-- An element of the strip is one of the block that it lies in. -/
theorem strip_at (f : Fin 8 → FVec Ideal S128x64 .f32) (r : Fin 128) (c : Fin 512) :
    strip f (ix2 r c) = f ⟨c.val / 64, by omega⟩ (ix2 r (⟨c.val % 64, by omega⟩ : Fin 64)) := by
  have key : ∀ (h : Fin 8) (c' : Fin 64), c.val = 64 * h.val + c'.val →
      f h (ix2 r c') = f ⟨c.val / 64, by omega⟩ (ix2 r (⟨c.val % 64, by omega⟩ : Fin 64)) := by
    intro h c' hc
    have e2 : h = ⟨c.val / 64, by omega⟩ := Fin.ext (by change h.val = c.val / 64; omega)
    have e4 : c' = ⟨c.val % 64, by omega⟩ := Fin.ext (by change c'.val = c.val % 64; omega)
    rw [← e2, ← e4]
  unfold strip
  pointwise
  split
  · exact key 0 _ (by change c.val = 64 * 0 + c.val; omega)
  split
  · exact key 1 _ (by change c.val = 64 * 1 + (c.val - 64); omega)
  split
  · exact key 2 _ (by change c.val = 64 * 2 + (c.val - 64 - 64); omega)
  split
  · exact key 3 _ (by change c.val = 64 * 3 + (c.val - 64 - 64 - 64); omega)
  split
  · exact key 4 _ (by change c.val = 64 * 4 + (c.val - 64 - 64 - 64 - 64); omega)
  split
  · exact key 5 _ (by change c.val = 64 * 5 + (c.val - 64 - 64 - 64 - 64 - 64); omega)
  split
  · exact key 6 _ (by change c.val = 64 * 6 + (c.val - 64 - 64 - 64 - 64 - 64 - 64); omega)
  · exact key 7 _ (by change c.val = 64 * 7 + (c.val - 64 - 64 - 64 - 64 - 64 - 64 - 64); omega)

set_option maxHeartbeats 1000000 in
/-- An element of the stack is one of the strip that it lies in. -/
theorem stack_at (g : Fin 4 → FVec Ideal S128x512 .f32) (r c : Fin 512) :
    stack g (ix2 r c) = g ⟨r.val / 128, by omega⟩ (ix2 (⟨r.val % 128, by omega⟩ : Fin 128) c) := by
  have key : ∀ (j : Fin 4) (r' : Fin 128), r.val = 128 * j.val + r'.val →
      g j (ix2 r' c) = g ⟨r.val / 128, by omega⟩ (ix2 (⟨r.val % 128, by omega⟩ : Fin 128) c) := by
    intro j r' hr
    have e1 : j = ⟨r.val / 128, by omega⟩ := Fin.ext (by change j.val = r.val / 128; omega)
    have e3 : r' = ⟨r.val % 128, by omega⟩ := Fin.ext (by change r'.val = r.val % 128; omega)
    rw [← e1, ← e3]
  unfold stack
  pointwise
  split
  · exact key 0 _ (by change r.val = 128 * 0 + r.val; omega)
  split
  · exact key 1 _ (by change r.val = 128 * 1 + (r.val - 128); omega)
  split
  · exact key 2 _ (by change r.val = 128 * 2 + (r.val - 128 - 128); omega)
  · exact key 3 _ (by change r.val = 128 * 3 + (r.val - 128 - 128 - 128); omega)

variable (i : grid0.Coords) (x0 : Vec Ideal S512x512 .f32) (x1 : Vec Ideal S512x128 .f32) (x2 : Vec Ideal S128x128 .f32)
  (x3 : Vec Ideal S512x128 .f32) (x4 : Vec Ideal S128x128 .f32) (x5 : Vec Ideal S8x128 .f32)

set_option maxHeartbeats 4000000 in
/-- The stored block is the family of items. -/
theorem out_eq : out0_6 i x0 x1 x2 x3 x4 x5 = View.canon [⟨r0_0, stack fun j => strip fun h =>
    item (k0_pay2 (View.ld x0 r0_0)) (keys (View.ld x1 r0_1) (View.ld x2 r0_2) j) (mask i j)
      (ext (vals (View.ld x3 r0_1) (View.ld x4 r0_2) j) h) (sink x5 h) j h⟩] := by
  unfold_out out0_6
  rfl

/-- A key that block `j` reads. -/
theorem keys_at (j : Fin 4) (k : Fin 256) (c : Fin 128) :
    keys x1 x2 j (ix2 k c) =
      if h : 128 * j.val + k.val < 128 then x2 (ix2 (⟨k.val, by omega⟩ : Fin 128) c)
      else x1 (ix2 (⟨128 * j.val + k.val - 128, by omega⟩ : Fin 512) c) := by
  fin_cases j <;> pointwise [keys, k0_pay3, k0_pay5, k0_pay6, k0_pay7, k0_pay8]
  · rw [dif_neg (by change ¬ 128 * 2 + k.val < 128; omega)]
    refine congrArg x1 (congrArg (fun z => ix2 z c) (Fin.ext ?_))
    change 128 + k.val = 128 * 2 + k.val - 128
    omega
  · rw [dif_neg (by change ¬ 128 * 3 + k.val < 128; omega)]
    refine congrArg x1 (congrArg (fun z => ix2 z c) (Fin.ext ?_))
    change 256 + k.val = 128 * 3 + k.val - 128
    omega

/-- A value that block `j` reads: as a key. -/
theorem vals_at (j : Fin 4) (k : Fin 256) (c : Fin 128) :
    vals x1 x2 j (ix2 k c) =
      if h : 128 * j.val + k.val < 128 then x2 (ix2 (⟨k.val, by omega⟩ : Fin 128) c)
      else x1 (ix2 (⟨128 * j.val + k.val - 128, by omega⟩ : Fin 512) c) := by
  rw [← keys_at x1 x2 j k c]
  fin_cases j <;> rfl

/-- An extended value. -/
theorem ext_at (v : FVec Ideal S256x128 .bf16) (h : Fin 8) (k : Fin 256) (c : Fin 128) :
    ext v h (ix2 k c) = if c.val / 64 = h.val / 4 then v (ix2 k c) else 1 := by
  unfold ext
  split_ifs <;> pointwise [k0_pay15] <;> simp (disch := omega) only [hlo_ix] <;> split_ifs <;> first | rfl | omega

/-- The mask: key `k` is at most 127 before the query `r`, and exists. -/
theorem mask_at (j : Fin 4) (r : Fin 128) (k : Fin 256) :
    mask i j (ix2 r k) = 1#1 ↔ (r.val < k.val ∧ k.val ≤ r.val + 128) ∧ (j.val = 0 → (i 1).val = 0 → 128 ≤ k.val) := by
  have hi : (i 1).val < 8 := (i 1).isLt
  fin_cases j <;> pointwise [mask, k0_pay14, k0_pay13] <;> rw [AttSpec.band_word _ _ r.isLt k.isLt]
  · change IntOp.andi _ (IntOp.ori _ (IntOp.cmpi _ _ _)) = _ ↔ _
    rw [WordCmp.cmpi_sge_ofNat (by omega) (by decide), WordCmp.cmpi_sgt_ofNat (by omega) (by decide), WordCmp.ori_ofBool,
      WordCmp.andi_ofBool, WordCmp.ofBool_eq_one_iff]
    simp
    omega
  all_goals rw [WordCmp.ofBool_decide_eq_one_iff]; simp

/-- A sink. -/
theorem sink_at (h : Fin 8) : sink x5 h (ix2 0 0) = x5 (ix2 h (0 : Fin 128)) := by
  fin_cases h <;> pointwise [sink]

/-- The score of query `r` of the block and the key `k` that its sub-block reads, under the mask. -/
def blockScore (r c : Fin 512) (k : Fin 256) : EReal :=
  if (r.val % 128 < k.val ∧ k.val ≤ r.val % 128 + 128) ∧ (r.val / 128 = 0 → (i 1).val = 0 → 128 ≤ k.val) then
    (∑ d : Fin 64, x0 (ix2 r (⟨64 * (c.val / 64) + d.val, by omega⟩ : Fin 512)) *
      keys x1 x2 ⟨r.val / 128, by omega⟩ (ix2 k (⟨64 * (c.val / 64 / 4) + d.val, by omega⟩ : Fin 128)))
      * Ideal.ofBits .f32 0x3E000000#32
  else ⊥

/-- What the body stores at row `r` and column `c` of its block. -/
theorem out_at (r c : Fin 512) :
    out0_6 i x0 x1 x2 x3 x4 x5 (ix2 r c) =
      AttMath.once (blockScore i x0 x1 x2 r c)
        (fun k => vals x3 x4 ⟨r.val / 128, by omega⟩ (ix2 k (⟨64 * (c.val / 64 / 4) + c.val % 64, by omega⟩ : Fin 128)))
        (x5 (ix2 (⟨c.val / 64, by omega⟩ : Fin 8) (0 : Fin 128))) := by
  rw [out_eq]
  frame_out
  rw [stack_at, strip_at, item_once _ _ _ _ _ _ _ (fun k c => vals x3 x4 _ (ix2 k c)) (fun k c => ext_at _ _ k c), sink_at]
  refine congrArg (fun s => AttMath.once s _ _) (funext fun k => ?_)
  rw [score_at]
  unfold blockScore
  refine if_congr (mask_at i _ _ k) ?_ rfl
  refine congrArg (fun z : EReal => z * Ideal.ofBits .f32 0x3E000000#32) (Finset.sum_congr rfl fun d _ => ?_)
  refine congrArg (fun z : EReal => z * _) ?_
  pointwise [k0_pay2]
  refine congrArg x0 (congrArg (fun z => ix2 z _) (Fin.ext ?_))
  change 128 * (r.val / 128) + r.val % 128 = r.val
  omega

end Cert.KernelIdeal.Att

end
-- ==== Proof.AttValue.lean ====
module

public import proofs.«01_k».proof.Proof.AttBody
public import proofs.«01_k».proof.Proof.AttSpec

/-! # The kernel's result is the windowed attention -/

@[expose] public section

set_option maxRecDepth 16384

noncomputable section

namespace Cert.KernelIdeal.Att

open Idealize.ShloMosaic Idealize.ShloMosaic.TcCoe Idealize.SL.Sem
open Idealize.ShloMosaic.Pipeline (Dat)
open Cert.KernelIdeal.Gen

variable (m : (ℓ : Loc nD τ sig) → Buf (Elt Ideal) ℓ)

/-- The windows' block indices at a point. -/
theorem idx : ∀ t : Fin cfg0.N, win0_0.index t = ![t.val, 0] ∧ win0_1.index t = ![t.val, 0]
    ∧ win0_2.index t = ![32 * (t.val / 8) + (4 * (t.val % 8) - 1), 0] ∧ win0_3.index t = ![t.val, 0]
    ∧ win0_4.index t = ![32 * (t.val / 8) + (4 * (t.val % 8) - 1), 0] ∧ win0_5.index t = ![0, 0] ∧ win0_6.index t = ![t.val, 0]
    ∧ (grid0.coords t 1).val = t.val % 8 :=
  (by decide +kernel : ∀ t : Fin grid0.N, _)

/-- The queries. -/
def qA (c : Dev nD) : AttSpec.Mat 16384 512 := fun R C => (m ((c : Thread nD τ).loc main_arg0) : FVec Ideal S16384x512 .f32) (ix2 R C)
/-- The keys. -/
def kA (c : Dev nD) : AttSpec.Mat 16384 128 := fun R C => (m ((c : Thread nD τ).loc main_arg1) : FVec Ideal S16384x128 .f32) (ix2 R C)
/-- The values. -/
def vA (c : Dev nD) : AttSpec.Mat 16384 128 := fun R C => (m ((c : Thread nD τ).loc main_arg2) : FVec Ideal S16384x128 .f32) (ix2 R C)
/-- The sinks. -/
def sA (c : Dev nD) : Fin 8 → EReal := fun h => (m ((c : Thread nD τ).loc main_arg3) : FVec Ideal S8 .f32) (ix1 h)

/-- A block of queries. -/
theorem q_at (c : Dev nD) (t : Fin cfg0.N) (r : Fin 512) (d : Fin 512) :
    (iblk m c 0 t : FVec Ideal S512x512 .f32) (ix2 r d) = qA m c ⟨512 * t.val + r.val, by have : t.val < 32 := t.isLt; omega⟩ d := by
  unfold qA
  blk_ext [iblk, V, idx t]

/-- A block of sinks. -/
theorem s_at (c : Dev nD) (t : Fin cfg0.N) (h : Fin 8) :
    (iblk m c 5 t : FVec Ideal S8x128 .f32) (ix2 h (0 : Fin 128)) = sA m c h := by
  blk_simp [iblk, idx t]
  entry_read
  pointwise
  unfold sA
  blk_ext [idx t]

/-- A key that a block reads, where it is seen. -/
theorem k_at (c : Dev nD) (t : Fin cfg0.N) (r : Fin 512) (k : Fin 256) (d : Fin 128)
    (h : AttSpec.Seen ⟨512 * t.val + r.val, by have : t.val < 32 := t.isLt; omega⟩ k) :
    keys (iblk m c 1 t) (iblk m c 2 t) ⟨r.val / 128, by omega⟩ (ix2 k d)
      = kA m c (AttSpec.keyRow ⟨512 * t.val + r.val, by have : t.val < 32 := t.isLt; omega⟩ k) d := by
  obtain ⟨_, h1, h2, _⟩ := idx t
  have ht : t.val < 32 := t.isLt
  rw [keys_at]
  unfold kA AttSpec.keyRow
  unfold AttSpec.Seen at h
  dsimp only at h ⊢
  split_ifs with hk
  · blk_ext [iblk, V, idx t]
  · blk_ext [iblk, V, idx t]

/-- A value that a block reads, where its key is seen. -/
theorem v_at (c : Dev nD) (t : Fin cfg0.N) (r : Fin 512) (k : Fin 256) (d : Fin 128)
    (h : AttSpec.Seen ⟨512 * t.val + r.val, by have : t.val < 32 := t.isLt; omega⟩ k) :
    vals (iblk m c 3 t) (iblk m c 4 t) ⟨r.val / 128, by omega⟩ (ix2 k d)
      = vA m c (AttSpec.keyRow ⟨512 * t.val + r.val, by have : t.val < 32 := t.isLt; omega⟩ k) d := by
  obtain ⟨_, _, _, h3, h4, _⟩ := idx t
  have ht : t.val < 32 := t.isLt
  rw [vals_at]
  unfold vA AttSpec.keyRow
  unfold AttSpec.Seen at h
  dsimp only at h ⊢
  split_ifs with hk
  · blk_ext [iblk, V, idx t]
  · blk_ext [iblk, V, idx t]

/-- A block's scores are the attention's. -/
theorem score_eq (c : Dev nD) (t : Fin cfg0.N) (r C : Fin 512) :
    blockScore (grid0.coords t) (iblk m c 0 t) (iblk m c 1 t) (iblk m c 2 t) r C
      = AttSpec.score (qA m c) (kA m c) ⟨512 * t.val + r.val, by have : t.val < 32 := t.isLt; omega⟩ C := by
  have ht : t.val < 32 := t.isLt
  have h7 := (idx t).2.2.2.2.2.2.2
  funext k
  unfold blockScore AttSpec.score
  have hiff : ((r.val % 128 < k.val ∧ k.val ≤ r.val % 128 + 128) ∧ (r.val / 128 = 0 → (grid0.coords t 1).val = 0 → 128 ≤ k.val))
      ↔ AttSpec.Seen ⟨512 * t.val + r.val, by omega⟩ k := by
    rw [h7]
    unfold AttSpec.Seen
    dsimp only
    constructor <;> rintro ⟨a, b⟩ <;> refine ⟨by omega, ?_⟩
    · intro h; exact b (by omega) (by omega)
    · intro h h'; exact b (by omega)
  by_cases hk : AttSpec.Seen ⟨512 * t.val + r.val, by omega⟩ k
  · rw [if_pos (hiff.mpr hk), if_pos hk]
    refine congrArg (fun z : EReal => z * Ideal.ofBits .f32 0x3E000000#32) (Finset.sum_congr rfl fun d _ => ?_)
    exact congrArg₂ (fun a b : EReal => a * b) (q_at m c t r _) (k_at m c t r k _ hk)
  · rw [if_neg (fun h => hk (hiff.mp h)), if_neg hk]

/-- What point `t` stores at row `r` and column `C` of its block. -/
theorem point (c : Dev nD) (hq : ∀ R C, AttSpec.Real' (qA m c R C)) (hk : ∀ R C, AttSpec.Real' (kA m c R C))
    (hs : ∀ h, sA m c h ≠ ⊤) (t : Fin cfg0.N) (r C : Fin 512) :
    out0_6 (grid0.coords t) (iblk m c 0 t) (iblk m c 1 t) (iblk m c 2 t) (iblk m c 3 t) (iblk m c 4 t) (iblk m c 5 t) (ix2 r C)
      = AttSpec.out (qA m c) (kA m c) (vA m c) (sA m c) ⟨512 * t.val + r.val, by have : t.val < 32 := t.isLt; omega⟩ C := by
  rw [out_at, score_eq, s_at]
  exact AttSpec.out_once hq hk hs _ C _ fun k h => v_at m c t r k _ h

/-- The result array after the run. -/
theorem final (c : Dev nD) (hq : ∀ R C, AttSpec.Real' (qA m c R C)) (hk : ∀ R C, AttSpec.Real' (kA m c R C))
    (hs : ∀ h, sA m c h ≠ ⊤) :
    (dats m 0 c).arrAt 6 (cfgs 0).N
      = fun i => AttSpec.out (qA m c) (kA m c) (vA m c) (sA m c) (i 0) (i 1) := by
  refine (dats m 0 c).arrAt_eq_of_covers 6 _ (by decide +kernel) fun t _ y => ?_
  blk_simp
  rw [after0_6]
  have ht : t.val < 32 := t.isLt
  obtain ⟨r, C, rfl⟩ : ∃ r C : Fin 512, y = ix2 r C := ⟨y 0, y 1, by ext a; fin_cases a <;> rfl⟩
  refine (point m c hq hk hs t r C).trans ?_
  have e6 := (idx t).2.2.2.2.2.2.1
  have h0 : (⟨512 * t.val + r.val, by omega⟩ : Fin 16384) = (win0_6.blk t).view.emb (ix2 r C) 0 := Fin.ext (by
    change 512 * t.val + r.val = ((win0_6.blk t).view.emb (ix2 r C) 0).val
    blk_simp [e6]
    omega)
  have h1 : C = (win0_6.blk t).view.emb (ix2 r C) 1 := Fin.ext (by blk_simp [e6])
  exact congrArg₂ (AttSpec.out (qA m c) (kA m c) (vA m c) (sA m c)) h0 h1

end Cert.KernelIdeal.Att

end
-- ==== Proof.AttRef.lean ====
module

public import proofs.«01_k».proof.Proof.Gen.ReferenceIdeal.Run
public import proofs.«01_k».proof.Proof.AttSpec
public import Idealize.ShloMosaic.Lib.Pointwise

/-! # The reference's result is the windowed attention

The reference's term in stages — the keys' windows, the mask, the masked scores, the rows' maxima, the
exponentials, the output — and each stage read at an index. -/

@[expose] public section

set_option maxRecDepth 16384

noncomputable section

namespace Cert.ReferenceIdeal.Att

open Idealize.ShloMosaic Idealize.ShloMosaic.TcCoe Idealize.SL.Sem
open Cert.ReferenceIdeal.Gen

/-- Every block with the one before it, zeros before the first. -/
def win (v : FVec Ideal S16384x128 .f32) : FVec Ideal S4x32x256x2x64 .f32 :=
  concatenate S4x32x256x2x64 2 [⟨S4x32x128x2x64, (concatenate S4x32x128x2x64 1 [⟨S4x1x128x2x64, (broadcastInDim S4x1x128x2x64 ![] bcast_S_S4x1x128x2x64 (constant S_ .f32 0x00000000#32))⟩, ⟨S4x31x128x2x64, (extractStridedSlice S4x31x128x2x64 ![0, 0, 0, 0, 0] (shapeCast S4x32x128x2x64 v shapeCasts_S16384x128_S4x32x128x2x64) slices_S4x32x128x2x64_S4x31x128x2x64_0_0_0_0_0)⟩] concatenates_S4x1x128x2x64_S4x31x128x2x64_S4x32x128x2x64_d1)⟩, ⟨S4x32x128x2x64, (shapeCast S4x32x128x2x64 v shapeCasts_S16384x128_S4x32x128x2x64)⟩] concatenates_S4x32x128x2x64_S4x32x128x2x64_S4x32x256x2x64_d2

/-- The mask. -/
def mask : IVec S4x32x2x4x128x256 1 :=
  broadcastInDim S4x32x2x4x128x256 ![0, 1, 2, 3, 4, 5] bcast_S1x32x1x1x128x256_S4x32x2x4x128x256_0_1_2_3_4_5 (broadcastInDim S1x32x1x1x128x256 ![1, 4, 5] bcast_S32x128x256_S1x32x1x1x128x256_1_4_5 (andi (broadcastInDim S32x128x256 ![0, 1, 2] bcast_S1x128x256_S32x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S32x128x256 ![0, 1, 2] bcast_S32x1x256_S32x128x256_0_1_2 (cmpi .sge (subi (addi (broadcastInDim S32x1x256 ![0, 1, 2] bcast_S32x1x1_S32x1x256_0_1_2 (muli (broadcastInDim S32x1x1 ![0] bcast_S32_S32x1x1_0 (iotaInDim S32 32 0)) (broadcastInDim S32x1x1 ![] bcast_S_S32x1x1 (constantI S_ 32 128#32)))) (broadcastInDim S32x1x256 ![0, 1, 2] bcast_S1x1x256_S32x1x256_0_1_2 (broadcastInDim S1x1x256 ![1, 2] bcast_S1x256_S1x1x256_1_2 (broadcastInDim S1x256 ![1] bcast_S256_S1x256_1 (iotaInDim S256 32 0))))) (broadcastInDim S32x1x256 ![] bcast_S_S32x1x256 (constantI S_ 32 128#32))) (broadcastInDim S32x1x256 ![] bcast_S_S32x1x256 (constantI S_ 32 0#32))))))

/-- The masked scores. -/
def sc (q : FVec Ideal S16384x512 .f32) (k : FVec Ideal S16384x128 .f32) : FVec Ideal S4x32x2x4x128x256 .f32 :=
  select mask (mulf (transpose S4x32x2x4x128x256 [0, 1, 2, 5, 4, 3] (Host.dotGeneral dot_S4x32x256x2x64_S4x32x128x2x4x64_S4x32x2x256x128x4_4_5_2_24_013_013 none (win k) (shapeCast S4x32x128x2x4x64 q shapeCasts_S16384x512_S4x32x128x2x4x64)) transposes_S4x32x2x256x128x4_S4x32x2x4x128x256_0_1_2_5_4_3) (broadcastInDim S4x32x2x4x128x256 ![] bcast_S_S4x32x2x4x128x256 (constant S_ .f32 0x3E000000#32))) (broadcastInDim S4x32x2x4x128x256 ![] bcast_S_S4x32x2x4x128x256 (constant S_ .f32 0xFF800000#32))

/-- The sinks, over the rows. -/
def snk (s : FVec Ideal S8 .f32) : FVec Ideal S4x32x2x4x128x1 .f32 :=
  broadcastInDim S4x32x2x4x128x1 ![0, 1, 2, 3, 4, 5] bcast_S1x1x2x4x1x1_S4x32x2x4x128x1_0_1_2_3_4_5 (broadcastInDim S1x1x2x4x1x1 ![2, 3, 4, 5] bcast_S2x4x1x1_S1x1x2x4x1x1_2_3_4_5 (broadcastInDim S2x4x1x1 ![0, 1] bcast_S2x4_S2x4x1x1_0_1 (shapeCast S2x4 s shapeCasts_S8_S2x4)))

/-- The greatest along the keys. -/
def top (x : FVec Ideal S4x32x2x4x128x256 .f32) : FVec Ideal S4x32x2x4x128 .f32 :=
  Host.reduce FloatOps.maximumf x (constant S_ .f32 0xFF800000#32) reducesTo_S4x32x2x4x128x256_S4x32x2x4x128_d5 h_S_

/-- The rows' maxima. -/
def mx (q : FVec Ideal S16384x512 .f32) (k : FVec Ideal S16384x128 .f32) (s : FVec Ideal S8 .f32) : FVec Ideal S4x32x2x4x128x1 .f32 :=
  maximumf (broadcastInDim S4x32x2x4x128x1 ![0, 1, 2, 3, 4] bcast_S4x32x2x4x128_S4x32x2x4x128x1_0_1_2_3_4 (top (sc q k))) (snk s)

/-- The exponentials. -/
def ex (q : FVec Ideal S16384x512 .f32) (k : FVec Ideal S16384x128 .f32) (s : FVec Ideal S8 .f32) : FVec Ideal S4x32x2x4x128x256 .f32 :=
  Host.exp (subf (sc q k) (broadcastInDim S4x32x2x4x128x256 ![0, 1, 2, 3, 4, 5] bcast_S4x32x2x4x128x1_S4x32x2x4x128x256_0_1_2_3_4_5 (mx q k s)))

/-- The output. -/
def out (q : FVec Ideal S16384x512 .f32) (k v : FVec Ideal S16384x128 .f32) (s : FVec Ideal S8 .f32) : FVec Ideal S16384x512 .f32 :=
  shapeCast S16384x512 (transpose S4x32x128x2x4x64 [0, 1, 5, 2, 4, 3] (Host.dotGeneral dot_S4x32x256x2x64_S4x32x2x4x128x256_S4x32x2x64x4x128_2_5_4_34_013_012 none (win v) (Host.divf (ex q k s) (broadcastInDim S4x32x2x4x128x256 ![0, 1, 2, 3, 4, 5] bcast_S4x32x2x4x128x1_S4x32x2x4x128x256_0_1_2_3_4_5 (addf (broadcastInDim S4x32x2x4x128x1 ![0, 1, 2, 3, 4] bcast_S4x32x2x4x128_S4x32x2x4x128x1_0_1_2_3_4 (Host.reduceAdd (ex q k s) (constant S_ .f32 0x00000000#32) reducesTo_S4x32x2x4x128x256_S4x32x2x4x128_d5 h_S_)) (Host.exp (subf (snk s) (mx q k s))))))) transposes_S4x32x2x64x4x128_S4x32x128x2x4x64_0_1_5_2_4_3) shapeCasts_S4x32x128x2x4x64_S16384x512

variable (m : (ℓ : Loc nD τ sig) → Buf (Elt Ideal) ℓ)

/-- The reference's term is the last stage. -/
theorem out_eq (c : Dev nD) : Cert.ReferenceIdeal.Value.res_main_v68 m c
    = out (m ((c.tc : Thread nD τ).loc main_arg0)) (m ((c.tc : Thread nD τ).loc main_arg1))
        (m ((c.tc : Thread nD τ).loc main_arg2)) (m ((c.tc : Thread nD τ).loc main_arg3)) := rfl

/-- Two conditionals of equivalent conditions, equal where they hold. -/
theorem if_congr' {p p' : Prop} [Decidable p] [Decidable p'] {x y z : EReal} (h : p ↔ p') (e : p' → x = y) :
    (if p then x else z) = if p' then y else z := by
  by_cases hp : p'
  · rw [if_pos hp, if_pos (h.mpr hp), e hp]
  · rw [if_neg hp, if_neg (hp ∘ h.mp)]

/-- The reference's run, its result the last stage. -/
theorem run (ρ : Dev nD → PrngReg) :
    θ_run defs (onTc (τ := τ) (main (F := Ideal))) ⟨m, fun _ => 0, ρ⟩ fun r => ∀ c : Dev nD,
      r.2.mem ((c.tc : Thread nD τ).loc main_v68) = out (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (out_eq m c), (h c).2⟩) (Cert.ReferenceIdeal.Value.run m ρ)

variable (q : FVec Ideal S16384x512 .f32) (k v : FVec Ideal S16384x128 .f32) (s : FVec Ideal S8 .f32)
  (b : Fin 4) (n : Fin 32) (g : Fin 2) (h : Fin 4) (r : Fin 128) (j : Fin 256) (d : Fin 64)

/-- A window's element. -/
theorem win_at : win v (ix5 b n j g d) =
    if n.val = 0 ∧ j.val < 128 then 0
    else v (ix2 (⟨(32 * b.val + n.val) * 128 + j.val - 128, by omega⟩ : Fin 16384) (⟨64 * g.val + d.val, by omega⟩ : Fin 128)) := by
  unfold win
  pointwise
  have hv : ∀ (a b : Fin 16384) (c e : Fin 128), a.val = b.val → c.val = e.val → v (ix2 a c) = v (ix2 b e) := by
    intro a b c e h h'
    rw [Fin.ext h, Fin.ext h']
  split
  · split
    · exact (if_pos ⟨by omega, by assumption⟩).symm
    · refine (hv _ _ _ _ ?_ ?_).trans (if_neg (by omega)).symm <;> (simp only; omega)
  · refine (hv _ _ _ _ ?_ ?_).trans (if_neg (by omega)).symm <;> (simp only; omega)

/-- The word that says a key exists. -/
theorem exists_word (n j : Nat) (hn : n < 32) (hj : j < 256) :
    IntOp.cmpi .sge (IntOp.subi (IntOp.addi (IntOp.muli (BitVec.ofNat 32 n) 128#32) (BitVec.ofNat 32 j)) 128#32) 0#32
      = BitVec.ofBool (decide (n = 0 → 128 ≤ j)) := by
  rw [WordCmp.cmpi_sge_zero]
  congr 1
  refine decide_eq_decide.mpr ?_
  change ((BitVec.ofNat 32 n * 128#32 + BitVec.ofNat 32 j) - 128#32).toNat < _ ↔ _
  rw [BitVec.toNat_sub, BitVec.toNat_add, BitVec.toNat_mul]
  simp only [BitVec.toNat_ofNat]
  omega

/-- The mask at an index. -/
theorem mask_at : mask (ix6 b n g h r j) = 1#1 ↔
    (r.val < j.val ∧ j.val ≤ r.val + 128) ∧ (n.val = 0 → 128 ≤ j.val) := by
  unfold mask
  pointwise
  rw [AttSpec.band_word _ _ r.isLt j.isLt, exists_word _ _ n.isLt j.isLt, WordCmp.andi_ofBool,
    WordCmp.ofBool_eq_one_iff, Bool.and_eq_true, decide_eq_true_iff, decide_eq_true_iff]

/-- The pattern of minus infinity. -/
theorem negInf : Ideal.ofBits .f32 0xFF800000#32 = ⊥ := by simp [Ideal.ofBits, Ideal.ieee]

/-- A score. -/
theorem sc_at : sc q k (ix6 b n g h r j) = if mask (ix6 b n g h r j) = 1#1 then
    (∑ d : Fin 64, win k (ix5 b n j g d) *
      q (ix2 (⟨(32 * b.val + n.val) * 128 + r.val, by omega⟩ : Fin 16384) (⟨64 * (4 * g.val + h.val) + d.val, by omega⟩ : Fin 512)))
      * Ideal.ofBits .f32 0x3E000000#32 else ⊥ := by
  have hq : ∀ (a b : Fin 16384) (c e : Fin 512), a.val = b.val → c.val = e.val → q (ix2 a c) = q (ix2 b e) := by
    intro a b c e h h'
    rw [Fin.ext h, Fin.ext h']
  unfold sc
  generalize mask = M
  generalize win k = W
  pointwise
  rw [negInf]
  refine if_congr Iff.rfl ?_ rfl
  refine congrArg (· * _) (Finset.sum_congr rfl fun x _ => congrArg (_ * ·) (hq _ _ _ _ ?_ ?_)) <;> (simp only; omega)

/-- A sink. -/
theorem snk_at : snk s (ix6 b n g h r (0 : Fin 1)) = s (ix1 (⟨4 * g.val + h.val, by omega⟩ : Fin 8)) := by
  unfold snk
  pointwise
  refine congrArg s (congrArg ix1 (Fin.ext ?_))
  simp only; omega

/-- The indices that drop to a row are the row's keys. -/
theorem fiber (i : S4x32x2x4x128x256.Idx) :
    reducesTo_S4x32x2x4x128x256_S4x32x2x4x128_d5.drop i = ix5 b n g h r ↔ ∃ j : Fin 256, ix6 b n g h r j = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

/-- The greatest along the keys, at a row. -/
theorem top_at (x : FVec Ideal S4x32x2x4x128x256 .f32) :
    top x (ix5 b n g h r) = Finset.univ.fold max ⊥ fun j : Fin 256 => x (ix6 b n g h r j) := by
  unfold top
  rw [Host.reduce_eq_fold]
  refine (Finset.fold_filter_eq_fold_of_fiber _ _ (fun j : Fin 256 => ix6 b n g h r j) (fun _ _ e => congrFun e 5)
    (fiber b n g h r) _ x).trans ?_
  change Finset.fold max (Ideal.ofBits .f32 0xFF800000#32) _ _ = _
  rw [negInf]

/-- The sum along the keys, at a row. -/
theorem sum_at (x : FVec Ideal S4x32x2x4x128x256 .f32) :
    Ideal.hostReduceAdd reducesTo_S4x32x2x4x128x256_S4x32x2x4x128_d5 x 0 (ix5 b n g h r) = ∑ j : Fin 256, x (ix6 b n g h r j) := by
  unfold Ideal.hostReduceAdd
  rw [zero_add]
  exact Finset.sum_filter_eq_sum_of_fiber _ (fun j : Fin 256 => ix6 b n g h r j) (fun _ _ e => congrFun e 5) (fiber b n g h r) x

/-- The greater of a row's entry and another's. -/
theorem row_max (x : FVec Ideal S4x32x2x4x128 .f32) (y : FVec Ideal S4x32x2x4x128x1 .f32) :
    maximumf (broadcastInDim S4x32x2x4x128x1 ![0, 1, 2, 3, 4] bcast_S4x32x2x4x128_S4x32x2x4x128x1_0_1_2_3_4 x) y
      (ix6 b n g h r (0 : Fin 1)) = max (x (ix5 b n g h r)) (y (ix6 b n g h r (0 : Fin 1))) := by
  pointwise

/-- A row's maximum. -/
theorem mx_at : mx q k s (ix6 b n g h r (0 : Fin 1)) =
    AttMath.top (fun j => sc q k (ix6 b n g h r j)) (s (ix1 (⟨4 * g.val + h.val, by omega⟩ : Fin 8))) := by
  unfold mx
  rw [row_max, top_at, snk_at]
  unfold AttMath.top
  exact rfl

/-- An exponential. -/
theorem ex_at : ex q k s (ix6 b n g h r j) = Ideal.exp (sc q k (ix6 b n g h r j) - mx q k s (ix6 b n g h r (0 : Fin 1))) := by
  unfold ex
  generalize sc q k = X
  generalize mx q k s = Y
  pointwise

/-- The output at an index: the attention of that row's scores, values and sink. -/
theorem out_at (R : Fin 16384) (C : Fin 512) : out q k v s (ix2 R C) =
    AttMath.each (fun j => sc q k (ix6 ⟨R.val / 4096, by omega⟩ ⟨R.val / 128 % 32, by omega⟩ ⟨C.val / 256, by omega⟩
        ⟨C.val / 64 % 4, by omega⟩ ⟨R.val % 128, by omega⟩ j))
      (fun j => win v (ix5 ⟨R.val / 4096, by omega⟩ ⟨R.val / 128 % 32, by omega⟩ j ⟨C.val / 256, by omega⟩ ⟨C.val % 64, by omega⟩))
      (s (ix1 ⟨4 * (C.val / 256) + C.val / 64 % 4, by omega⟩)) := by
  have e : out q k v s (ix2 R C) = ∑ x : Fin 256,
      win v (ix5 ⟨R.val / 4096, by omega⟩ ⟨R.val / 128 % 32, by omega⟩ x ⟨C.val / 256, by omega⟩ ⟨C.val % 64, by omega⟩) *
        Ideal.div (ex q k s (ix6 ⟨R.val / 4096, by omega⟩ ⟨R.val / 128 % 32, by omega⟩ ⟨C.val / 256, by omega⟩
            ⟨C.val / 64 % 4, by omega⟩ ⟨R.val % 128, by omega⟩ x))
          (Ideal.hostReduceAdd reducesTo_S4x32x2x4x128x256_S4x32x2x4x128_d5 (ex q k s) 0
              (ix5 ⟨R.val / 4096, by omega⟩ ⟨R.val / 128 % 32, by omega⟩ ⟨C.val / 256, by omega⟩ ⟨C.val / 64 % 4, by omega⟩
                ⟨R.val % 128, by omega⟩) +
            Ideal.exp (snk s (ix6 ⟨R.val / 4096, by omega⟩ ⟨R.val / 128 % 32, by omega⟩ ⟨C.val / 256, by omega⟩
                ⟨C.val / 64 % 4, by omega⟩ ⟨R.val % 128, by omega⟩ 0) -
              mx q k s (ix6 ⟨R.val / 4096, by omega⟩ ⟨R.val / 128 % 32, by omega⟩ ⟨C.val / 256, by omega⟩
                ⟨C.val / 64 % 4, by omega⟩ ⟨R.val % 128, by omega⟩ 0))) := by
    unfold out
    generalize ex q k s = X
    generalize mx q k s = Y
    generalize snk s = Z
    generalize win v = W
    pointwise
  rw [e]
  unfold AttMath.each AttMath.den
  refine Finset.sum_congr rfl fun x _ => ?_
  rw [mul_comm, sum_at, snk_at]
  simp only [ex_at, mx_at]

variable {q k v s}

/-- With finite queries and keys and no sink at plus infinity the output is the windowed attention. -/
theorem out_spec (hq : ∀ R C, AttSpec.Real' (q (ix2 R C))) (hk : ∀ R C, AttSpec.Real' (k (ix2 R C))) (hs : ∀ i, s (ix1 i) ≠ ⊤)
    (R : Fin 16384) (C : Fin 512) : out q k v s (ix2 R C)
      = AttSpec.out (fun R C => q (ix2 R C)) (fun R C => k (ix2 R C)) (fun R C => v (ix2 R C)) (fun i => s (ix1 i)) R C := by
  rw [out_at, ← AttSpec.out_each (q := fun R C => q (ix2 R C)) (K := fun R C => k (ix2 R C)) (s := fun i => s (ix1 i)) hq hk hs R C
    (fun j => win v (ix5 ⟨R.val / 4096, by omega⟩ ⟨R.val / 128 % 32, by omega⟩ j ⟨C.val / 256, by omega⟩ ⟨C.val % 64, by omega⟩))]
  · have e1 : (fun j => sc q k (ix6 ⟨R.val / 4096, by omega⟩ ⟨R.val / 128 % 32, by omega⟩ ⟨C.val / 256, by omega⟩
        ⟨C.val / 64 % 4, by omega⟩ ⟨R.val % 128, by omega⟩ j))
        = AttSpec.score (fun R C => q (ix2 R C)) (fun R C => k (ix2 R C)) R C := by
      funext j
      rw [sc_at, AttSpec.score]
      refine if_congr' (mask_at _ _ _ _ _ _) ?_
      intro hj
      refine congrArg (· * _) (Finset.sum_congr rfl fun d _ => ?_)
      rw [win_at, if_neg (by unfold AttSpec.Seen at hj; simp only; omega), mul_comm]
      refine congrArg₂ (· * ·) (congrArg q (congrArg₂ ix2 (Fin.ext ?_) (Fin.ext ?_))) (congrArg k (congrArg₂ ix2 (Fin.ext ?_) (Fin.ext ?_)))
        <;> simp only [AttSpec.keyRow] <;> omega
    have e2 : (⟨4 * (C.val / 256) + C.val / 64 % 4, by omega⟩ : Fin 8) = ⟨C.val / 64, by omega⟩ := Fin.ext (by simp only; omega)
    rw [e1, e2]
  · intro j hj
    rw [win_at, if_neg (by unfold AttSpec.Seen at hj; simp only; omega), AttSpec.value]
    refine congrArg v (congrArg₂ ix2 (Fin.ext ?_) (Fin.ext ?_)) <;> simp only [AttSpec.keyRow] <;> omega

end Cert.ReferenceIdeal.Att

end
-- ==== Proof.AttClaim.lean ====
module

public import proofs.«01_k».proof.Defs
public import proofs.«01_k».proof.Proof.AttValue
public import proofs.«01_k».proof.Proof.AttRef
public import proofs.«01_k».proof.Proof.Gen.KernelIdeal.Frame
public import proofs.«01_k».proof.Proof.Gen.Pre_finite_scores
public import Idealize.ShloMosaic.Lib.ReduceAll
public import Idealize.ShloMosaic.Lib.Claim

/-! # The attention kernel computes the reference's values

The precondition read back — finite queries and keys, no sink at plus infinity — and the two runs put side by
side: both results are the windowed attention. -/

@[expose] public section

set_option maxRecDepth 16384

noncomputable section

namespace Cert.AttClaim

open Idealize.ShloMosaic Idealize.SL.Sem

/-- The pattern of plus infinity. -/
theorem posInf : Ideal.ofBits .f32 0x7F800000#32 = ⊤ := by simp [Ideal.ofBits, Ideal.ieee]

/-- An extended real whose absolute value is below plus infinity is a real. -/
theorem real_of_abs {x : EReal} (h : max x (-x) < ⊤) : AttSpec.Real' x := by
  induction x with
  | bot => simp at h
  | top => simp at h
  | coe r => exact ⟨r, rfl⟩

/-- A comparison below that is one, read back. -/
theorem lt_of_olt {x y : EReal} (h : FloatOps.cmpf (F := Ideal) (φ := .f32) .olt x y = 1#1) : x < y := by
  by_contra hn
  have e : FloatOps.cmpf (F := Ideal) (φ := .f32) .olt x y = BitVec.ofBool (decide (x < y)) := rfl
  rw [e, decide_eq_false hn] at h
  exact absurd h (by decide)

instance : Subsingleton Cert.Pre_finite_scores.S_.Idx := ⟨fun a b => funext fun i => absurd i.isLt (by simp [Cert.Pre_finite_scores.S_])⟩

/-- What the precondition says of the queries, the keys and the sinks. -/
theorem finite (q : FVec Ideal Cert.Pre_finite_scores.S16384x512 .f32) (k v : FVec Ideal Cert.Pre_finite_scores.S16384x128 .f32)
    (s : FVec Ideal Cert.Pre_finite_scores.S8 .f32) (h : Cert.Pre_finite_scores.fn (F := Ideal) q k v s = fun _ => 1#1) :
    (∀ i, AttSpec.Real' (q i)) ∧ (∀ i, AttSpec.Real' (k i)) ∧ ∀ i, s i ≠ ⊤ := by
  have hand : ∀ a b : BitVec 1, IntOp.andi a b = 1#1 → a = 1#1 ∧ b = 1#1 := by decide
  have h0 := congrFun h (fun i => absurd i.isLt (by simp [Cert.Pre_finite_scores.S_]))
  dsimp only [Cert.Pre_finite_scores.fn] at h0
  obtain ⟨h1, hs⟩ := hand _ _ h0
  obtain ⟨hq, hk⟩ := hand _ _ h1
  refine ⟨fun i => ?_, fun i => ?_, fun i => ?_⟩
  · have e := lt_of_olt (Host.reduce_andi_all _ _ _ _ _ hq i)
    exact real_of_abs (lt_of_lt_of_eq e posInf)
  · have e := lt_of_olt (Host.reduce_andi_all _ _ _ _ _ hk i)
    exact real_of_abs (lt_of_lt_of_eq e posInf)
  · have e := lt_of_olt (Host.reduce_andi_all _ _ _ _ _ hs i)
    exact (lt_of_lt_of_eq e posInf).ne

attribute [local irreducible] Cert.ReferenceIdeal.Att.out

/-- From the same finite arguments the kernel and the reference end with equal results. -/
theorem algebraic : Cert.algebraic_KernelIdeal_ReferenceIdeal_pre_finite_scores := by
  pair_intro
  · run_from Cert.KernelIdeal.Gen.run_main m g
  · run_from Cert.ReferenceIdeal.Att.run m' g'
    obtain ⟨hq, hk, hs⟩ := finite _ _ _ _ (hpre c)
    refine Eq.trans ?_ (Cert.KernelIdeal.Att.final m c (fun R C => hq _) (fun R C => hk _) (fun h => hs _)).symm
    funext i
    refine (congrArg (Cert.ReferenceIdeal.Att.out _ _ _ _) (?_ : i = ix2 (i 0) (i 1))).trans ?_
    · funext a
      match a with
      | ⟨0, _⟩ => rfl
      | ⟨1, _⟩ => rfl
    · exact Cert.ReferenceIdeal.Att.out_spec (fun R C => hq _) (fun R C => hk _) (fun h => hs _) (i 0) (i 1)

end Cert.AttClaim

end
-- ==== Proof.MoeBody.lean ====
module

public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.TableIdle
public import Idealize.ShloMosaic.Lib.VecWindow
public import Idealize.ShloMosaic.Lib.Claim
public import Idealize.ShloMosaic.Lib.Ring
public import Idealize.ShloMosaic.Lib.Tactic
public import Idealize.ShloMosaic.Lib.WordCmp

/-! # One run of the experts' body

A block of tokens is used if its number is below the number of used blocks, and its expert is new if the block is
used and is the first one or names another expert than the block before it. The body stores the rounded weights
of a new expert, works a used block out from the stored weights, and writes zeros to a block that is not used. -/

@[expose] public section

set_option maxRecDepth 16384
set_option Elab.async false

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- Table 0 of the launch. -/
abbrev tb0 : Memref sig .tc .smem S80 .i32 := Memref.whole main_arg1

/-- Table 1 of the launch. -/
abbrev tb1 : Memref sig .tc .smem S1 .i32 := Memref.whole main_arg2

/-- Table 2 of the launch. -/
abbrev tb2 : Memref sig .tc .smem S80 .i32 := Memref.whole main_v11

/-- The number of used blocks, as the body reads it. -/
abbrev count (T1 : S1.Idx → Elt F .i32) : BitVec 32 :=
  View.readAt (Elt F) tb1.view
    (Rect.unit (s := S1) ![0] S1.size inb_S1_S1_0).toLoadRect T1 (Shape.Idx.first (numel1_S1.symm ▸ Nat.one_pos))

/-- The expert that block `i` names. -/
abbrev expert (i : grid0.Coords) (T0 : S80.Idx → Elt F .i32) : BitVec 32 :=
  View.readAt (Elt F) tb0.view
    (Rect.unit (s := S80) (k0_off1 i) S1.size (k0_off1_inb i)).toLoadRect T0 (Shape.Idx.first (numel1_S1.symm ▸ Nat.one_pos))

/-- The expert that the block before `i` names. -/
abbrev expertBefore (i : grid0.Coords) (T0 : S80.Idx → Elt F .i32) : BitVec 32 :=
  View.readAt (Elt F) tb0.view
    (Rect.unit (s := S80) (k0_off2 i) S1.size (k0_off2_inb i)).toLoadRect T0 (Shape.Idx.first (numel1_S1.symm ▸ Nat.one_pos))

/-- Block `i` is used. -/
abbrev Used (i : grid0.Coords) (T1 : S1.Idx → Elt F .i32) : Prop := k0_cond2 i (count T1) = 1#1

/-- Block `i` is used and its expert is not the one of the block before it. -/
abbrev New (i : grid0.Coords) (T0 : S80.Idx → Elt F .i32) (T1 : S1.Idx → Elt F .i32) : Prop :=
  Scalar.cmpi .ne (Scalar.extui (Scalar.andi (Scalar.cmpi .slt (BitVec.ofNat 32 (i 0).val) (count T1))
    (Scalar.ori (Scalar.cmpi .eq (BitVec.ofNat 32 (i 0).val) 0#32) (Scalar.cmpi .ne (expert i T0) (expertBefore i T0)))) : BitVec 32) 0#32 = 1#1

/-- The two conditions on a block are opposite. -/
theorem unused_iff (i : grid0.Coords) (v : BitVec 32) : k0_cond3 i v = 1#1 ↔ ¬ k0_cond2 i v = 1#1 := by
  unfold k0_cond3 k0_cond2
  generalize BitVec.ofNat 32 (i 0).val = a
  simp only [Scalar.cmpi, IntOp.cmpi, Scalar.extui]
  cases h : a.slt v <;> simp [BitVec.sle_eq_not_slt, h]

/-- A block with a new expert is used. -/
theorem used_of_new {i : grid0.Coords} {T0 : S80.Idx → Elt F .i32} {T1 : S1.Idx → Elt F .i32} (h : New i T0 T1) : Used i T1 := by
  unfold Used k0_cond2
  unfold New at h
  generalize BitVec.ofNat 32 (i 0).val = a at *
  generalize count T1 = v at *
  generalize Scalar.ori _ _ = w at h
  simp only [Scalar.cmpi, Scalar.extui, Scalar.andi, IntOp.cmpi, IntOp.andi] at *
  cases h' : a.slt v <;> simp_all

/-- The gate's weights that are stored after the body's run, from the block `x` of the weights and those stored before. -/
def gate' (i : grid0.Coords) (T0 : S80.Idx → Elt F .i32) (T1 : S1.Idx → Elt F .i32) (x : Vec F S1x1x1024x512 .f32)
    (s : Vec F S1024x512 .bf16) : Vec F S1024x512 .bf16 := if New i T0 T1 then k0_pay1 x else s
/-- The upward weights that are stored after the body's run. -/
def up' (i : grid0.Coords) (T0 : S80.Idx → Elt F .i32) (T1 : S1.Idx → Elt F .i32) (x : Vec F S1x1x1024x512 .f32)
    (s : Vec F S1024x512 .bf16) : Vec F S1024x512 .bf16 := if New i T0 T1 then k0_pay2 x else s
/-- The downward weights that are stored after the body's run. -/
def down' (i : grid0.Coords) (T0 : S80.Idx → Elt F .i32) (T1 : S1.Idx → Elt F .i32) (x : Vec F S1x1x512x1024 .f32)
    (s : Vec F S512x1024 .bf16) : Vec F S512x1024 .bf16 := if New i T0 T1 then k0_pay3 x else s
/-- The block of the result after the body's run, from the tokens and the stored weights. -/
def result (i : grid0.Coords) (T1 : S1.Idx → Elt F .i32) (x : Vec F S512x1024 .f32) (s0 s1 : Vec F S1024x512 .bf16)
    (s2 : Vec F S512x1024 .bf16) : Vec F S512x1024 .f32 := if Used i T1 then k0_pay4 x s0 s1 s2 else k0_pay5

set_option maxHeartbeats 8000000 in
/-- THE BODY'S RUN: its inputs and tables stay, the stored weights and the block of the result are as stated. -/
theorem body_run (c : Dev nD) (i : grid0.Coords)
    (a4 : Memref sig .tc .vmem S512x1024 .f32) (h4 : a4.IsWhole) (a5 : Memref sig .tc .vmem S1x1x1024x512 .f32) (h5 : a5.IsWhole)
    (a6 : Memref sig .tc .vmem S1x1x1024x512 .f32) (h6 : a6.IsWhole) (a7 : Memref sig .tc .vmem S1x1x512x1024 .f32) (h7 : a7.IsWhole)
    (a8 : Memref sig .tc .vmem S512x1024 .f32) (h8 : a8.IsWhole)
    (b0 : Memref sig .tc .vmem S1024x512 .bf16) (g0 : b0.IsWhole) (b1 : Memref sig .tc .vmem S1024x512 .bf16) (g1 : b1.IsWhole)
    (b2 : Memref sig .tc .vmem S512x1024 .bf16) (g2 : b2.IsWhole)
    (T0 : S80.Idx → Elt F .i32) (T1 : S1.Idx → Elt F .i32) (T2 : S80.Idx → Elt F .i32)
    (x0 : Vec F S512x1024 .f32) (x1 x2 : Vec F S1x1x1024x512 .f32) (x3 : Vec F S1x1x512x1024 .f32)
    (s0 s1 : Vec F S1024x512 .bf16) (s2 : Vec F S512x1024 .bf16) (K : PUnit → sProp 𝕄) :
    iprop(owns (c : Thread nD τ) a4 fullShare x0 ∗ owns (c : Thread nD τ) a5 fullShare x1
        ∗ owns (c : Thread nD τ) a6 fullShare x2 ∗ owns (c : Thread nD τ) a7 fullShare x3
        ∗ (∃ d, owns (c : Thread nD τ) a8 fullShare d)
        ∗ (owns (c : Thread nD τ) b0 fullShare s0 ∗ owns (c : Thread nD τ) b1 fullShare s1 ∗ owns (c : Thread nD τ) b2 fullShare s2)
        ∗ ((tb0.view.loc (c : Thread nD τ) ↦{fullShare.right} T0) ∗ (tb1.view.loc (c : Thread nD τ) ↦{fullShare.right} T1)
          ∗ (tb2.view.loc (c : Thread nD τ) ↦{fullShare.right} T2))
        ∗ (iprop(owns (c : Thread nD τ) a4 fullShare x0 ∗ owns (c : Thread nD τ) a5 fullShare x1
            ∗ owns (c : Thread nD τ) a6 fullShare x2 ∗ owns (c : Thread nD τ) a7 fullShare x3
            ∗ owns (c : Thread nD τ) a8 fullShare (result i T1 x0 (gate' i T0 T1 x1 s0) (up' i T0 T1 x2 s1) (down' i T0 T1 x3 s2))
            ∗ (owns (c : Thread nD τ) b0 fullShare (gate' i T0 T1 x1 s0) ∗ owns (c : Thread nD τ) b1 fullShare (up' i T0 T1 x2 s1)
              ∗ owns (c : Thread nD τ) b2 fullShare (down' i T0 T1 x3 s2))
            ∗ ((tb0.view.loc (c : Thread nD τ) ↦{fullShare.right} T0) ∗ (tb1.view.loc (c : Thread nD τ) ↦{fullShare.right} T1)
              ∗ (tb2.view.loc (c : Thread nD τ) ↦{fullShare.right} T2))) -∗ K ⟨⟩))
      ⊢ wp frame (wpE (defs₀ (F := F)) Variants.none c none) Set.univ
          (cc0_moe_experts i tb0 (Memref.isWhole_whole _) tb1 (Memref.isWhole_whole _)
            tb2 (Memref.isWhole_whole _) a4 h4 a5 h5 a6 h6 a7 h7 a8 h8 b0 g0 b1 g1 b2 g2) K := by
  have t0 : tb0.IsWhole := Memref.isWhole_whole _
  have t1 : tb1.IsWhole := Memref.isWhole_whole _
  rw [cc0_moe_experts_eq_skeleton]; unfold cc0_moe_experts_skel
  by_cases hu : Used i T1
  · have h3 : ¬ k0_cond3 i (count T1) = 1#1 := fun h => (unused_iff i _).1 h hu
    by_cases hn : New i T0 T1
    · rw [show gate' i T0 T1 x1 s0 = k0_pay1 x1 from if_pos hn, show up' i T0 T1 x2 s1 = k0_pay2 x2 from if_pos hn,
        show down' i T0 T1 x3 s2 = k0_pay3 x3 from if_pos hn,
        show result i T1 x0 (k0_pay1 x1) (k0_pay2 x2) (k0_pay3 x3) = k0_pay4 x0 (k0_pay1 x1) (k0_pay2 x2) (k0_pay3 x3) from if_pos hu]
      unfold owns
      iintro ⟨⟨%f0, %e0, H0⟩, ⟨%f1, %e1, H1⟩, ⟨%f2, %e2, H2⟩, ⟨%f3, %e3, H3⟩, ⟨%d, %f8, -, H8⟩,
        ⟨⟨%k0, %r0, S0⟩, ⟨%k1, %r1, S1⟩, ⟨%k2, %r2, S2⟩⟩, ⟨HT0, HT1, HT2⟩, Hk⟩
      subst e0 e1 e2 e3 r0 r1 r2
      sl_exec! (disch := first | exact hn | exact hu | exact h3)
      sl_step
      iapply Hk
      isplitl [H0]; · iexists f0; isplitr; swap; (· iexact H0); ipureintro; rfl
      isplitl [H1]; · iexists f1; isplitr; swap; (· iexact H1); ipureintro; rfl
      isplitl [H2]; · iexists f2; isplitr; swap; (· iexact H2); ipureintro; rfl
      isplitl [H3]; · iexists f3; isplitr; swap; (· iexact H3); ipureintro; rfl
      isplitl [H8]
      · iexists _; isplitr; swap; (· iexact H8); ipureintro
        refine (View.read_writes_full _ _ _ _ _).trans ?_
        exact congr (congr (congr (congrArg k0_pay4 (View.readAt_full _ _ _)) ((View.readAt_writes_full _ _ _ _ _ _).trans (congrArg k0_pay1 (View.readAt_full _ _ _))))
          ((View.readAt_writes_full _ _ _ _ _ _).trans (congrArg k0_pay2 (View.readAt_full _ _ _)))) ((View.readAt_writes_full _ _ _ _ _ _).trans (congrArg k0_pay3 (View.readAt_full _ _ _)))
      isplitl [S0 S1 S2]
      · isplitl [S0]
        · iexists _; isplitr; swap; (· iexact S0); ipureintro
          exact (View.read_writes_full _ _ _ _ _).trans (congrArg k0_pay1 (View.readAt_full _ _ _))
        isplitl [S1]
        · iexists _; isplitr; swap; (· iexact S1); ipureintro
          exact (View.read_writes_full _ _ _ _ _).trans (congrArg k0_pay2 (View.readAt_full _ _ _))
        · iexists _; isplitr; swap; (· iexact S2); ipureintro
          exact (View.read_writes_full _ _ _ _ _).trans (congrArg k0_pay3 (View.readAt_full _ _ _))
      isplitl [HT0]; · iexact HT0
      isplitl [HT1]; · iexact HT1
      iexact HT2
    · rw [show gate' i T0 T1 x1 s0 = s0 from if_neg hn, show up' i T0 T1 x2 s1 = s1 from if_neg hn,
        show down' i T0 T1 x3 s2 = s2 from if_neg hn, show result i T1 x0 s0 s1 s2 = k0_pay4 x0 s0 s1 s2 from if_pos hu]
      unfold owns
      iintro ⟨⟨%f0, %e0, H0⟩, ⟨%f1, %e1, H1⟩, ⟨%f2, %e2, H2⟩, ⟨%f3, %e3, H3⟩, ⟨%d, %f8, -, H8⟩,
        ⟨⟨%k0, %r0, S0⟩, ⟨%k1, %r1, S1⟩, ⟨%k2, %r2, S2⟩⟩, ⟨HT0, HT1, HT2⟩, Hk⟩
      subst e0 e1 e2 e3 r0 r1 r2
      sl_exec! (disch := first | exact hn | exact hu | exact h3)
      sl_step
      iapply Hk
      isplitl [H0]; · iexists f0; isplitr; swap; (· iexact H0); ipureintro; rfl
      isplitl [H1]; · iexists f1; isplitr; swap; (· iexact H1); ipureintro; rfl
      isplitl [H2]; · iexists f2; isplitr; swap; (· iexact H2); ipureintro; rfl
      isplitl [H3]; · iexists f3; isplitr; swap; (· iexact H3); ipureintro; rfl
      isplitl [H8]
      · iexists _; isplitr; swap; (· iexact H8); ipureintro
        refine (View.read_writes_full _ _ _ _ _).trans ?_
        exact congr (congr (congr (congrArg k0_pay4 (View.readAt_full _ _ _)) (View.readAt_full _ _ _)) (View.readAt_full _ _ _)) (View.readAt_full _ _ _)
      isplitl [S0 S1 S2]
      · isplitl [S0]
        · iexists _; isplitr; swap; (· iexact S0); ipureintro
          rfl
        isplitl [S1]
        · iexists _; isplitr; swap; (· iexact S1); ipureintro
          rfl
        · iexists _; isplitr; swap; (· iexact S2); ipureintro
          rfl
      isplitl [HT0]; · iexact HT0
      isplitl [HT1]; · iexact HT1
      iexact HT2
  · have h3 : k0_cond3 i (count T1) = 1#1 := (unused_iff i _).2 hu
    have hn : ¬ New i T0 T1 := fun h => hu (used_of_new h)
    rw [show gate' i T0 T1 x1 s0 = s0 from if_neg hn, show up' i T0 T1 x2 s1 = s1 from if_neg hn,
      show down' i T0 T1 x3 s2 = s2 from if_neg hn, show result i T1 x0 s0 s1 s2 = k0_pay5 from if_neg hu]
    unfold owns
    iintro ⟨⟨%f0, %e0, H0⟩, ⟨%f1, %e1, H1⟩, ⟨%f2, %e2, H2⟩, ⟨%f3, %e3, H3⟩, ⟨%d, %f8, -, H8⟩,
      ⟨⟨%k0, %r0, S0⟩, ⟨%k1, %r1, S1⟩, ⟨%k2, %r2, S2⟩⟩, ⟨HT0, HT1, HT2⟩, Hk⟩
    subst e0 e1 e2 e3 r0 r1 r2
    sl_exec! (disch := first | exact hn | exact hu | exact h3)
    sl_step
    iapply Hk
    isplitl [H0]; · iexists f0; isplitr; swap; (· iexact H0); ipureintro; rfl
    isplitl [H1]; · iexists f1; isplitr; swap; (· iexact H1); ipureintro; rfl
    isplitl [H2]; · iexists f2; isplitr; swap; (· iexact H2); ipureintro; rfl
    isplitl [H3]; · iexists f3; isplitr; swap; (· iexact H3); ipureintro; rfl
    isplitl [H8]
    · iexists _; isplitr; swap; (· iexact H8); ipureintro
      refine (View.read_writes_full _ _ _ _ _).trans ?_
      rfl
    isplitl [S0 S1 S2]
    · isplitl [S0]
      · iexists _; isplitr; swap; (· iexact S0); ipureintro
        rfl
      isplitl [S1]
      · iexists _; isplitr; swap; (· iexact S1); ipureintro
        rfl
      · iexists _; isplitr; swap; (· iexact S2); ipureintro
        rfl
    isplitl [HT0]; · iexact HT0
    isplitl [HT1]; · iexact HT1
    iexact HT2

end Cert.Kernel2Ideal.Moe
-- ==== Proof.MoeLaunch.lean ====
module

public import proofs.«01_k».proof.Proof.MoeBody
public import Idealize.ShloMosaic.Lib.Pipeline.Quiescent
public import Idealize.ShloMosaic.Lib.Pipeline.Frame
public import Idealize.ShloMosaic.Lib.Pipeline.Kit
public import Idealize.ShloMosaic.Adequacy
public import Idealize.ShloMosaic.Init

/-! # The experts' call, launched

Between two blocks the stored weights are those of the expert of the block before, if that block was used. Used
blocks come first, and a used block whose expert is not new reads the weights of the block before it, so every
used block is worked out from its own expert's weights. -/

@[expose] public section

set_option maxRecDepth 16384
set_option Elab.async false

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The first stored weights. -/
abbrev sc0 : Memref sig .tc .vmem S1024x512 .bf16 := Memref.whole cc0_scratch0
/-- The second stored weights. -/
abbrev sc1 : Memref sig .tc .vmem S1024x512 .bf16 := Memref.whole cc0_scratch1
/-- The third stored weights. -/
abbrev sc2 : Memref sig .tc .vmem S512x1024 .bf16 := Memref.whole cc0_scratch2

/-- A used block whose expert is not new follows a used block that reads the same weights. -/
def Steady (pf : pre0.Contents (Elt F)) : Prop :=
  ∀ t : Fin grid0.N, Used (grid0.coords t) (pf 1) → ¬ New (grid0.coords t) (pf 0) (pf 1) →
    ∃ t' : Fin grid0.N, t'.val + 1 = t.val ∧ Used (grid0.coords t') (pf 1)
      ∧ ix0 pf 1 (grid0.coords t') = ix0 pf 1 (grid0.coords t) ∧ ix0 pf 2 (grid0.coords t') = ix0 pf 2 (grid0.coords t)
      ∧ ix0 pf 3 (grid0.coords t') = ix0 pf 3 (grid0.coords t)

variable (a : (pcfg0 (F := F)).Adm) (V : (c : Dev nD) → (b : Ref sig .tc) → Buf (Elt F) ((c : Thread nD τ).loc b))

/-- Window `w`'s block at point `t`. -/
def iblk (c : Dev nD) (w : Fin 5) (t : Fin (cfg0 a).N) : (((cfg0 a).win w).xblock ((cfg0 a).grid.coords t)).Idx → Elt F ((cfg0 a).win w).elt :=
  (((cfg0 a).win w).blk t).view.read (Elt F) (V c (Pipeline.arrRef spec0 w))

/-- The stored weights before point `n`. -/
def Held (c : Dev nD) (n : ℕ) (s0 s1 : Vec F S1024x512 .bf16) (s2 : Vec F S512x1024 .bf16) : Prop :=
  ∀ t : Fin (cfg0 a).N, t.val + 1 = n → Used (grid0.coords t) (a.1 1) →
    s0 = k0_pay1 (iblk a V c 1 t) ∧ s1 = k0_pay2 (iblk a V c 2 t) ∧ s2 = k0_pay3 (iblk a V c 3 t)

/-- The invariant before point `n`. -/
def Phi (c : Dev nD) (n : ℕ) : sProp 𝕄 :=
  iprop((∃ s0 s1 s2, ⌜Held a V c n s0 s1 s2⌝ ∗ owns (c : Thread nD τ) sc0 fullShare s0 ∗ owns (c : Thread nD τ) sc1 fullShare s1
      ∗ owns (c : Thread nD τ) sc2 fullShare s2)
    ∗ ((tb0.view.loc (c : Thread nD τ) ↦{fullShare.right} a.1 0) ∗ (tb1.view.loc (c : Thread nD τ) ↦{fullShare.right} a.1 1)
      ∗ (tb2.view.loc (c : Thread nD τ) ↦{fullShare.right} a.1 2))
    ∗ ∃ r, prngReg c r)

/-- The result's block at point `t`. -/
def oblk (c : Dev nD) (t : Fin (cfg0 a).N) : Vec F S512x1024 .f32 :=
  result (grid0.coords t) (a.1 1) (iblk a V c 0 t) (k0_pay1 (iblk a V c 1 t)) (k0_pay2 (iblk a V c 2 t)) (k0_pay3 (iblk a V c 3 t))

/-- The proof data of the pipeline. -/
def dats (_ : Fin 1) (c : Dev nD) : Dat τ (Elt F) Unit ℕ (UR sig nD τ) ℕ (cfg0 a) c where
  A w := V c (Pipeline.arrRef spec0 w)
  after w t := match w with
    | ⟨0, _⟩ => iblk a V c 0 t
    | ⟨1, _⟩ => iblk a V c 1 t
    | ⟨2, _⟩ => iblk a V c 2 t
    | ⟨3, _⟩ => iblk a V c 3 t
    | ⟨4, _⟩ => oblk a V c t
  Φ t := Phi a V c t.val
  q _ := fullShare
  owed _ := 0

theorem after_0 (c : Dev nD) (t : Fin (cfg0 a).N) : (dats a V 0 c).after (0 : Fin 5) t = iblk a V c 0 t := rfl
theorem after_1 (c : Dev nD) (t : Fin (cfg0 a).N) : (dats a V 0 c).after (1 : Fin 5) t = iblk a V c 1 t := rfl
theorem after_2 (c : Dev nD) (t : Fin (cfg0 a).N) : (dats a V 0 c).after (2 : Fin 5) t = iblk a V c 2 t := rfl
theorem after_3 (c : Dev nD) (t : Fin (cfg0 a).N) : (dats a V 0 c).after (3 : Fin 5) t = iblk a V c 3 t := rfl
theorem after_4 (c : Dev nD) (t : Fin (cfg0 a).N) : (dats a V 0 c).after (4 : Fin 5) t = oblk a V c t := rfl

/-- Input window 0 holds its block when the body runs. -/
theorem before_0 (c : Dev nD) (t : Fin (cfg0 a).N) (d) : (dats a V 0 c).before (0 : Fin 5) t d = iblk a V c 0 t :=
  ((dats a V 0 c).before_in_eq_fetched (0 : Fin 5) rfl (fun _ => rfl) (fun _ _ _ => rfl) (fun t => by rw [after_0]; unfold Dat.blockOf iblk; rfl) t d).trans
    (by unfold Dat.fetched Dat.blockOf iblk; rfl)
/-- Input window 1 holds its block when the body runs. -/
theorem before_1 (c : Dev nD) (t : Fin (cfg0 a).N) (d) : (dats a V 0 c).before (1 : Fin 5) t d = iblk a V c 1 t :=
  ((dats a V 0 c).before_in_eq_fetched (1 : Fin 5) rfl (fun _ => rfl) (fun _ _ _ => rfl) (fun t => by rw [after_1]; unfold Dat.blockOf iblk; rfl) t d).trans
    (by unfold Dat.fetched Dat.blockOf iblk; rfl)
/-- Input window 2 holds its block when the body runs. -/
theorem before_2 (c : Dev nD) (t : Fin (cfg0 a).N) (d) : (dats a V 0 c).before (2 : Fin 5) t d = iblk a V c 2 t :=
  ((dats a V 0 c).before_in_eq_fetched (2 : Fin 5) rfl (fun _ => rfl) (fun _ _ _ => rfl) (fun t => by rw [after_2]; unfold Dat.blockOf iblk; rfl) t d).trans
    (by unfold Dat.fetched Dat.blockOf iblk; rfl)
/-- Input window 3 holds its block when the body runs. -/
theorem before_3 (c : Dev nD) (t : Fin (cfg0 a).N) (d) : (dats a V 0 c).before (3 : Fin 5) t d = iblk a V c 3 t :=
  ((dats a V 0 c).before_in_eq_fetched (3 : Fin 5) rfl (fun _ => rfl) (fun _ _ _ => rfl) (fun t => by rw [after_3]; unfold Dat.blockOf iblk; rfl) t d).trans
    (by unfold Dat.fetched Dat.blockOf iblk; rfl)

/-- Two points with one index of window 1 have one block of it. -/
theorem iblk_1 (c : Dev nD) {t t' : Fin (cfg0 a).N} (h : ix0 a.1 1 (grid0.coords t) = ix0 a.1 1 (grid0.coords t')) :
    iblk a V c 1 t = iblk a V c 1 t' :=
  ((before_1 a V c t (iblk a V c 1 t)).symm.trans ((dats a V 0 c).before_in_eq_fetched (1 : Fin 5) rfl (fun _ => rfl) (fun _ _ _ => rfl)
    (fun t => by rw [after_1]; unfold Dat.blockOf iblk; rfl) t _)).trans
  (((dats a V 0 c).fetched_congr (1 : Fin 5) h rfl _).trans (by unfold Dat.fetched Dat.blockOf iblk; rfl))
/-- Two points with one index of window 2 have one block of it. -/
theorem iblk_2 (c : Dev nD) {t t' : Fin (cfg0 a).N} (h : ix0 a.1 2 (grid0.coords t) = ix0 a.1 2 (grid0.coords t')) :
    iblk a V c 2 t = iblk a V c 2 t' :=
  ((before_2 a V c t (iblk a V c 2 t)).symm.trans ((dats a V 0 c).before_in_eq_fetched (2 : Fin 5) rfl (fun _ => rfl) (fun _ _ _ => rfl)
    (fun t => by rw [after_2]; unfold Dat.blockOf iblk; rfl) t _)).trans
  (((dats a V 0 c).fetched_congr (2 : Fin 5) h rfl _).trans (by unfold Dat.fetched Dat.blockOf iblk; rfl))
/-- Two points with one index of window 3 have one block of it. -/
theorem iblk_3 (c : Dev nD) {t t' : Fin (cfg0 a).N} (h : ix0 a.1 3 (grid0.coords t) = ix0 a.1 3 (grid0.coords t')) :
    iblk a V c 3 t = iblk a V c 3 t' :=
  ((before_3 a V c t (iblk a V c 3 t)).symm.trans ((dats a V 0 c).before_in_eq_fetched (3 : Fin 5) rfl (fun _ => rfl) (fun _ _ _ => rfl)
    (fun t => by rw [after_3]; unfold Dat.blockOf iblk; rfl) t _)).trans
  (((dats a V 0 c).fetched_congr (3 : Fin 5) h rfl _).trans (by unfold Dat.fetched Dat.blockOf iblk; rfl))

/-- The result's buffer is written at every point. -/
theorem idle_4 (t : Fin (cfg0 a).N) : (cfg0 a).idle (4 : Fin 5) ((cfg0 a).grid.coords t) = false := by
  show (!(k0_cond2 (grid0.coords t) (a.1.atD 1 ![0]) == 1#1) && !(k0_cond3 (grid0.coords t) (a.1.atD 1 ![0]) == 1#1)) = false
  have h := unused_iff (grid0.coords t) (a.1.atD 1 ![0])
  by_cases hu : k0_cond2 (grid0.coords t) (a.1.atD 1 ![0]) = 1#1
  · rw [hu]; rfl
  · rw [h.2 hu]; simp

variable {a}

/-- One run of the body keeps the claim on the stored weights. -/
theorem held_step (hs : Steady a.1) (c : Dev nD) (t : Fin (cfg0 a).N) {s0 s1 : Vec F S1024x512 .bf16} {s2 : Vec F S512x1024 .bf16}
    (h : Held a V c t.val s0 s1 s2) :
    Held a V c (t.val + 1) (gate' (grid0.coords t) (a.1 0) (a.1 1) (iblk a V c 1 t) s0)
      (up' (grid0.coords t) (a.1 0) (a.1 1) (iblk a V c 2 t) s1) (down' (grid0.coords t) (a.1 0) (a.1 1) (iblk a V c 3 t) s2) := by
  intro t' ht' hu
  obtain rfl : t' = t := Fin.ext (by omega)
  by_cases hn : New (grid0.coords t') (a.1 0) (a.1 1)
  · exact ⟨if_pos hn, if_pos hn, if_pos hn⟩
  · obtain ⟨q, hq, hqu, e1, e2, e3⟩ := hs t' hu hn
    obtain ⟨r0, r1, r2⟩ := h q hq hqu
    exact ⟨(if_neg hn).trans (r0.trans (congrArg k0_pay1 (iblk_1 a V c e1))), (if_neg hn).trans (r1.trans (congrArg k0_pay2 (iblk_2 a V c e2))),
      (if_neg hn).trans (r2.trans (congrArg k0_pay3 (iblk_3 a V c e3)))⟩

/-- The result's block, from the weights stored by the run. -/
theorem oblk_eq {c : Dev nD} {t : Fin (cfg0 a).N} {s0 s1 : Vec F S1024x512 .bf16} {s2 : Vec F S512x1024 .bf16}
    (h : Held a V c (t.val + 1) s0 s1 s2) : result (grid0.coords t) (a.1 1) (iblk a V c 0 t) s0 s1 s2 = oblk a V c t := by
  unfold oblk result
  by_cases hu : Used (grid0.coords t) (a.1 1)
  · obtain ⟨r0, r1, r2⟩ := h t rfl hu
    rw [if_pos hu, if_pos hu, r0, r1, r2]
  · rw [if_neg hu, if_neg hu]

/-- Window 0's buffer at point `t`, and the others' after it. -/
abbrev st0 (t : Fin (cfg0 a).N) : Memref sig .tc .vmem S512x1024 .f32 := spec0_0.stage ((cfg0 a).slots t (0 : Fin 5))
abbrev st1 (t : Fin (cfg0 a).N) : Memref sig .tc .vmem S1x1x1024x512 .f32 := spec0_1.stage ((cfg0 a).slots t (1 : Fin 5))
abbrev st2 (t : Fin (cfg0 a).N) : Memref sig .tc .vmem S1x1x1024x512 .f32 := spec0_2.stage ((cfg0 a).slots t (2 : Fin 5))
abbrev st3 (t : Fin (cfg0 a).N) : Memref sig .tc .vmem S1x1x512x1024 .f32 := spec0_3.stage ((cfg0 a).slots t (3 : Fin 5))
abbrev st4 (t : Fin (cfg0 a).N) : Memref sig .tc .vmem S512x1024 .f32 := spec0_4.stage ((cfg0 a).slots t (4 : Fin 5))

set_option maxHeartbeats 4000000 in
/-- The body's obligation at every point. -/
theorem obligation (hs : Steady a.1) (c : Dev nD) : BodyObligation (dats a V 0 c) (defs₀ (F := F)) Variants.none () Set.univ := fun t => by
  rw [bigSep_W0, bigSep_W0]
  have i4 := idle_4 a t
  rewrite [i4]
  simp only [before_0, before_1, before_2, before_3, after_0, after_1, after_2, after_3, after_4]
  rewrite [show (dats a V 0 c).Φ t.succ = Phi a V c (t.val + 1) from rfl, show (dats a V 0 c).Φ t.castSucc = Phi a V c t.val from rfl,
    show (dats a V 0 c).owesAt () t.succ = (dats a V 0 c).owesAt () t.castSucc from rfl]
  unfold Phi
  iintro ⟨⟨⟨%s0, %s1, %s2, %hh, HS⟩, HT, HR⟩, Ho, ⟨%d0, H0⟩, ⟨%d1, H1⟩, ⟨%d2, H2⟩, ⟨%d3, H3⟩, ⟨%d4, H4⟩⟩
  have hh' := held_step V hs c t hh
  have ho := oblk_eq V hh'
  iapply (body_run c (grid0.coords t) (st0 t) (hstage0_0 (((cfg0 a).slots t (0 : Fin 5)).cast nbuf0_0))
    (st1 t) (hstage0_1 (((cfg0 a).slots t (1 : Fin 5)).cast nbuf0_1)) (st2 t) (hstage0_2 (((cfg0 a).slots t (2 : Fin 5)).cast nbuf0_2))
    (st3 t) (hstage0_3 (((cfg0 a).slots t (3 : Fin 5)).cast nbuf0_3)) (st4 t) (hstage0_4 (((cfg0 a).slots t (4 : Fin 5)).cast nbuf0_4))
    sc0 (Memref.isWhole_whole _) sc1 (Memref.isWhole_whole _) sc2 (Memref.isWhole_whole _) (a.1 0) (a.1 1) (a.1 2)
    (iblk a V c 0 t) (iblk a V c 1 t) (iblk a V c 2 t) (iblk a V c 3 t) s0 s1 s2 _)
  isplitl [H0]; · iexact H0
  isplitl [H1]; · iexact H1
  isplitl [H2]; · iexact H2
  isplitl [H3]; · iexact H3
  isplitl [H4]; · iexists _; iexact H4
  isplitl [HS]; · iexact HS
  isplitl [HT]; · iexact HT
  rw [ho]
  iintro ⟨H0, H1, H2, H3, H4, HS, HT⟩
  isplitl [HS HT HR]
  · isplitl [HS]
    · iexists _, _, _; isplitr; swap; (· iexact HS); ipureintro; exact hh'
    isplitl [HT]; · iexact HT
    iexact HR
  isplitl [Ho]; · iexact Ho
  isplitl [H0]; · iexact H0
  isplitl [H1]; · iexact H1
  isplitl [H2]; · iexact H2
  isplitl [H3]; · iexact H3
  iexact H4

end Cert.Kernel2Ideal.Moe
-- ==== Proof.MoeRun.lean ====
module

public import proofs.«01_k».proof.Proof.MoeLaunch

/-! # The run of the experts' program -/

@[expose] public section

set_option maxRecDepth 16384
set_option Elab.async false

noncomputable section

namespace Cert.Kernel2Ideal.Moe

open Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

/-- The tables one by one. -/
theorem tables_eq (c : Dev nD) (q : PosShare TreeShare) (v : pre0.Contents (Elt F)) :
    (Pipeline.prefHeld (Ix := Unit) (Name := ℕ) (U := UR sig nD τ) (Lvl := ℕ) pre0 c (fun _ => q) v : sProp 𝕄)
      = iprop((tb0.view.loc (c : Thread nD τ) ↦{q} v 0) ∗ (tb1.view.loc (c : Thread nD τ) ↦{q} v 1) ∗ (tb2.view.loc (c : Thread nD τ) ↦{q} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

variable (m : (ℓ : Loc nD τ sig) → Buf (Elt F) ℓ) (ρ : Dev nD → PrngReg)

/-- The buffers' contents when the call begins: after the host's operations. -/
abbrev V (c : Dev nD) (b : Ref sig .tc) : Buf (Elt F) ((c : Thread nD τ).loc b) := StableHlo.after hostOps0 (fun b => m (c, b)) b

theorem fresh_ops : (hostOps0 : List (HloOp τ sig (Elt F))).Forall fun op => op.fresh = ∅ := by
  simp only [List.Forall]; repeat' constructor

section
variable (a : (pcfg0 (F := F)).Adm) (W : (c : Dev nD) → (b : Ref sig .tc) → Buf (Elt F) ((c : Thread nD τ).loc b))

/-- The invariant at the first point. -/
theorem enter (c : Dev nD) :
    iprop(Pipeline.ΦA (U := UR sig nD τ) (Val := Elt F) spec0 c ∗ Pipeline.ΦT (U := UR sig nD τ) pre0 a.1 c) ⊢ (dats a W 0 c).Φ 0 := by
  rw [show (dats a W 0 c).Φ 0 = Phi a W c 0 from rfl]
  unfold Pipeline.ΦA Pipeline.ΦT Phi
  rw [tables_eq, scopedRest0_eq]
  simp only [owns_whole]
  iintro ⟨⟨⟨⟨%f0, H0⟩, ⟨%f1, H1⟩, ⟨%f2, H2⟩⟩, HR⟩, HT⟩
  isplitl [H0 H1 H2]
  · iexists f0, f1, f2
    isplitr; · ipureintro; intro t h; exact absurd h (by omega)
    isplitl [H0]; · iexact H0
    isplitl [H1]; · iexact H1
    iexact H2
  isplitl [HT]; · iexact HT
  iexact HR

/-- What is left at the last point. -/
theorem leave (c : Dev nD) : (dats a W 0 c).Φ (Fin.last (cfg0 a).N) ⊢ Pipeline.ΦA (U := UR sig nD τ) (Val := Elt F) spec0 c := by
  rw [show (dats a W 0 c).Φ (Fin.last (cfg0 a).N) = Phi a W c (cfg0 a).N from rfl]
  unfold Pipeline.ΦA Phi
  rw [scopedRest0_eq]
  simp only [owns_whole]
  iintro ⟨⟨%s0, %s1, %s2, -, H0, H1, H2⟩, -, HR⟩
  isplitl [H0 H1 H2]
  · isplitl [H0]; · iexists s0; iexact H0
    isplitl [H1]; · iexists s1; iexact H1
    iexists s2; iexact H2
  iexact HR
end

set_option backward.isDefEq.respectTransparency.types false in
set_option maxHeartbeats 4000000 in
/-- THE RUN: every array ends as the blocks make it, every other buffer as the call found it, no counter is left. -/
theorem run_main (a : (pcfg0 (F := F)).Adm) (hs : Steady a.1) (hpf : ∀ c k, V m c (pre0.ref k) = a.1 k) :
    θ_run (defs (F := F)) (onTc (τ := τ) (main (F := F))) (s₀ m ρ) (fun r =>
      Pipeline.FramePost (Pipeline.pin (pcfgs (F := F)) fun _ => a) (dats a (V m)) 0 (V m) r ∧ r.2.sem = fun _ => 0) :=
  Pipeline.θ_run_frameP_track (pcfgs (F := F)) (fun _ => a) (dats a (V m)) 0 launch0 defs₀ Variants.none m ρ main
    (fun c => (obligation (V m) hs c).loose)
    (fun c w => by unfold Dat.share; split <;> rfl) (fun _ _ => rfl) (V m)
    (Pipeline.hmainP_prefix pcfgs 0 defs₀ Variants.none m main hostOps0 hostOps0_sub fresh_ops main_chain)
    (fun _ _ => rfl) hpf (enter a (V m)) (leave a (V m)) _ (fun _ h => h)

/-- No operation of the host writes a buffer outside its results. -/
theorem V_of_arg (c : Dev nD) (b : Ref sig .tc) (h : (hostOps0 : List (HloOp τ sig (Elt F))).Forall fun op => Proc.devRef .tc b ∉ op.writes) :
    V m c b = m ((c : Thread nD τ).loc b) :=
  StableHlo.after_of_forall_not_mem (b := Proc.devRef .tc b) _ _ (List.forall_iff_forall_mem.mp h)

set_option maxHeartbeats 800000 in
/-- The argument arrays are as launched when the call begins. -/
theorem V_args (c : Dev nD) :
    V m c main_arg0 = m ((c : Thread nD τ).loc main_arg0) ∧ V m c main_arg1 = m ((c : Thread nD τ).loc main_arg1)
      ∧ V m c main_arg2 = m ((c : Thread nD τ).loc main_arg2) ∧ V m c main_arg3 = m ((c : Thread nD τ).loc main_arg3)
      ∧ V m c main_arg4 = m ((c : Thread nD τ).loc main_arg4) ∧ V m c main_arg5 = m ((c : Thread nD τ).loc main_arg5) := by
  refine ⟨V_of_arg m c _ ?_, V_of_arg m c _ ?_, V_of_arg m c _ ?_, V_of_arg m c _ ?_, V_of_arg m c _ ?_, V_of_arg m c _ ?_⟩ <;>
  · simp only [hostOps0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)

variable {m} in
/-- After the run every argument is as launched. -/
theorem kept {a : (pcfg0 (F := F)).Adm} {r} (h : Pipeline.FramePost (Pipeline.pin (pcfgs (F := F)) fun _ => a) (dats a (V m)) 0 (V m) r)
    (c : Dev nD) : r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  obtain ⟨v0, v1, v2, v3, v4, v5⟩ := V_args m c
  exact ⟨((h c).1 (0 : Fin 5)).trans (((dats a (V m) 0 c).arrAt_in (0 : Fin 5) rfl _).trans v0),
    ((h c).2 main_arg1 (Pipeline.mem_restRefs_of main_arg1 (by decide) (show ∀ w : Fin 5, (spec0 w).arr.view.ref ≠ main_arg1 by decide))).trans v1,
    ((h c).2 main_arg2 (Pipeline.mem_restRefs_of main_arg2 (by decide) (show ∀ w : Fin 5, (spec0 w).arr.view.ref ≠ main_arg2 by decide))).trans v2,
    ((h c).1 (1 : Fin 5)).trans (((dats a (V m) 0 c).arrAt_in (1 : Fin 5) rfl _).trans v3),
    ((h c).1 (2 : Fin 5)).trans (((dats a (V m) 0 c).arrAt_in (2 : Fin 5) rfl _).trans v4),
    ((h c).1 (3 : Fin 5)).trans (((dats a (V m) 0 c).arrAt_in (3 : Fin 5) rfl _).trans v5)⟩

/-- THE FRAME of a run whose tables steer inside the arrays: the arguments stay, no counter is left. -/
theorem frame_of (a : (pcfg0 (F := F)).Adm) (hs : Steady a.1) (hpf : ∀ c k, V m c (pre0.ref k) = a.1 k) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨kept h.1, h.2⟩) (run_main m ρ a hs hpf)

end Cert.Kernel2Ideal.Moe
-- ==== Proof.MoeTables.lean ====
module

public import proofs.«01_k».proof.Proof.MoeRun
public import Idealize.ShloMosaic.Lib.WordArith
public import Idealize.ShloMosaic.Lib.ValueIdxCore

/-! # The tables of the experts' program

Under the range that the routing draws its tables from, the third table holds at block `b` the expert of the last used
block at or below `b`, so that every index map stays inside its array. -/

@[expose] public section

set_option maxRecDepth 16384
set_option Elab.async false

noncomputable section

namespace Cert.Kernel2Ideal.Moe
open Cert.Kernel2Ideal.Gen
open Idealize.ShloMosaic Idealize.ShloMosaic.TcCoe Idealize.ShloMosaic.Tactic Idealize.ShloMosaic.ValueIdx
open Idealize.SL.Sem

variable {F : FTy → Type} [FloatOps F]

/-- The number of the blocks in use, of the table that holds it. -/
def used (T1 : IVec S1 32) : ℕ := (T1 (ix1 0)).toNat

/-- The range that the routing draws its tables from. -/
def Routed (T0 : IVec S80 32) (T1 : IVec S1 32) : Prop :=
  (∀ b : Fin 80, (T0 (ix1 b)).toNat < 16) ∧ 1 ≤ used T1 ∧ used T1 < 2 ^ 31

/-- The last used block at or below block `b`. -/
def last (T1 : IVec S1 32) (b : Fin 80) : Fin 80 := ⟨min b.val (used T1 - 1), by omega⟩

/-- The smaller one of a block's number and the number of the last used block. -/
theorem word_last {T1 : IVec S1 32} (h1 : 1 ≤ used T1) (h2 : used T1 < 2 ^ 31) (b : Fin 80) :
    (IntOp.minsi (BitVec.ofNat 32 b.val) (IntOp.subi (T1 (ix1 0)) 1#32)).toNat = min b.val (used T1 - 1) := by
  have hs : (IntOp.subi (T1 (ix1 0)) 1#32).toNat = used T1 - 1 := by
    unfold used at *
    show ((T1 (ix1 0)) - 1#32).toNat = _
    rw [BitVec.toNat_sub_of_le (by rw [BitVec.le_def]; simpa using h1)]; rfl
  have hb : (BitVec.ofNat 32 b.val).toNat = b.val := WordCmp.toNat_ofNat_of_lt (by omega)
  have h := WordArith.toNat_minsi_of_lt (BitVec.ofNat 32 b.val) (IntOp.subi (T1 (ix1 0)) 1#32) (by omega) (by omega)
  rw [hb, hs] at h
  exact h

/-- One word of a table of eighty, gathered at a list of starts. -/
theorem gather_read (x : IVec S80 32) (idx : IVec S80x1 32) (b : Fin 80) :
    Host.gather gather_S80_S80x1_S80_n_0_n_n_0_1_1 x idx (ix1 b)
      = x (ix1 ⟨min (idx (ix2 b 0)).toInt.toNat 79, by omega⟩) := by
  unfold Host.gather
  congr 1
  funext a
  obtain rfl : a = 0 := Subsingleton.elim _ _
  refine Fin.ext ?_
  show (gather_S80_S80x1_S80_n_0_n_n_0_1_1).start (ix1 b) idx 0 + (gather_S80_S80x1_S80_n_0_n_n_0_1_1).batchCoord (ix1 b) 0
    + (gather_S80_S80x1_S80_n_0_n_n_0_1_1).offCoord (ix1 b) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gather_S80_S80x1_S80_n_0_n_n_0_1_1).startIndexMap from List.mem_singleton.mpr rfl)]
  refine congrArg (fun z : S80x1.Idx => min (idx z).toInt.toNat 79) ?_
  funext k; refine Fin.ext ?_
  match k with
  | ⟨0, _⟩ => rfl
  | ⟨1, _⟩ => rfl

variable (m : (ℓ : Loc nD τ sig) → Buf (Elt F) ℓ)

/-- THE THIRD TABLE: at block `b` the expert of the last used block at or below it. -/
theorem table_2 (c : Dev nD) (h : Routed (m ((c : Thread nD τ).loc main_arg1)) (m ((c : Thread nD τ).loc main_arg2))) (b : Fin 80) :
    (V m c main_v11 : IVec S80 32) (ix1 b)
      = (m ((c : Thread nD τ).loc main_arg1) : IVec S80 32) (ix1 (last (m ((c : Thread nD τ).loc main_arg2)) b)) := by
  obtain ⟨-, h1, h2⟩ := h
  entry_read
  rw [gather_read]
  change 1 ≤ used (m (c, Proc.tc.devRef main_arg2)) at h1
  change used (m (c, Proc.tc.devRef main_arg2)) < _ at h2
  change _ = (m ((c : Thread nD τ).loc main_arg1) : IVec S80 32) (ix1 (last (m (c, Proc.tc.devRef main_arg2)) b))
  generalize (m (c, Proc.tc.devRef main_arg2) : IVec S1 32) = T1 at *
  refine congrArg (fun z : Fin 80 => (m ((c : Thread nD τ).loc main_arg1) : IVec S80 32) (ix1 z)) (Fin.ext ?_)
  have hw := word_last h1 h2 b
  have hr : ∀ z, (shapeCast S_ (T1 : IVec S1 32) shapeCasts_S1_S_) z = T1 (ix1 0) := fun z => by
    refine congrArg T1 (funext fun a => ?_)
    obtain rfl : a = (0 : Fin 1) := Subsingleton.elim (α := Fin 1) _ _
    exact Subsingleton.elim (α := Fin 1) _ _
  show min (Scalar.select (IntOp.cmpi .slt (IntOp.minsi (BitVec.ofNat 32 b.val) (IntOp.subi ((shapeCast S_ T1 shapeCasts_S1_S_) _) 1#32)) 0#32)
    (IntOp.addi (IntOp.minsi (BitVec.ofNat 32 b.val) (IntOp.subi ((shapeCast S_ T1 shapeCasts_S1_S_) _) 1#32)) 80#32)
    (IntOp.minsi (BitVec.ofNat 32 b.val) (IntOp.subi ((shapeCast S_ T1 shapeCasts_S1_S_) _) 1#32))).toInt.toNat 79 = min b.val (used T1 - 1)
  rw [hr]
  generalize IntOp.minsi (BitVec.ofNat 32 b.val) (IntOp.subi (T1 (ix1 0)) 1#32) = w at *
  have hlt : w.toNat < 2 ^ 31 := by omega
  rw [WordCmp.cmpi_slt_zero, WordCmp.select_decide, if_neg (by omega), WordCmp.toInt_eq_toNat_of_lt_half hlt, hw]
  omega

/-- The block's number on the grid. -/
abbrev blockNo (i : grid0.Coords) : Fin 80 := ⟨(i 0).val, (i 0).isLt⟩

/-- What the body reads as the number of used blocks. -/
theorem count_eq (T1 : IVec S1 32) : count (F := F) T1 = T1 (ix1 0) := by
  refine congrArg T1 (funext fun a => ?_)
  obtain rfl : a = (0 : Fin 1) := Subsingleton.elim (α := Fin 1) _ _
  exact Subsingleton.elim (α := Fin 1) _ _

/-- What the body reads as the block's expert. -/
theorem expert_eq (i : grid0.Coords) (T0 : IVec S80 32) : expert (F := F) i T0 = T0 (ix1 (blockNo i)) := by
  refine congrArg T0 (funext fun a => ?_)
  obtain rfl : a = (0 : Fin 1) := Subsingleton.elim (α := Fin 1) _ _
  refine Fin.ext ?_
  have : (k0_off1 i) 0 = (i 0).val := WordCmp.toNat_ofNat_of_lt (w := 32) (by have := (i 0).isLt; change _ < 80 at this; omega)
  show (k0_off1 i) 0 + 1 * 0 = _
  omega

/-- What the body reads as the expert of the block before, where there is one. -/
theorem expertBefore_eq (i : grid0.Coords) (T0 : IVec S80 32) (h : 0 < (i 0).val) :
    expertBefore (F := F) i T0 = T0 (ix1 ⟨(i 0).val - 1, by have := (i 0).isLt; change _ < 80 at this; omega⟩) := by
  refine congrArg T0 (funext fun a => ?_)
  obtain rfl : a = (0 : Fin 1) := Subsingleton.elim (α := Fin 1) _ _
  refine Fin.ext ?_
  have hi : (i 0).val < 80 := (i 0).isLt
  have hb : (BitVec.ofNat 32 (i 0).val).toNat = (i 0).val := WordCmp.toNat_ofNat_of_lt (by omega)
  have hs : (BitVec.ofNat 32 (i 0).val - 1#32).toNat = (i 0).val - 1 := by
    rw [BitVec.toNat_sub_of_le (by rw [BitVec.le_def, hb]; exact h), hb]; rfl
  have : (k0_off2 i) 0 = (i 0).val - 1 := by
    show (IntOp.maxsi (BitVec.ofNat 32 (i 0).val - 1#32) 0#32).toNat = _
    unfold IntOp.maxsi
    split
    · exact hs
    · next hn =>
      rw [BitVec.slt_iff_toInt_lt, WordCmp.toInt_eq_toNat_of_lt_half (x := BitVec.ofNat 32 (i 0).val - 1#32) (by omega), hs] at hn
      have : (0#32).toInt = 0 := rfl
      have : (0#32).toNat = 0 := rfl
      omega
  show (k0_off2 i) 0 + 1 * 0 = _
  omega

/-- A block is used if its number is below the number of the used blocks. -/
theorem used_iff {T1 : IVec S1 32} (h2 : used T1 < 2 ^ 31) (i : grid0.Coords) :
    Used (F := F) i T1 ↔ (i 0).val < used T1 := by
  have hi : (i 0).val < 80 := (i 0).isLt
  have hb : (BitVec.ofNat 32 (i 0).val).toNat = (i 0).val := WordCmp.toNat_ofNat_of_lt (by omega)
  unfold Used k0_cond2
  rw [count_eq]
  show Scalar.cmpi .ne (Scalar.extui (IntOp.cmpi .slt (BitVec.ofNat 32 (i 0).val) (T1 (ix1 0))) : BitVec 32) 0#32 = 1#1 ↔ _
  rw [WordCmp.cmpi_slt_of_lt (by omega) h2, hb]
  unfold used
  by_cases h : (i 0).val < (T1 (ix1 0)).toNat <;> simp [h, Scalar.cmpi, IntOp.cmpi, Scalar.extui]

/-- A used block has a new expert if it is the first one or names another expert than the one before. -/
theorem new_iff {T1 : IVec S1 32} (h2 : used T1 < 2 ^ 31) (i : grid0.Coords) (T0 : IVec S80 32) (hu : Used (F := F) i T1) :
    New (F := F) i T0 T1 ↔ (i 0).val = 0 ∨ expert (F := F) i T0 ≠ expertBefore (F := F) i T0 := by
  have hi : (i 0).val < 80 := (i 0).isLt
  have hb : (BitVec.ofNat 32 (i 0).val).toNat = (i 0).val := WordCmp.toNat_ofNat_of_lt (by omega)
  have hu' := (used_iff h2 i).1 hu
  unfold New
  rw [count_eq]
  generalize expert (F := F) i T0 = x
  generalize expertBefore (F := F) i T0 = y
  have e0 : Scalar.cmpi .eq (BitVec.ofNat 32 (i 0).val) 0#32 = BitVec.ofBool (decide ((i 0).val = 0)) := by
    show IntOp.cmpi .eq _ _ = _
    rw [WordCmp.cmpi_eq_eq_toNat, hb]; rfl
  have e1 : Scalar.cmpi .ne x y = BitVec.ofBool (decide (x ≠ y)) := WordCmp.cmpi_ne_eq x y
  have e2 : Scalar.cmpi .slt (BitVec.ofNat 32 (i 0).val) (T1 (ix1 0)) = BitVec.ofBool true := by
    show IntOp.cmpi .slt _ _ = _
    rw [WordCmp.cmpi_slt_of_lt (by omega) h2, hb]
    exact congrArg _ (decide_eq_true hu')
  rw [e0, e1, e2]
  by_cases h0 : (i 0).val = 0 <;> by_cases h1 : x = y <;>
    simp [h0, h1, Scalar.andi, Scalar.ori, IntOp.andi, IntOp.ori, Scalar.cmpi, IntOp.cmpi, Scalar.extui]

/-! ## The tables at the launch -/

/-- The tables' contents when the call begins, on the one device. -/
def tab : pre0.Contents (Elt F) := fun k => V m 0 (pre0.ref k)

theorem tab_eq (c : Dev nD) (k : Fin 3) : V m c (pre0.ref k) = tab m k := by
  obtain rfl : c = 0 := Subsingleton.elim _ _
  rfl

variable {m} (h : Routed (m (((0 : Dev nD) : Thread nD τ).loc main_arg1)) (m (((0 : Dev nD) : Thread nD τ).loc main_arg2)))

theorem tab_0 : (tab m 0 : IVec S80 32) = m (((0 : Dev nD) : Thread nD τ).loc main_arg1) := (V_args m 0).2.1
theorem tab_1 : (tab m 1 : IVec S1 32) = m (((0 : Dev nD) : Thread nD τ).loc main_arg2) := (V_args m 0).2.2.1

include h

/-- The index of a window of weights. -/
theorem weight_ix (i : grid0.Coords) :
    (tab m).at 2 (Rect.unit (s := S80) (k0_off1 i) S1.size (k0_off1_inb i)) numel1_S1
      = (m (((0 : Dev nD) : Thread nD τ).loc main_arg1) : IVec S80 32) (ix1 (last (m (((0 : Dev nD) : Thread nD τ).loc main_arg2)) (blockNo i))) :=
  (expert_eq (F := F) i (tab m 2)).trans (table_2 m 0 h (blockNo i))

/-- The index maps of the weights, at the launch's tables. -/
theorem ix_weights (i : grid0.Coords) :
    ix0 (tab m) 1 i = ![0, ((m (((0 : Dev nD) : Thread nD τ).loc main_arg1) : IVec S80 32) (ix1 (last (m (((0 : Dev nD) : Thread nD τ).loc main_arg2)) (blockNo i)))).toNat, 0, 0] :=
  congrArg (fun v : BitVec 32 => ![0, v.toNat, 0, 0]) (weight_ix h i)

/-- The index map of the tokens, at the launch's tables. -/
theorem ix_tokens (i : grid0.Coords) :
    ix0 (tab m) 0 i = ![(last (m (((0 : Dev nD) : Thread nD τ).loc main_arg2)) (blockNo i)).val, 0] := by
  refine congrArg (fun n : ℕ => ![n, 0]) ?_
  refine Eq.trans ?_ (word_last h.2.1 h.2.2 (blockNo i))
  refine congrArg (fun v : BitVec 32 => (IntOp.minsi (BitVec.ofNat 32 (i 0).val) (IntOp.subi v 1#32)).toNat) ?_
  exact (count_eq (F := F) (tab m 1)).trans (congrArg (fun T : IVec S1 32 => T (ix1 0)) tab_1)

/-- THE TABLES STEER INSIDE THE ARRAYS. -/
theorem tab_ok : ok0 (tab m) := by
  have hw : ∀ i : grid0.Coords, ∀ a, (ix0 (tab m) 1 i a + 1) * S1x1x1024x512.size a ≤ S4x16x1024x512.size a := by
    intro i a
    rw [ix_weights h i]
    have := h.1 (last (m (((0 : Dev nD) : Thread nD τ).loc main_arg2)) (blockNo i))
    generalize BitVec.toNat _ = e at *
    match a with
    | ⟨0, _⟩ => show (0 + 1) * 1 ≤ 4; omega
    | ⟨1, _⟩ => show (e + 1) * 1 ≤ 16; omega
    | ⟨2, _⟩ => show (0 + 1) * 1024 ≤ 1024; omega
    | ⟨3, _⟩ => show (0 + 1) * 512 ≤ 512; omega
  have hd : ∀ i : grid0.Coords, ∀ a, (ix0 (tab m) 1 i a + 1) * S1x1x512x1024.size a ≤ S4x16x512x1024.size a := by
    intro i a
    rw [ix_weights h i]
    have := h.1 (last (m (((0 : Dev nD) : Thread nD τ).loc main_arg2)) (blockNo i))
    generalize BitVec.toNat _ = e at *
    match a with
    | ⟨0, _⟩ => show (0 + 1) * 1 ≤ 4; omega
    | ⟨1, _⟩ => show (e + 1) * 1 ≤ 16; omega
    | ⟨2, _⟩ => show (0 + 1) * 512 ≤ 512; omega
    | ⟨3, _⟩ => show (0 + 1) * 1024 ≤ 1024; omega
  have hx : ∀ i : grid0.Coords, ∀ a, (ix0 (tab m) 0 i a + 1) * S512x1024.size a ≤ S40960x1024.size a := by
    intro i a
    rw [ix_tokens h i]
    generalize last _ (blockNo i) = b
    have := b.isLt
    match a with
    | ⟨0, _⟩ => show (b.val + 1) * 512 ≤ 40960; omega
    | ⟨1, _⟩ => show (0 + 1) * 1024 ≤ 1024; omega
  exact ⟨fun i => ⟨hx i, .inl rfl⟩, fun i => ⟨hw i, .inl rfl⟩, fun i => ⟨hw i, .inl rfl⟩, fun i => ⟨hd i, .inl rfl⟩⟩

omit h in
/-- The number of a point of the grid. -/
theorem coords_val (t : Fin grid0.N) : (grid0.coords t 0).val = t.val := by
  rw [Pipeline.Grid.coords_val t (0 : Fin 1) (S := 1) (B := 80) rfl rfl]
  have := t.isLt
  have hN : grid0.N = 80 := N_0
  omega

omit h in
/-- The last used block at or below a used one is itself. -/
theorem last_of_used {T1 : IVec S1 32} {b : Fin 80} (hb : b.val < used T1) : last T1 b = b :=
  Fin.ext (by show min b.val (used T1 - 1) = b.val; omega)

/-- A USED BLOCK WITHOUT A NEW EXPERT follows a used block of the same expert. -/
theorem tab_steady : Steady (tab m) := by
  intro t hu hn
  rw [tab_1] at hu hn
  rw [tab_0] at hn
  have hb := (used_iff h.2.2 _).1 hu
  rw [new_iff h.2.2 _ _ hu] at hn
  obtain ⟨h0, he⟩ := not_or.mp hn
  have he := not_not.mp he
  have hv := coords_val t
  rw [expert_eq, expertBefore_eq _ _ (by omega)] at he
  have hlt : t.val - 1 < grid0.N := by have := t.isLt; omega
  have hv' := coords_val ⟨t.val - 1, hlt⟩
  have hb' : (grid0.coords ⟨t.val - 1, hlt⟩ 0).val < used (m (((0 : Dev nD) : Thread nD τ).loc main_arg2)) := by
    rw [hv']; show t.val - 1 < _; omega
  have hi : ix0 (tab m) 1 (grid0.coords ⟨t.val - 1, hlt⟩) = ix0 (tab m) 1 (grid0.coords t) := by
    rw [ix_weights h, ix_weights h, last_of_used (b := blockNo (grid0.coords t)) hb, last_of_used (b := blockNo (grid0.coords ⟨t.val - 1, hlt⟩)) hb', he]
    refine congrArg (fun b : Fin 80 => ![0, ((m (((0 : Dev nD) : Thread nD τ).loc main_arg1) : IVec S80 32) (ix1 b)).toNat, 0, 0]) (Fin.ext ?_)
    show (grid0.coords ⟨t.val - 1, hlt⟩ 0).val = (grid0.coords t 0).val - 1
    rw [hv', hv]
  refine ⟨⟨t.val - 1, hlt⟩, by show t.val - 1 + 1 = t.val; omega, ?_, hi, hi, hi⟩
  rw [tab_1]
  exact (used_iff h.2.2 _).2 hb'

/-- The tables as the program's launch takes them. -/
def adm : (pcfg0 (F := F)).Adm := ⟨tab m, tab_ok h⟩

/-- THE FRAME under the routing's range. -/
theorem frame_routed (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  frame_of m ρ (adm h) (tab_steady h) (tab_eq m)

end Cert.Kernel2Ideal.Moe
-- ==== Proof.MoeFrame.lean ====
module

public import proofs.«01_k».proof.Defs
public import proofs.«01_k».proof.Proof.Gen.Kernel2
public import proofs.«01_k».proof.Proof.Gen.Pre_routed
public import proofs.«01_k».proof.Proof.MoeTables
public import Idealize.ShloMosaic.Lib.ReduceAll

/-! # The frames of the experts' program and of its idealization -/

@[expose] public section

set_option maxRecDepth 16384

noncomputable section

namespace Cert.MoeFrame
open Idealize.ShloMosaic Idealize.ShloMosaic.ValueIdx Idealize.SL.Sem
open Cert.Kernel2Ideal.Moe (Routed used)

/-- What the precondition says of the tables. -/
theorem routed {F : FTy → Type} [FloatOps F] (x : FVec F Cert.Pre_routed.S40960x1024 .f32) (T0 : IVec Cert.Pre_routed.S80 32)
    (T1 : IVec Cert.Pre_routed.S1 32) (g u : FVec F Cert.Pre_routed.S4x16x1024x512 .f32) (d : FVec F Cert.Pre_routed.S4x16x512x1024 .f32)
    (h : Cert.Pre_routed.fn (F := F) x T0 T1 g u d = fun _ => 1#1) : Routed T0 T1 := by
  have hand : ∀ a b : BitVec 1, IntOp.andi a b = 1#1 → a = 1#1 ∧ b = 1#1 := by decide
  have h0 := congrFun h (fun i => absurd i.isLt (by simp [Cert.Pre_routed.S_]))
  dsimp only [Cert.Pre_routed.fn] at h0
  obtain ⟨hb, hn⟩ := hand _ _ h0
  have hS : Subsingleton Cert.Pre_routed.S_.Idx := ⟨fun a b => funext fun i => absurd i.isLt (by simp [Cert.Pre_routed.S_])⟩
  have en : IntOp.cmpi .sge (T1 (ix1 0)) 1#32 = 1#1 := Host.reduce_andi_all _ _ _ _ _ hn (ix1 0)
  rw [WordCmp.cmpi_sge_eq, WordCmp.ofBool_decide_eq_one_iff] at en
  have e1 : (1#32).toInt = 1 := rfl
  have hlt : (T1 (ix1 0)).toNat < 2 ^ 31 := (WordCmp.toInt_nonneg_iff_lt_half (w := 32) _).1 (by omega)
  rw [WordCmp.toInt_eq_toNat_of_lt_half (w := 32) hlt, e1] at en
  refine ⟨fun b => ?_, by unfold used; omega, hlt⟩
  have eb := Host.reduce_andi_all _ _ _ _ _ hb (ix1 b)
  obtain ⟨e0, e2⟩ := hand _ _ eb
  change IntOp.cmpi .sge (T0 (ix1 b)) 0#32 = 1#1 at e0
  change IntOp.cmpi .slt (T0 (ix1 b)) 16#32 = 1#1 at e2
  rw [WordCmp.cmpi_sge_zero, WordCmp.ofBool_decide_eq_one_iff] at e0
  rw [WordCmp.cmpi_slt_eq, WordCmp.ofBool_decide_eq_one_iff, WordCmp.toInt_eq_toNat_of_lt_half (w := 32) e0] at e2
  have e16 : (16#32).toInt = 16 := rfl
  omega

/-- The idealization's frame. -/
theorem frame_ideal : Cert.quiescent_Kernel2Ideal := fun m ρ hp =>
  Cert.Kernel2Ideal.Moe.frame_routed (F := Ideal) (m := m) (routed _ _ _ _ _ _ (hp 0)) ρ

/-! The kernel and its idealization have one text, so their frames are one. -/

/-- The two bodies are one. -/
theorem body_eq {F : FTy → Type} [FloatOps F] : Cert.Kernel2.defs₀ (F := F) = Cert.Kernel2Ideal.defs₀ (F := F) := by
  unfold Cert.Kernel2.defs₀ Cert.Kernel2Ideal.defs₀
  congr 1
  funext l x
  match l with
  | 0 => rfl
  | ⟨n + 1, h⟩ => exact absurd h (Nat.not_lt.2 (Nat.le_add_left _ _))

/-- The two tables of bodies are one. -/
theorem defs_eq {F : FTy → Type} [FloatOps F] : Cert.Kernel2.defs (F := F) = Cert.Kernel2Ideal.defs (F := F) := by
  unfold Cert.Kernel2.defs Cert.Kernel2Ideal.defs
  exact congrArg (Pipeline.defs (Cert.Kernel2Ideal.pcfgs (F := F))) body_eq

set_option maxHeartbeats 2000000 in
/-- The two programs are one. -/
theorem main_eq {F : FTy → Type} [FloatOps F] : Cert.Kernel2.main (F := F) = Cert.Kernel2Ideal.main (F := F) := by
  funext c
  unfold Cert.Kernel2.main Cert.Kernel2Ideal.main
  rfl

/-- The kernel's own frame. -/
theorem frame_kernel : Cert.quiescent_Kernel2 := fun m ρ hp => by
  have h := Cert.Kernel2Ideal.Moe.frame_routed (F := Bits) (m := m) (routed _ _ _ _ _ _ (hp 0)) ρ
  rw [← defs_eq, ← main_eq] at h
  exact h

end Cert.MoeFrame

end
-- ==== Proof.MoeSpec.lean ====
module

public import Idealize.ShloMosaic.PureOps.Ideal

/-! # What the experts' call works out

Rows come in blocks of 512. Every block names one of sixteen experts, and only the first blocks are used. A row of a used
block goes through its expert — the gate and the upward product, then the downward one — and every other row gives
zeros. -/

@[expose] public section

noncomputable section

namespace Cert.MoeSpec

open Idealize.ShloMosaic

/-- `z` times the logistic function of `z`. -/
def silu (z : EReal) : EReal := z * Ideal.div 1 (1 + Ideal.exp (-z))

/-- The block of a row. -/
def block (R : Fin 40960) : Fin 80 := ⟨R.val / 512, by omega⟩

/-- The expert that a word of the table names. -/
def named (w : BitVec 32) : Fin 16 := ⟨w.toNat % 16, by omega⟩

/-- Element `f` of what expert `e` works out from the row `x` before the downward product. -/
def hidden (G U : Fin 16 → Fin 1024 → Fin 512 → EReal) (x : Fin 1024 → EReal) (e : Fin 16) (f : Fin 512) : EReal :=
  silu (∑ d : Fin 1024, x d * G e d f) * ∑ d : Fin 1024, x d * U e d f

/-- The result at row `R` and column `C`: `n` blocks are used and block `b` names the expert `be b`. -/
def out (X : Fin 40960 → Fin 1024 → EReal) (be : Fin 80 → Fin 16) (n : ℕ) (G U : Fin 16 → Fin 1024 → Fin 512 → EReal)
    (D : Fin 16 → Fin 512 → Fin 1024 → EReal) (R : Fin 40960) (C : Fin 1024) : EReal :=
  if (block R).val < n then ∑ f : Fin 512, hidden G U (X R) (be (block R)) f * D (be (block R)) f C else 0

end Cert.MoeSpec

end
-- ==== Proof.MoeValue.lean ====
module

public import proofs.«01_k».proof.Proof.MoeTables
public import proofs.«01_k».proof.Proof.MoeSpec
public import Idealize.ShloMosaic.Lib.Pointwise
public import Idealize.ShloMosaic.Lib.Pipeline.Covers

/-! # The experts' call works out the experts

What the body stores at a used block, read at an index, and the result array after the run. -/

@[expose] public section

set_option maxRecDepth 16384

noncomputable section

namespace Cert.Kernel2Ideal.Moe

open Cert.Kernel2Ideal.Gen
open Idealize.ShloMosaic Idealize.ShloMosaic.TcCoe Idealize.ShloMosaic.Tactic
open Idealize.SL.Sem

/-! ## The body at an index -/

/-- The gate's stored weights. -/
theorem pay1_at (w : Vec Ideal S1x1x1024x512 .f32) (d : Fin 1024) (f : Fin 512) : k0_pay1 w (ix2 d f) = w (ix4 0 0 d f) := by
  unfold k0_pay1
  pointwise

/-- The upward stored weights. -/
theorem pay2_at (w : Vec Ideal S1x1x1024x512 .f32) (d : Fin 1024) (f : Fin 512) : k0_pay2 w (ix2 d f) = w (ix4 0 0 d f) := by
  unfold k0_pay2
  pointwise

/-- The downward stored weights. -/
theorem pay3_at (w : Vec Ideal S1x1x512x1024 .f32) (f : Fin 512) (d : Fin 1024) : k0_pay3 w (ix2 f d) = w (ix4 0 0 f d) := by
  unfold k0_pay3
  pointwise

/-- What a used block stores. -/
theorem pay4_at (x : Vec Ideal S512x1024 .f32) (s0 s1 : Vec Ideal S1024x512 .bf16) (s2 : Vec Ideal S512x1024 .bf16)
    (r : Fin 512) (C : Fin 1024) : k0_pay4 x s0 s1 s2 (ix2 r C)
      = ∑ f : Fin 512, (MoeSpec.silu (∑ d : Fin 1024, x (ix2 r d) * s0 (ix2 d f)) * ∑ d : Fin 1024, x (ix2 r d) * s1 (ix2 d f))
          * s2 (ix2 f C) := by
  unfold k0_pay4 MoeSpec.silu
  pointwise
  rfl

/-- What any other block stores. -/
theorem pay5_at (r : Fin 512) (C : Fin 1024) : k0_pay5 (F := Ideal) (ix2 r C) = 0 := by
  unfold k0_pay5
  pointwise

/-! ## The blocks at an index -/

variable (a : (pcfg0 (F := Ideal)).Adm) (W : (c : Dev nD) → (b : Ref sig .tc) → Buf (Elt Ideal) ((c : Thread nD τ).loc b))

/-- A block of the tokens. -/
theorem x_at (c : Dev nD) (t : Fin (cfg0 a).N) (b : Fin 80) (e : ix0 a.1 0 (grid0.coords t) = ![b.val, 0]) (r : Fin 512) (d : Fin 1024) :
    (iblk a W c 0 t : Vec Ideal S512x1024 .f32) (ix2 r d)
      = (W c main_arg0 : FVec Ideal S40960x1024 .f32) (ix2 ⟨512 * b.val + r.val, by omega⟩ d) := by
  refine congrArg (W c main_arg0) (funext fun x => Fin.ext ?_)
  refine (Pipeline.Window.rect_emb_val ((cfg0 a).win 0) t (ix2 r d) x rfl).trans ?_
  rw [show ((cfg0 a).win 0).index t = ix0 a.1 0 (grid0.coords t) from rfl, e]
  match x with
  | ⟨0, _⟩ => show b.val * 512 + r.val = 512 * b.val + r.val; omega
  | ⟨1, _⟩ => show 0 * 1024 + d.val = d.val; omega

/-- A block of the gate's weights. -/
theorem g_at (c : Dev nD) (t : Fin (cfg0 a).N) (e : Fin 16) (h : ix0 a.1 1 (grid0.coords t) = ![0, e.val, 0, 0]) (d : Fin 1024) (f : Fin 512) :
    (iblk a W c 1 t : Vec Ideal S1x1x1024x512 .f32) (ix4 0 0 d f) = (W c main_arg3 : FVec Ideal S4x16x1024x512 .f32) (ix4 0 e d f) := by
  refine congrArg (W c main_arg3) (funext fun x => Fin.ext ?_)
  refine (Pipeline.Window.rect_emb_val ((cfg0 a).win 1) t (ix4 0 0 d f) x rfl).trans ?_
  rw [show ((cfg0 a).win 1).index t = ix0 a.1 1 (grid0.coords t) from rfl, h]
  match x with
  | ⟨0, _⟩ => rfl
  | ⟨1, _⟩ => show e.val * 1 + 0 = e.val; omega
  | ⟨2, _⟩ => show 0 * 1024 + d.val = d.val; omega
  | ⟨3, _⟩ => show 0 * 512 + f.val = f.val; omega

/-- A block of the upward weights. -/
theorem u_at (c : Dev nD) (t : Fin (cfg0 a).N) (e : Fin 16) (h : ix0 a.1 2 (grid0.coords t) = ![0, e.val, 0, 0]) (d : Fin 1024) (f : Fin 512) :
    (iblk a W c 2 t : Vec Ideal S1x1x1024x512 .f32) (ix4 0 0 d f) = (W c main_arg4 : FVec Ideal S4x16x1024x512 .f32) (ix4 0 e d f) := by
  refine congrArg (W c main_arg4) (funext fun x => Fin.ext ?_)
  refine (Pipeline.Window.rect_emb_val ((cfg0 a).win 2) t (ix4 0 0 d f) x rfl).trans ?_
  rw [show ((cfg0 a).win 2).index t = ix0 a.1 2 (grid0.coords t) from rfl, h]
  match x with
  | ⟨0, _⟩ => rfl
  | ⟨1, _⟩ => show e.val * 1 + 0 = e.val; omega
  | ⟨2, _⟩ => show 0 * 1024 + d.val = d.val; omega
  | ⟨3, _⟩ => show 0 * 512 + f.val = f.val; omega

/-- A block of the downward weights. -/
theorem d_at (c : Dev nD) (t : Fin (cfg0 a).N) (e : Fin 16) (h : ix0 a.1 3 (grid0.coords t) = ![0, e.val, 0, 0]) (f : Fin 512) (C : Fin 1024) :
    (iblk a W c 3 t : Vec Ideal S1x1x512x1024 .f32) (ix4 0 0 f C) = (W c main_arg5 : FVec Ideal S4x16x512x1024 .f32) (ix4 0 e f C) := by
  refine congrArg (W c main_arg5) (funext fun x => Fin.ext ?_)
  refine (Pipeline.Window.rect_emb_val ((cfg0 a).win 3) t (ix4 0 0 f C) x rfl).trans ?_
  rw [show ((cfg0 a).win 3).index t = ix0 a.1 3 (grid0.coords t) from rfl, h]
  match x with
  | ⟨0, _⟩ => rfl
  | ⟨1, _⟩ => show e.val * 1 + 0 = e.val; omega
  | ⟨2, _⟩ => show 0 * 512 + f.val = f.val; omega
  | ⟨3, _⟩ => show 0 * 1024 + C.val = C.val; omega

/-- What a block holds of the result, from the indices that its windows read: block `b` of the tokens and expert `e`. -/
theorem block_at (c : Dev nD) (t : Fin (cfg0 a).N) (hu : Used (grid0.coords t) (a.1 1)) (b : Fin 80) (e : Fin 16)
    (h0 : ix0 a.1 0 (grid0.coords t) = ![b.val, 0]) (h1 : ix0 a.1 1 (grid0.coords t) = ![0, e.val, 0, 0]) (r : Fin 512) (C : Fin 1024) :
    oblk a W c t (ix2 r C) = ∑ f : Fin 512, MoeSpec.hidden
        (fun e d f => (W c main_arg3 : FVec Ideal S4x16x1024x512 .f32) (ix4 0 e d f))
        (fun e d f => (W c main_arg4 : FVec Ideal S4x16x1024x512 .f32) (ix4 0 e d f))
        (fun d => (W c main_arg0 : FVec Ideal S40960x1024 .f32) (ix2 ⟨512 * b.val + r.val, by omega⟩ d)) e f
      * (W c main_arg5 : FVec Ideal S4x16x512x1024 .f32) (ix4 0 e f C) := by
  unfold oblk result
  rw [if_pos hu, pay4_at]
  unfold MoeSpec.hidden
  refine Finset.sum_congr rfl fun f _ => ?_
  rw [pay3_at, d_at a W c t e h1]
  simp only [pay1_at, pay2_at, g_at a W c t e h1, u_at a W c t e h1, x_at a W c t b h0]

/-! ## The result array -/

/-- The result's index at a point. -/
theorem ix_result (t : Fin grid0.N) (pf : pre0.Contents (Elt Ideal)) : ix0 pf 4 (grid0.coords t) = ![t.val, 0] := by
  have ht : t.val < 80 := t.isLt
  show ![(BitVec.ofNat 32 (grid0.coords t 0).val).toNat, 0] = _
  rw [coords_val, WordCmp.toNat_ofNat_of_lt (by omega)]

/-- The result array's blocks cover it. -/
theorem covers : ((cfg0 a).win (4 : Fin 5)).Covers := by
  refine Pipeline.Window.covers_of_index_surj _ rfl (fun x => ?_) fun β => ?_
  · match x with
    | ⟨0, _⟩ => show 0 < 512; omega
    | ⟨1, _⟩ => show 0 < 1024; omega
  · have n0 : ((cfg0 a).win (4 : Fin 5)).nblk (0 : Fin 2) = 80 := by show (40960 + 512 - 1) / 512 = 80; rfl
    have n1 : ((cfg0 a).win (4 : Fin 5)).nblk (1 : Fin 2) = 1 := by show (1024 + 1024 - 1) / 1024 = 1; rfl
    have h0 : (β (0 : Fin 2)).val < 80 := lt_of_lt_of_eq (β (0 : Fin 2)).isLt n0
    have h1 : (β (1 : Fin 2)).val < 1 := lt_of_lt_of_eq (β (1 : Fin 2)).isLt n1
    refine ⟨(⟨(β (0 : Fin 2)).val, h0⟩ : Fin grid0.N), fun x => ?_⟩
    refine (congrFun (ix_result ⟨(β (0 : Fin 2)).val, h0⟩ a.1) x).trans ?_
    match x with
    | ⟨0, _⟩ => rfl
    | ⟨1, _⟩ => show 0 = (β (1 : Fin 2)).val; omega

/-- The result array from its blocks. -/
theorem array_of (c : Dev nD) (G : S40960x1024.Idx → EReal)
    (hG : ∀ (t : Fin (cfg0 a).N) (r : Fin 512) (C : Fin 1024), oblk a W c t (ix2 r C)
      = G (ix2 (⟨512 * t.val + r.val, by have : t.val < 80 := t.isLt; omega⟩ : Fin 40960) C)) :
    (dats a W 0 c).arrAt (4 : Fin 5) (cfg0 a).N = G := by
  refine (dats a W 0 c).arrAt_eq_of_covers (4 : Fin 5) _ (covers a) fun t _ y => ?_
  have ht : t.val < 80 := t.isLt
  obtain ⟨r, C, rfl⟩ : ∃ (r : Fin 512) (C : Fin 1024), y = ix2 r C := ⟨y 0, y 1, by ext a; fin_cases a <;> rfl⟩
  refine Eq.trans (b := oblk a W c t (ix2 r C)) rfl ((hG t r C).trans ?_)
  refine congrArg G (funext fun x => Fin.ext ?_)
  refine Eq.trans ?_ (Pipeline.Window.rect_emb_val ((cfg0 a).win 4) t (ix2 r C) x rfl).symm
  rw [show ((cfg0 a).win 4).index t = ix0 a.1 4 (grid0.coords t) from rfl, ix_result]
  match x with
  | ⟨0, _⟩ => show 512 * t.val + r.val = t.val * 512 + r.val; omega
  | ⟨1, _⟩ => show C.val = 0 * 1024 + C.val; omega

variable {m : (ℓ : Loc nD τ sig) → Buf (Elt Ideal) ℓ}
  (h : Routed (m (((0 : Dev nD) : Thread nD τ).loc main_arg1)) (m (((0 : Dev nD) : Thread nD τ).loc main_arg2)))

/-- The experts' result from the launch's arrays. -/
def spec (m : (ℓ : Loc nD τ sig) → Buf (Elt Ideal) ℓ) (c : Dev nD) : Fin 40960 → Fin 1024 → EReal :=
  MoeSpec.out (fun R d => (m ((c : Thread nD τ).loc main_arg0) : FVec Ideal S40960x1024 .f32) (ix2 R d))
    (fun b => MoeSpec.named ((m ((c : Thread nD τ).loc main_arg1) : IVec S80 32) (ix1 b)))
    ((m ((c : Thread nD τ).loc main_arg2) : IVec S1 32) (ix1 0)).toNat
    (fun e d f => (m ((c : Thread nD τ).loc main_arg3) : FVec Ideal S4x16x1024x512 .f32) (ix4 0 e d f))
    (fun e d f => (m ((c : Thread nD τ).loc main_arg4) : FVec Ideal S4x16x1024x512 .f32) (ix4 0 e d f))
    (fun e f C => (m ((c : Thread nD τ).loc main_arg5) : FVec Ideal S4x16x512x1024 .f32) (ix4 0 e f C))

/-- What a point stores at row `r` and column `C` of its block. -/
theorem point (t : Fin (cfg0 (adm h)).N) (r : Fin 512) (C : Fin 1024) :
    oblk (adm h) (V m) 0 t (ix2 r C) = spec m 0 ⟨512 * t.val + r.val, by have : t.val < 80 := t.isLt; omega⟩ C := by
  have ht : t.val < 80 := t.isLt
  obtain ⟨hb, h1, h2⟩ := id h
  have hc := coords_val t
  have hblk : MoeSpec.block ⟨512 * t.val + r.val, by omega⟩ = ⟨t.val, ht⟩ := Fin.ext (by show (512 * t.val + r.val) / 512 = t.val; omega)
  have hT : (adm h).1 1 = m (((0 : Dev nD) : Thread nD τ).loc main_arg2) := tab_1 (m := m)
  unfold spec MoeSpec.out
  rw [hblk]
  by_cases hu : t.val < used (m (((0 : Dev nD) : Thread nD τ).loc main_arg2))
  · have hl : last (m (((0 : Dev nD) : Thread nD τ).loc main_arg2)) (blockNo (grid0.coords t)) = ⟨t.val, ht⟩ := by
      rw [last_of_used (by rw [show (blockNo (grid0.coords t)).val = t.val from hc]; exact hu)]
      exact Fin.ext hc
    have hn : (MoeSpec.named ((m (((0 : Dev nD) : Thread nD τ).loc main_arg1) : IVec S80 32) (ix1 ⟨t.val, ht⟩))).val
        = ((m (((0 : Dev nD) : Thread nD τ).loc main_arg1) : IVec S80 32) (ValueIdx.ix1 ⟨t.val, ht⟩)).toNat := Nat.mod_eq_of_lt (hb ⟨t.val, ht⟩)
    refine Eq.trans ?_ (if_pos hu).symm
    rw [block_at (adm h) (V m) 0 t (by rw [hT]; exact (used_iff h2 _).2 (by rw [hc]; exact hu)) ⟨t.val, ht⟩
      (MoeSpec.named ((m (((0 : Dev nD) : Thread nD τ).loc main_arg1) : IVec S80 32) (ix1 ⟨t.val, ht⟩)))
      ((ix_tokens h _).trans (by rw [hl])) ((ix_weights h _).trans (by rw [hl, hn])) r C]
    obtain ⟨v0, -, -, v3, v4, v5⟩ := V_args m 0
    rw [v0, v3, v4, v5]
  · refine Eq.trans ?_ (if_neg hu).symm
    unfold oblk result
    rw [if_neg (by rw [hT]; exact fun hu' => hu (by have := (used_iff h2 _).1 hu'; rwa [hc] at this)), pay5_at]

/-- THE RESULT ARRAY AFTER THE RUN. -/
theorem final : (dats (adm h) (V m) 0 0).arrAt (4 : Fin 5) (cfg0 (adm h)).N = fun i => spec m 0 (i 0) (i 1) :=
  array_of _ _ 0 _ (point h)

include h in
/-- THE RUN: the result is the experts', the arguments stay. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v12) = (fun i => spec m 0 (i 0) (i 1) : S40960x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hr c => ⟨by
      obtain rfl : c = 0 := Subsingleton.elim _ _
      exact ((hr.1 0).1 (4 : Fin 5)).trans (final h), kept hr.1 c⟩) (run_main m ρ (adm h) (tab_steady h) (tab_eq m))

end Cert.Kernel2Ideal.Moe

end
-- ==== Proof.MoeRef.lean ====
module

public import proofs.«01_k».proof.Proof.Gen.Reference2Ideal.Run
public import proofs.«01_k».proof.Proof.MoeSpec
public import Idealize.ShloMosaic.Lib.Pointwise
public import Idealize.ShloMosaic.Lib.WordCmp

/-! # The reference's result is the experts'

The reference's term in stages — the rows' blocks, the gates, the products — and each stage read at an index. -/

@[expose] public section

set_option maxRecDepth 16384

noncomputable section

namespace Cert.Reference2Ideal.Moe

open Idealize.ShloMosaic Idealize.ShloMosaic.TcCoe Idealize.SL.Sem
open Cert.Reference2Ideal.Gen

/-- The rows' blocks: the floor of the row over 512. -/
def blocks : IVec S40960 32 :=
  select (andi (cmpi .ne (signi (iotaInDim S40960 32 0)) (broadcastInDim S40960 ![] bcast_S_S40960 (signi (id (constantI S_ 32 512#32))))) (cmpi .ne (Host.remsi (iotaInDim S40960 32 0) (broadcastInDim S40960 ![] bcast_S_S40960 (id (constantI S_ 32 512#32)))) (broadcastInDim S40960 ![] bcast_S_S40960 (constantI S_ 32 0#32)))) (subi (Host.divsi (iotaInDim S40960 32 0) (broadcastInDim S40960 ![] bcast_S_S40960 (id (constantI S_ 32 512#32)))) (broadcastInDim S40960 ![] bcast_S_S40960 (constantI S_ 32 1#32))) (Host.divsi (iotaInDim S40960 32 0) (broadcastInDim S40960 ![] bcast_S_S40960 (id (constantI S_ 32 512#32))))

/-- The rows whose block is used. -/
def live (T1 : IVec S1 32) : IVec S40960 1 :=
  cmpi .slt blocks (broadcastInDim S40960 ![] bcast_S_S40960 (shapeCast S_ T1 shapeCasts_S1_S_))

/-- The rows' experts, one-hot. -/
def hot (T0 : IVec S80 32) : FVec Ideal S40960x16 .f32 :=
  uitofp .f32 (cmpi .eq (broadcastInDim S40960x16 ![0, 1] bcast_S40960x1_S40960x16_0_1 (broadcastInDim S40960x1 ![0] bcast_S40960_S40960x1_0 (shapeCast S40960 (broadcastInDim S80x512 ![0] bcast_S80_S80x512_0 T0) shapeCasts_S80x512_S40960))) (broadcastInDim S40960x16 ![0, 1] bcast_S1x16_S40960x16_0_1 (iotaInDim S1x16 32 1)))

/-- The gates: the used rows' experts, zeros elsewhere. -/
def gates (T0 : IVec S80 32) (T1 : IVec S1 32) : FVec Ideal S40960x16 .f32 :=
  select (broadcastInDim S40960x16 ![0, 1] bcast_S40960x1_S40960x16_0_1 (broadcastInDim S40960x1 ![0] bcast_S40960_S40960x1_0 (live T1))) (hot T0) (broadcastInDim S40960x16 ![] bcast_S_S40960x16 (id (constant S_ .f32 0x00000000#32)))

/-- The rows times every expert's weights. -/
def prod (x : FVec Ideal S40960x1024 .f32) (w : FVec Ideal S4x16x1024x512 .f32) : FVec Ideal S40960x16x512 .f32 :=
  Host.dotGeneral dot_S40960x1024_S16x1024x512_S40960x16x512_1_1_0_02_n_n none x (shapeCast S16x1024x512 (extractStridedSlice S1x16x1024x512 ![0, 0, 0, 0] w slices_S4x16x1024x512_S1x16x1024x512_0_0_0_0) shapeCasts_S1x16x1024x512_S16x1024x512)

/-- An array times its logistic. -/
def act (y : FVec Ideal S40960x16x512 .f32) : FVec Ideal S40960x16x512 .f32 :=
  mulf y (Host.divf (broadcastInDim S40960x16x512 ![] bcast_S_S40960x16x512 (constant S_ .f32 0x3F800000#32)) (addf (broadcastInDim S40960x16x512 ![] bcast_S_S40960x16x512 (constant S_ .f32 0x3F800000#32)) (Host.exp (Host.negf y))))

/-- What every expert works out, times the gates. -/
def gated (g : FVec Ideal S40960x16 .f32) (y z : FVec Ideal S40960x16x512 .f32) : FVec Ideal S40960x16x512 .f32 :=
  mulf (mulf (act y) z) (broadcastInDim S40960x16x512 ![0, 1, 2] bcast_S40960x16x1_S40960x16x512_0_1_2 (broadcastInDim S40960x16x1 ![0, 1] bcast_S40960x16_S40960x16x1_0_1 g))

/-- The downward product, summed over the experts. -/
def down (h : FVec Ideal S40960x16x512 .f32) (w : FVec Ideal S4x16x512x1024 .f32) : FVec Ideal S40960x1024 .f32 :=
  Host.dotGeneral dot_S40960x16x512_S16x512x1024_S40960x1024_12_01_0_2_n_n none h (shapeCast S16x512x1024 (extractStridedSlice S1x16x512x1024 ![0, 0, 0, 0] w slices_S4x16x512x1024_S1x16x512x1024_0_0_0_0) shapeCasts_S1x16x512x1024_S16x512x1024)

/-- The output. -/
def out (x : FVec Ideal S40960x1024 .f32) (T0 : IVec S80 32) (T1 : IVec S1 32) (g u : FVec Ideal S4x16x1024x512 .f32)
    (d : FVec Ideal S4x16x512x1024 .f32) : FVec Ideal S40960x1024 .f32 :=
  down (gated (gates T0 T1) (prod x g) (prod x u)) d

/-- The reference's run, its result the last stage. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v23) = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans rfl, (h c).2⟩) (Cert.Reference2Ideal.Value.run m ρ)

variable (R : Fin 40960) (e : Fin 16) (f : Fin 512) (C : Fin 1024)

/-- The floor of a row over 512, as words work it out. -/
theorem floor_word (n : Nat) (hn : n < 40960) :
    Scalar.select (IntOp.andi
        (IntOp.cmpi .ne (if BitVec.ofNat 32 n = 0 then 0 else if (BitVec.ofNat 32 n).msb = true then -1 else 1) (1 : BitVec 32))
        (IntOp.cmpi .ne (IntOp.remsi .host (BitVec.ofNat 32 n) 512#32) 0#32))
      (IntOp.subi (IntOp.divsi .host (BitVec.ofNat 32 n) 512#32) 1#32) (IntOp.divsi .host (BitVec.ofNat 32 n) 512#32)
      = BitVec.ofNat 32 (n / 512) := by
  have hN : (BitVec.ofNat 32 n).toNat = n := WordCmp.toNat_ofNat_of_lt (by omega)
  have hm : (BitVec.ofNat 32 n).msb = false := by
    rw [BitVec.msb_eq_decide, hN]; exact decide_eq_false (by omega)
  have hdiv : IntOp.divsi .host (BitVec.ofNat 32 n) 512#32 = BitVec.ofNat 32 (n / 512) := by
    unfold IntOp.divsi
    rw [if_neg (by simp [IntOp.SDivCorner]), BitVec.sdiv_eq, hm]
    refine BitVec.eq_of_toNat_eq ?_
    show (BitVec.ofNat 32 n / 512#32).toNat = _
    rw [BitVec.toNat_udiv, hN, WordCmp.toNat_ofNat_of_lt (w := 32) (a := n / 512) (by omega)]; rfl
  have hrem : n = 0 → IntOp.remsi .host (BitVec.ofNat 32 n) 512#32 = 0#32 := by rintro rfl; rfl
  rw [hdiv]
  by_cases h0 : n = 0
  · rw [hrem h0]; subst h0; rfl
  · have hne : ¬ BitVec.ofNat 32 n = 0 := fun e => h0 (by rw [← hN, e]; rfl)
    rw [if_neg hne, hm, if_neg (by decide)]
    have e1 : IntOp.cmpi .ne (1 : BitVec 32) 1 = 0#1 := rfl
    have e2 : ∀ z : BitVec 1, IntOp.andi 0#1 z = 0#1 := by decide
    rw [e1, e2]; rfl

/-- The block of a row. -/
theorem blocks_at : blocks (ix1 R) = BitVec.ofNat 32 (R.val / 512) := by
  refine Eq.trans ?_ (floor_word R.val R.isLt)
  unfold blocks
  pointwise
  rfl

/-- A row is used if its block is below the number of the used ones. -/
theorem live_at (T1 : IVec S1 32) (h : (T1 (ix1 0)).toNat < 2 ^ 31) :
    live T1 (ix1 R) = BitVec.ofBool (decide (R.val / 512 < (T1 (ix1 0)).toNat)) := by
  unfold live
  pointwise
  rw [blocks_at, WordCmp.cmpi_slt_of_lt (by rw [WordCmp.toNat_ofNat_of_lt (by omega)]; omega) h, WordCmp.toNat_ofNat_of_lt (by omega)]

/-- The one-hot array at a row and an expert. -/
theorem hot_at (T0 : IVec S80 32) : hot T0 (ix2 R e) = if T0 (ix1 (MoeSpec.block R)) = BitVec.ofNat 32 e.val then 1 else 0 := by
  unfold hot
  pointwise
  rw [WordCmp.cmpi_eq_eq]
  change ((((BitVec.ofBool (decide (_ = _))).toNat : ℝ) : EReal)) = _
  change (((BitVec.ofBool (decide (T0 (ix1 (MoeSpec.block R)) = BitVec.ofNat 32 e.val))).toNat : ℝ) : EReal) = _
  by_cases h : T0 (ix1 (MoeSpec.block R)) = BitVec.ofNat 32 e.val <;> simp [h]

/-- A gate. -/
theorem gates_at (T0 : IVec S80 32) (T1 : IVec S1 32) : gates T0 T1 (ix2 R e) = if live T1 (ix1 R) = 1#1 then hot T0 (ix2 R e) else 0 := by
  unfold gates
  generalize live T1 = a
  generalize hot T0 = b
  pointwise
  change (if _ then _ else Ideal.ofBits .f32 0#32) = _
  rw [show Ideal.ofBits .f32 0#32 = 0 by simp [Ideal.ofBits, Ideal.ieee]]
  rfl

/-- A product of a row and an expert's weights. -/
theorem prod_at (x : FVec Ideal S40960x1024 .f32) (w : FVec Ideal S4x16x1024x512 .f32) :
    prod x w (ix3 R e f) = ∑ d : Fin 1024, x (ix2 R d) * w (ix4 0 e d f) := by
  unfold prod
  pointwise

/-- An element times its logistic. -/
theorem act_at (y : FVec Ideal S40960x16x512 .f32) : act y (ix3 R e f) = MoeSpec.silu (y (ix3 R e f)) := by
  unfold act MoeSpec.silu
  pointwise

/-- A gated element. -/
theorem gated_at (g : FVec Ideal S40960x16 .f32) (y z : FVec Ideal S40960x16x512 .f32) :
    gated g y z (ix3 R e f) = MoeSpec.silu (y (ix3 R e f)) * z (ix3 R e f) * g (ix2 R e) := by
  rw [← act_at]
  unfold gated
  generalize act y = a
  pointwise

/-- An element of the downward product. -/
theorem down_at (h : FVec Ideal S40960x16x512 .f32) (w : FVec Ideal S4x16x512x1024 .f32) :
    down h w (ix2 R C) = ∑ e : Fin 16, ∑ f : Fin 512, h (ix3 R e f) * w (ix4 0 e f C) := by
  unfold down
  pointwise

variable (x : FVec Ideal S40960x1024 .f32) (T0 : IVec S80 32) (T1 : IVec S1 32) (g u : FVec Ideal S4x16x1024x512 .f32)
  (d : FVec Ideal S4x16x512x1024 .f32)

/-- The output is the experts': of a used row's sum over the experts the one that its block names stays, and of every other
row's none. -/
theorem out_spec (h0 : ∀ b : Fin 80, (T0 (ix1 b)).toNat < 16) (h1 : (T1 (ix1 0)).toNat < 2 ^ 31) :
    out x T0 T1 g u d (ix2 R C) = MoeSpec.out (fun R d => x (ix2 R d)) (fun b => MoeSpec.named (T0 (ix1 b))) (T1 (ix1 0)).toNat
      (fun e d f => g (ix4 0 e d f)) (fun e d f => u (ix4 0 e d f)) (fun e f C => d (ix4 0 e f C)) R C := by
  unfold out MoeSpec.out
  rw [down_at]
  have hb := h0 (MoeSpec.block R)
  have hiff : ∀ e : Fin 16, T0 (ix1 (MoeSpec.block R)) = BitVec.ofNat 32 e.val ↔ e = MoeSpec.named (T0 (ix1 (MoeSpec.block R))) := by
    intro e
    unfold MoeSpec.named
    generalize T0 (ix1 (MoeSpec.block R)) = w at *
    have he : (BitVec.ofNat 32 e.val).toNat = e.val := WordCmp.toNat_ofNat_of_lt (by omega)
    rw [← BitVec.toNat_inj, he, Fin.ext_iff]
    show _ ↔ e.val = w.toNat % 16
    omega
  have hg : ∀ e : Fin 16, gates T0 T1 (ix2 R e) =
      if (MoeSpec.block R).val < (T1 (ix1 0)).toNat ∧ e = MoeSpec.named (T0 (ix1 (MoeSpec.block R))) then 1 else 0 := by
    intro e
    rw [gates_at, live_at R T1 h1, hot_at]
    simp only [hiff, WordCmp.ofBool_decide_eq_one_iff]
    rw [ite_and]; rfl
  simp only [gated_at, prod_at, hg]
  by_cases hl : (MoeSpec.block R).val < (T1 (ix1 0)).toNat
  · rw [if_pos hl, Finset.sum_eq_single (MoeSpec.named (T0 (ix1 (MoeSpec.block R))))]
    · refine Finset.sum_congr rfl fun f _ => ?_
      rw [if_pos ⟨hl, rfl⟩, mul_one]; rfl
    · intro e _ hne
      refine Finset.sum_eq_zero fun f _ => ?_
      rw [if_neg (fun h => hne h.2), mul_zero, zero_mul]
    · intro h; exact absurd (Finset.mem_univ _) h
  · rw [if_neg hl]
    refine Finset.sum_eq_zero fun e _ => Finset.sum_eq_zero fun f _ => ?_
    rw [if_neg (fun h => hl h.1), mul_zero, zero_mul]

end Cert.Reference2Ideal.Moe

end
-- ==== Proof.MoeClaim.lean ====
module

public import proofs.«01_k».proof.Defs
public import proofs.«01_k».proof.Proof.MoeFrame
public import proofs.«01_k».proof.Proof.MoeValue
public import proofs.«01_k».proof.Proof.MoeRef
public import Idealize.ShloMosaic.Lib.Claim

/-! # The experts' kernel computes the reference's values

The two runs put side by side: both results are the experts'. -/

@[expose] public section

set_option maxRecDepth 16384

noncomputable section

namespace Cert.MoeClaim

open Idealize.ShloMosaic Idealize.SL.Sem

/-- The two results are one array. -/
theorem result_eq (m : (ℓ : Loc Cert.Kernel2Ideal.nD Cert.Kernel2Ideal.τ Cert.Kernel2Ideal.sig) → Buf (Elt Ideal) ℓ)
    (c : Dev Cert.Kernel2Ideal.nD)
    (h : Cert.Kernel2Ideal.Moe.Routed (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))) :
    Cert.Reference2Ideal.Moe.out (m ((c.tc : Thread Cert.Kernel2Ideal.nD Cert.Kernel2Ideal.τ).loc Cert.Kernel2Ideal.main_arg0))
      (m ((c.tc : Thread Cert.Kernel2Ideal.nD Cert.Kernel2Ideal.τ).loc Cert.Kernel2Ideal.main_arg1))
      (m ((c.tc : Thread Cert.Kernel2Ideal.nD Cert.Kernel2Ideal.τ).loc Cert.Kernel2Ideal.main_arg2))
      (m ((c.tc : Thread Cert.Kernel2Ideal.nD Cert.Kernel2Ideal.τ).loc Cert.Kernel2Ideal.main_arg3))
      (m ((c.tc : Thread Cert.Kernel2Ideal.nD Cert.Kernel2Ideal.τ).loc Cert.Kernel2Ideal.main_arg4))
      (m ((c.tc : Thread Cert.Kernel2Ideal.nD Cert.Kernel2Ideal.τ).loc Cert.Kernel2Ideal.main_arg5))
      = fun i => Cert.Kernel2Ideal.Moe.spec m c (i 0) (i 1) := by
  funext i
  have hi : i = ix2 (i 0) (i 1) := by
    funext a
    match a with
    | ⟨0, _⟩ => rfl
    | ⟨1, _⟩ => rfl
  refine (congrArg (Cert.Reference2Ideal.Moe.out _ _ _ _ _ _) hi).trans ?_
  exact Cert.Reference2Ideal.Moe.out_spec (i 0) (i 1) _ _ _ _ _ _ h.1 h.2.2

attribute [local irreducible] Cert.Reference2Ideal.Moe.out

/-- From the same arguments, the tables in the routing's range, the kernel and the reference end with equal results. -/
theorem algebraic : Cert.algebraic_Kernel2Ideal_Reference2Ideal := by
  pair_intro
  · have hr := Cert.MoeFrame.routed _ _ _ _ _ _ (hpre 0)
    run_from Cert.Kernel2Ideal.Moe.run hr g
  · run_from Cert.Reference2Ideal.Moe.run m' g'
    obtain rfl : c = 0 := Subsingleton.elim _ _
    exact result_eq m 0 (Cert.MoeFrame.routed _ _ _ _ _ _ (hpre 0))

end Cert.MoeClaim

end
-- ==== Proof.InSpec.lean ====
module

public import proofs.«01_k».proof.Proof.AttSpec

/-! # The layer's input projection, as formulas over the extended reals

The rows of the input are projected; the columns past 768 are mixed with those of the row before; from a mixed row come the
arguments of the recurrence. -/

@[expose] public section

set_option maxRecDepth 16384

noncomputable section

namespace Cert.InSpec

open Idealize.ShloMosaic
open AttSpec (Mat Real')

/-! ## The projection and the token shift -/

section Mixing

variable (x : Mat 16384 1024) (s : Mat 4 1024) (w : Mat 1024 2560) (mu : Fin 1792 → EReal)

/-- The projection of row `R`. -/
def proj (R : Fin 16384) (c : Fin 2560) : EReal := ∑ d : Fin 1024, x R d * w d c

/-- The projection of the row before the first of sequence `b`. -/
def first (b : Fin 4) (c : Fin 2560) : EReal := ∑ d : Fin 1024, s b d * w d c

/-- The projection of the row before row `R`. -/
def before (R : Fin 16384) (c : Fin 2560) : EReal :=
  if R.val % 4096 = 0 then first s w ⟨R.val / 4096, by omega⟩ c else proj x w ⟨R.val - 1, by omega⟩ c

/-- The mixed columns of row `R`. -/
def mixed (R : Fin 16384) (j : Fin 1792) : EReal :=
  proj x w R ⟨768 + j.val, by omega⟩
    + (before x s w R ⟨768 + j.val, by omega⟩ - proj x w R ⟨768 + j.val, by omega⟩) * mu j

/-- The difference of reals is real. -/
theorem real_sub {a b : EReal} (ha : Real' a) (hb : Real' b) : Real' (a - b) := by
  obtain ⟨a, rfl⟩ := ha; obtain ⟨b, rfl⟩ := hb; exact ⟨a - b, (EReal.coe_sub a b).symm⟩

/-- The sum of two reals is real. -/
theorem real_add {a b : EReal} (ha : Real' a) (hb : Real' b) : Real' (a + b) := by
  obtain ⟨a, rfl⟩ := ha; obtain ⟨b, rfl⟩ := hb; exact ⟨a + b, (EReal.coe_add a b).symm⟩

/-- A finite sum of reals is real. -/
theorem real_sum {n : ℕ} (f : Fin n → EReal) (h : ∀ i, Real' (f i)) : Real' (∑ i, f i) := by
  choose g hg using h
  refine ⟨∑ i, g i, ?_⟩
  rw [Finset.sum_congr rfl fun i _ => hg i]
  exact (map_sum (⟨⟨fun r : ℝ => (r : EReal), EReal.coe_zero⟩, EReal.coe_add⟩ : ℝ →+ EReal) g Finset.univ).symm

variable {x s w mu}

/-- Mixed columns of finite arguments are real. -/
theorem real_mixed (hx : ∀ R d, Real' (x R d)) (hs : ∀ b d, Real' (s b d)) (hw : ∀ d c, Real' (w d c)) (hmu : ∀ j, Real' (mu j))
    (R : Fin 16384) (j : Fin 1792) : Real' (mixed x s w mu R j) := by
  have hp : ∀ R c, Real' (proj x w R c) := fun R c => real_sum _ fun d => (hx R d).mul (hw d c)
  refine real_add (hp _ _) (Real'.mul (real_sub ?_ (hp _ _)) (hmu j))
  unfold before
  split_ifs
  · exact real_sum _ fun d => (hs _ d).mul (hw d _)
  · exact hp _ _

end Mixing

/-! ## What comes of a mixed row -/

/-- The logarithm of the decay. -/
def logDecay (u : Fin 1792 → EReal) (w0 : Fin 512 → EReal) (w2 : Mat 64 512) (C : Fin 512) : EReal :=
  Ideal.ofBits .f32 0xBF1B4598#32 * Ideal.logistic (w0 C + ∑ e : Fin 64, Ideal.tanh (u ⟨512 + e.val, by omega⟩) * w2 e C)

/-- The rate at which a state is replaced. -/
def rate (u : Fin 1792 → EReal) (a0 : Fin 512 → EReal) (a2 : Mat 64 512) (C : Fin 512) : EReal :=
  Ideal.logistic (a0 C + ∑ e : Fin 64, u ⟨1600 + e.val, by omega⟩ * a2 e C)

/-- The output's gate. -/
def gate (u : Fin 1792 → EReal) (g2 : Mat 128 512) (C : Fin 512) : EReal :=
  ∑ e : Fin 128, Ideal.logistic (u ⟨1664 + e.val, by omega⟩) * g2 e C

/-- The sum over the 64 columns of the head that column `C` lies in. -/
def headSum (f : Fin 512 → EReal) (C : Fin 512) : EReal := ∑ d : Fin 64, f ⟨64 * (C.val / 64) + d.val, by omega⟩

/-- The keys, scaled. -/
def scaled (u : Fin 1792 → EReal) (kk : Fin 512 → EReal) (C : Fin 512) : EReal := u ⟨576 + C.val, by omega⟩ * kk C

/-- The scaled keys over the length of their head. -/
def unit (u : Fin 1792 → EReal) (kk : Fin 512 → EReal) (C : Fin 512) : EReal :=
  Ideal.div (scaled u kk C)
    (max (Ideal.sqrt (headSum (fun C => scaled u kk C * scaled u kk C) C)) (Ideal.ofBits .f32 0x2B8CBCCC#32))

/-- The recurrence's keys, of the rates `a`. -/
def key (u : Fin 1792 → EReal) (a ka : Fin 512 → EReal) (C : Fin 512) : EReal :=
  u ⟨576 + C.val, by omega⟩ * (1 + (a C - 1) * ka C)

/-- The bonus of a row to its own output. -/
def bonus (u : Fin 1792 → EReal) (a ka rk : Fin 512 → EReal) (C : Fin 512) : EReal :=
  headSum (fun C => u ⟨C.val, by omega⟩ * key u a ka C * rk C) C * u ⟨1088 + C.val, by omega⟩

/-! ## The results -/

/-- The arguments. -/
structure Args where
  /-- the rows of the input -/
  x : Mat 16384 1024
  /-- the rows before the sequences -/
  s : Mat 4 1024
  /-- the projection's weights -/
  w : Mat 1024 2560
  /-- the coefficients of the token shift -/
  mu : Fin 1792 → EReal
  /-- the decay's bias -/
  w0 : Fin 512 → EReal
  /-- the decay's low-rank weights -/
  w2 : Mat 64 512
  /-- the rate's bias -/
  a0 : Fin 512 → EReal
  /-- the rate's low-rank weights -/
  a2 : Mat 64 512
  /-- the gate's low-rank weights -/
  g2 : Mat 128 512
  /-- the scales of the keys -/
  kk : Fin 512 → EReal
  /-- the rates' weights in the recurrence's keys -/
  ka : Fin 512 → EReal
  /-- the bonus's weights -/
  rk : Fin 512 → EReal

/-- The arguments, of arrays. -/
def argsOf (x : FVec Ideal ⟨2, ![16384, 1024]⟩ .f32) (s : FVec Ideal ⟨2, ![4, 1024]⟩ .f32) (w : FVec Ideal ⟨2, ![1024, 2560]⟩ .f32)
    (mu : FVec Ideal ⟨1, ![1792]⟩ .f32) (w0 : FVec Ideal ⟨1, ![512]⟩ .f32) (w2 : FVec Ideal ⟨2, ![64, 512]⟩ .f32)
    (a0 : FVec Ideal ⟨1, ![512]⟩ .f32) (a2 : FVec Ideal ⟨2, ![64, 512]⟩ .f32) (g2 : FVec Ideal ⟨2, ![128, 512]⟩ .f32)
    (kk ka : FVec Ideal ⟨1, ![512]⟩ .f32) (rk : FVec Ideal ⟨2, ![8, 64]⟩ .f32) : Args where
  x R d := x (ix2 R d)
  s b d := s (ix2 b d)
  w d c := w (ix2 d c)
  mu j := mu (ix1 j)
  w0 C := w0 (ix1 C)
  w2 e C := w2 (ix2 e C)
  a0 C := a0 (ix1 C)
  a2 e C := a2 (ix2 e C)
  g2 e C := g2 (ix2 e C)
  kk C := kk (ix1 C)
  ka C := ka (ix1 C)
  rk C := rk (ix2 (⟨C.val / 64, by omega⟩ : Fin 8) (⟨C.val % 64, by omega⟩ : Fin 64))

/-- What must be finite. -/
structure Args.Finite (A : Args) : Prop where
  x : ∀ R d, Real' (A.x R d)
  s : ∀ b d, Real' (A.s b d)
  w : ∀ d c, Real' (A.w d c)
  mu : ∀ j, Real' (A.mu j)
  kk : ∀ C, Real' (A.kk C)
  ka : ∀ C, Real' (A.ka C)
  rk : ∀ C, Real' (A.rk C)

/-- A mixed row. -/
def Args.row (A : Args) (R : Fin 16384) : Fin 1792 → EReal := mixed A.x A.s A.w A.mu R

variable (A : Args) (R : Fin 16384)

/-- A row's rates. -/
def Args.rates : Fin 512 → EReal := rate (A.row R) A.a0 A.a2

/-- The queries. -/
def out0 (C : Fin 512) : EReal := proj A.x A.w R ⟨C.val, by omega⟩
/-- The attention's keys. -/
def out1 (C : Fin 128) : EReal := proj A.x A.w R ⟨512 + C.val, by omega⟩
/-- The attention's values. -/
def out2 (C : Fin 128) : EReal := proj A.x A.w R ⟨640 + C.val, by omega⟩
/-- The receptances. -/
def out3 (C : Fin 512) : EReal := A.row R ⟨C.val, by omega⟩
/-- The logarithms of the decay. -/
def out4 (C : Fin 512) : EReal := logDecay (A.row R) A.w0 A.w2 C
/-- The recurrence's keys. -/
def out5 (C : Fin 512) : EReal := key (A.row R) (A.rates R) A.ka C
/-- The recurrence's values. -/
def out6 (C : Fin 512) : EReal := A.row R ⟨1088 + C.val, by omega⟩
/-- The negated scaled keys over their heads' lengths. -/
def out7 (C : Fin 512) : EReal := -unit (A.row R) A.kk C
/-- The scaled keys over their heads' lengths, by the rates. -/
def out8 (C : Fin 512) : EReal := unit (A.row R) A.kk C * A.rates R C
/-- The gates. -/
def out9 (C : Fin 512) : EReal := gate (A.row R) A.g2 C
/-- The bonuses. -/
def out10 (C : Fin 512) : EReal := bonus (A.row R) (A.rates R) A.ka A.rk C

/-- The array whose element at row `R` and column `C` is `f R C`. -/
abbrev array {n k : ℕ} (f : Fin n → Fin k → EReal) : FVec Ideal ⟨2, ![n, k]⟩ .f32 := fun i => f (i 0) (i 1)

/-- An array from its elements. -/
theorem array_of {n k : ℕ} (v : FVec Ideal ⟨2, ![n, k]⟩ .f32) (f : Fin n → Fin k → EReal) (h : ∀ R C, v (ix2 R C) = f R C) : v = array f := by
  funext i
  refine Eq.trans (congrArg v ?_) (h (i 0) (i 1))
  funext a
  match a with
  | ⟨0, _⟩ => rfl
  | ⟨1, _⟩ => rfl

/-! ## Sums that the kernel writes otherwise -/

/-- A sum against the matrix that has ones where row and column are of one head. -/
theorem sum_head (f b : Fin 512 → EReal) (C : Fin 512) (hb : ∀ e, b e = if e.val / 64 = C.val / 64 then 1 else 0) :
    ∑ e : Fin 512, f e * b e = headSum f C := by
  have h1 : ∀ e : Fin 512, f e * b e = if e.val / 64 = C.val / 64 then f e else 0 := by
    intro e; rw [hb]; split_ifs <;> simp
  rw [Finset.sum_congr rfl fun e _ => h1 e, ← Finset.sum_filter]
  unfold headSum
  refine Finset.sum_nbij' (fun e => (⟨e.val % 64, by omega⟩ : Fin 64)) (fun d => (⟨64 * (C.val / 64) + d.val, by omega⟩ : Fin 512))
    ?_ ?_ ?_ ?_ ?_
  · intro e _; exact Finset.mem_univ _
  · intro d _; refine Finset.mem_filter.mpr ⟨Finset.mem_univ _, ?_⟩; dsimp only; omega
  · intro e he; have := (Finset.mem_filter.mp he).2; exact Fin.ext (by dsimp only; omega)
  · intro d _; exact Fin.ext (by dsimp only; omega)
  · intro e he; have := (Finset.mem_filter.mp he).2; exact congrArg f (Fin.ext (by dsimp only; omega))

/-- The kernel's sum in three parts, of a vector, of what its rounding leaves and of what the rounding of that leaves. -/
theorem sum_parts (f b : Fin 512 → EReal) (C : Fin 512) (hb : ∀ e, b e = if e.val / 64 = C.val / 64 then 1 else 0)
    (hf : ∀ e, Real' (f e)) :
    (∑ e, f e * b e + ∑ e, (f e - f e) * b e) + ∑ e, (f e - f e - (f e - f e)) * b e = headSum f C := by
  have h0 : ∀ e, f e - f e = 0 := by
    intro e
    obtain ⟨r, hr⟩ := hf e
    rw [hr, ← EReal.coe_sub, sub_self, EReal.coe_zero]
  have h1 : ∀ e, (f e - f e) * b e = 0 := fun e => by rw [h0, zero_mul]
  have h2 : ∀ e, (f e - f e - (f e - f e)) * b e = 0 := fun e => by rw [h0, sub_zero, zero_mul]
  rw [Finset.sum_congr rfl fun e _ => h1 e, Finset.sum_congr rfl fun e _ => h2 e, Finset.sum_const_zero, add_zero, add_zero,
    sum_head f b C hb]

/-- A sum of 128 products whose second factors vanish past the 64th. -/
theorem sum_low (f w : Fin 128 → EReal) (h : ∀ e : Fin 64, w ⟨64 + e.val, by omega⟩ = 0) :
    ∑ e, f e * w e = ∑ e : Fin 64, f ⟨e.val, by omega⟩ * w ⟨e.val, by omega⟩ := by
  refine (Fin.sum_univ_add (a := 64) (b := 64) fun e => f e * w e).trans ?_
  have h1 : ∀ e : Fin 64, f (Fin.natAdd 64 e) * w (Fin.natAdd 64 e) = 0 := fun e => by
    rw [show w (Fin.natAdd 64 e) = 0 from h e, mul_zero]
  rw [Finset.sum_congr rfl fun e _ => h1 e, Finset.sum_const_zero, add_zero]
  rfl

/-- A sum of 128 products whose second factors vanish before the 64th. -/
theorem sum_high (f w : Fin 128 → EReal) (h : ∀ e : Fin 64, w ⟨e.val, by omega⟩ = 0) :
    ∑ e, f e * w e = ∑ e : Fin 64, f ⟨64 + e.val, by omega⟩ * w ⟨64 + e.val, by omega⟩ := by
  refine (Fin.sum_univ_add (a := 64) (b := 64) fun e => f e * w e).trans ?_
  have h1 : ∀ e : Fin 64, f (Fin.castAdd 64 e) * w (Fin.castAdd 64 e) = 0 := fun e => by
    rw [show w (Fin.castAdd 64 e) = 0 from h e, mul_zero]
  rw [Finset.sum_congr rfl fun e _ => h1 e, Finset.sum_const_zero, zero_add]
  rfl

/-- A logistic is real. -/
theorem real_logistic (z : EReal) : Real' (Ideal.logistic z) := by
  induction z with
  | bot =>
    refine ⟨0, ?_⟩
    change Ideal.div 1 (1 + ⊤) = 0
    rw [show (1 : EReal) + ⊤ = ⊤ from rfl]
    simp [Ideal.div]
  | top =>
    refine ⟨1, ?_⟩
    change Ideal.div 1 (1 + 0) = 1
    simp [Ideal.div]
  | coe r =>
    refine ⟨(1 + Real.exp (-r))⁻¹, ?_⟩
    change Ideal.div 1 (((1 + Real.exp (-r) : ℝ)) : EReal) = _
    unfold Ideal.div
    have h : (1 + Real.exp (-r) : ℝ) ≠ 0 := by positivity
    rw [if_neg (by exact_mod_cast h), one_mul, EReal.coe_inv]

end Cert.InSpec

end
-- ==== Proof.InBody.lean ====
module

public import proofs.«01_k».proof.Proof.InSpec
public import proofs.«01_k».proof.Proof.Gen.Kernel3Ideal.Value
public import Idealize.ShloMosaic.Lib.Pointwise
public import Idealize.ShloMosaic.PureOps.Ideal
public import Idealize.ShloMosaic.Lib.Pipeline.ValueKit

/-! # What the projection's body stores, at an index

The stored blocks are read as functions of the block's mixed columns, and those as functions of the block's rows, of the shift
row and of the row that the point before left. -/

@[expose] public section

set_option maxRecDepth 16384

noncomputable section

namespace Cert.Kernel3Ideal.In

open Idealize.ShloMosaic Idealize.ShloMosaic.TcCoe Idealize.SL.Sem
open Cert.Kernel3Ideal.Gen
open Cert
open AttSpec (Real')

/-! ## The mixed columns -/

/-- The row numbers of a block. -/
abbrev rowsOf : IVec S256x1792 32 := iota Kind.tc S256x1792 32 [0] iota_S256x1792_d0_w32

/-- The remainder of the point's number by 16, as the body has it. -/
abbrev rem16 (i : BitVec 32) : BitVec 32 := Scalar.remsi i 16#32

/-- The body's mixed columns, from the rows `x0`, the shift row `x1`, the weights `x3`, the coefficients `x4` and the row `p`
that the point before left. -/
abbrev mixOf (i : BitVec 32) (x0 : FVec Ideal S256x1024 .f32) (x1 : FVec Ideal S1x1x1024 .f32) (x3 : FVec Ideal S1024x1792 .bf16)
    (x4 p : FVec Ideal S1x1792 .f32) : FVec Ideal S256x1792 .f32 :=
  k0_pay11 (k0_pay6 x0 x1 x3) (k0_pay7 x0 x1 x3) rowsOf (k0_pay8 x0 x1 x3) 16#32 (rem16 i)
    (Scalar.cmpi .ne (rem16 i) 0#32) p x4

/-- The body's test of a sequence's first block. -/
theorem first_word : ∀ t : Fin 64,
    Scalar.cmpi .eq (Scalar.select (Scalar.andi (Scalar.xori (Scalar.cmpi .slt (rem16 (BitVec.ofNat 32 t.val)) 0#32)
      (Scalar.cmpi .slt 16#32 0#32)) (Scalar.cmpi .ne (rem16 (BitVec.ofNat 32 t.val)) 0#32))
      (Scalar.addi (rem16 (BitVec.ofNat 32 t.val)) 16#32) (rem16 (BitVec.ofNat 32 t.val))) 0#32
      = if t.val % 16 = 0 then 1#1 else 0#1 := by
  decide +kernel

/-- The body's test of a block's first row. -/
theorem row_word : ∀ r : Fin 256, IntOp.cmpi .eq (BitVec.ofNat 32 r.val) 0#32 = if r.val = 0 then 1#1 else 0#1 := by
  decide +kernel

/-- A choice by a word that is a test. -/
theorem select_ite {α : Type} (P : Prop) [Decidable P] (a b : α) : Scalar.select (if P then 1#1 else 0#1) a b = if P then a else b := by
  split_ifs <;> rfl

variable (x0 : FVec Ideal S256x1024 .f32) (x1 : FVec Ideal S1x1x1024 .f32) (x3 : FVec Ideal S1024x1792 .bf16)
  (x4 p p' : FVec Ideal S1x1792 .f32)

/-- The row before row `r` of a block, of the block of point `t`. -/
def beforeOf (t : ℕ) (r : Fin 256) (j : Fin 1792) : EReal :=
  if r.val = 0 then (if t % 16 = 0 then ∑ d : Fin 1024, x1 (ix3 0 0 d) * x3 (ix2 d j) else p (ix2 0 j))
  else ∑ d : Fin 1024, x0 (ix2 (⟨r.val - 1, by omega⟩ : Fin 256) d) * x3 (ix2 d j)

/-- An element of the mixed columns. -/
theorem mix_at (t : Fin 64) (r : Fin 256) (j : Fin 1792) :
    mixOf (BitVec.ofNat 32 t.val) x0 x1 x3 x4 p (ix2 r j) =
      ∑ d : Fin 1024, x0 (ix2 r d) * x3 (ix2 d j)
        + (beforeOf x0 x1 x3 p t.val r j - ∑ d : Fin 1024, x0 (ix2 r d) * x3 (ix2 d j)) * x4 (ix2 0 j) := by
  unfold mixOf
  pointwise [k0_pay11]
  rw [first_word, row_word, select_ite, select_ite]
  pointwise [k0_pay6, k0_pay7, k0_pay8, k0_pay5]
  unfold beforeOf
  by_cases hr : r.val = 0
  · rw [if_pos hr, if_pos hr]
  · rw [if_neg hr, if_neg hr]
    have e : (⟨(r.val + 256 - 1) % 256, by omega⟩ : Fin 256) = ⟨r.val - 1, by omega⟩ := Fin.ext (by dsimp only; omega)
    simp only [e]
    simp only [dif_pos (show (r.val + 256 - 1) % 256 < 256 by omega)]

/-- In a sequence's first block the row that the point before left is not read. -/
theorem mix_first (t : Fin 64) (h : t.val % 16 = 0) :
    mixOf (BitVec.ofNat 32 t.val) x0 x1 x3 x4 p = mixOf (BitVec.ofNat 32 t.val) x0 x1 x3 x4 p' := by
  funext y
  obtain ⟨r, j, rfl⟩ : ∃ (r : Fin 256) (j : Fin 1792), y = ix2 r j := ⟨y 0, y 1, by ext a; fin_cases a <;> rfl⟩
  rw [mix_at, mix_at]
  unfold beforeOf
  rw [if_pos h, if_pos h]

/-! ## The other stores, of the mixed columns `M` -/

variable (M : FVec Ideal S256x1792 .f32)

/-- The mixed columns 0 to 511. -/
abbrev col0 : FVec Ideal S256x512 .f32 := extractStridedSlice S256x512 ![0, 0] M slices_S256x1792_o0_0_S256x512
/-- The mixed columns 512 to 1023. -/
abbrev col1 : FVec Ideal S256x512 .f32 := extractStridedSlice S256x512 ![0, 512] M slices_S256x1792_o0_512_S256x512
/-- The mixed columns 1024 to 1535. -/
abbrev col2 : FVec Ideal S256x512 .f32 := extractStridedSlice S256x512 ![0, 1024] M slices_S256x1792_o0_1024_S256x512
/-- The mixed columns 1536 to 1663. -/
abbrev col3 : FVec Ideal S256x128 .f32 := extractStridedSlice S256x128 ![0, 1536] M slices_S256x1792_o0_1536_S256x128
/-- The mixed columns 1664 to 1791. -/
abbrev col4 : FVec Ideal S256x128 .f32 := extractStridedSlice S256x128 ![0, 1664] M slices_S256x1792_o0_1664_S256x128

/-- Where the reference has the kernel's mixed column `j`. -/
def src (j : Fin 1792) : Fin 1792 :=
  if h : j.val < 512 then j
  else if h : j.val < 1536 then ⟨j.val + 64, by omega⟩
  else if h : j.val < 1664 then ⟨j.val + 128, by omega⟩
  else if h : j.val < 1728 then ⟨j.val - 1152, by omega⟩
  else ⟨j.val - 128, by omega⟩

/-- The places, by cases. -/
theorem src_to (j k : Fin 1792) (h : (j.val < 512 ∧ k.val = j.val) ∨ (512 ≤ j.val ∧ j.val < 1536 ∧ k.val = j.val + 64)
    ∨ (1536 ≤ j.val ∧ j.val < 1664 ∧ k.val = j.val + 128) ∨ (1664 ≤ j.val ∧ j.val < 1728 ∧ k.val = j.val - 1152)
    ∨ (1728 ≤ j.val ∧ k.val = j.val - 128)) : src j = k := by
  unfold src
  split_ifs <;> apply Fin.ext <;> (try dsimp only) <;> omega

variable (u : Fin 1792 → EReal) (r : Fin 256) (hM : ∀ j, M (ix2 r j) = u (src j))

include hM

/-- The receptances. -/
theorem col0_at (C : Fin 512) : col0 M (ix2 r C) = u ⟨C.val, by omega⟩ := by
  unfold col0; pointwise; exact (hM ⟨C.val, by omega⟩).trans (congrArg u (src_to _ _ (by dsimp only; omega)))
/-- The keys. -/
theorem col1_at (C : Fin 512) : col1 M (ix2 r C) = u ⟨576 + C.val, by omega⟩ := by
  unfold col1; pointwise; exact (hM ⟨512 + C.val, by omega⟩).trans (congrArg u (src_to _ _ (by dsimp only; omega)))
/-- The values. -/
theorem col2_at (C : Fin 512) : col2 M (ix2 r C) = u ⟨1088 + C.val, by omega⟩ := by
  unfold col2; pointwise; exact (hM ⟨1024 + C.val, by omega⟩).trans (congrArg u (src_to _ _ (by dsimp only; omega)))
/-- The gate's low-rank columns. -/
theorem col3_at (e : Fin 128) : col3 M (ix2 r e) = u ⟨1664 + e.val, by omega⟩ := by
  unfold col3; pointwise; exact (hM ⟨1536 + e.val, by omega⟩).trans (congrArg u (src_to _ _ (by dsimp only; omega)))
/-- The decay's low-rank columns. -/
theorem col4_low (e : Fin 64) : col4 M (ix2 r (⟨e.val, by omega⟩ : Fin 128)) = u ⟨512 + e.val, by omega⟩ := by
  unfold col4; pointwise; exact (hM ⟨1664 + e.val, by omega⟩).trans (congrArg u (src_to _ _ (by dsimp only; omega)))
/-- The rate's low-rank columns. -/
theorem col4_high (e : Fin 64) : col4 M (ix2 r (⟨64 + e.val, by omega⟩ : Fin 128)) = u ⟨1600 + e.val, by omega⟩ := by
  unfold col4; pointwise; exact (hM ⟨1664 + (64 + e.val), by omega⟩).trans (congrArg u (src_to _ _ (by dsimp only; omega)))

omit hM

/-- The body's test of the decay's columns. -/
theorem col_word : ∀ e : Fin 128, IntOp.cmpi .slt (BitVec.ofNat 32 e.val) 64#32 = if e.val < 64 then 1#1 else 0#1 := by
  decide +kernel

variable (v0 v1 : FVec Ideal S1x512 .f32) (wda : FVec Ideal S128x1024 .bf16) (w0 a0 : Fin 512 → EReal) (w2 a2 : AttSpec.Mat 64 512)
  (hw0 : ∀ C, v0 (ix2 0 C) = w0 C)

include hw0

/-- The stored logarithms of the decay. -/
theorem decay_at (N : FVec Ideal S256x128 .f32) (hN : ∀ e : Fin 64, N (ix2 r (⟨e.val, by omega⟩ : Fin 128)) = u ⟨512 + e.val, by omega⟩)
    (hlow : ∀ (e : Fin 64) (C : Fin 512), wda (ix2 (⟨e.val, by omega⟩ : Fin 128) (⟨C.val, by omega⟩ : Fin 1024)) = w2 e C)
    (hhigh : ∀ (e : Fin 64) (C : Fin 512), wda (ix2 (⟨64 + e.val, by omega⟩ : Fin 128) (⟨C.val, by omega⟩ : Fin 1024)) = 0) (C : Fin 512) :
    k0_pay23 N v0 wda (ix2 r C) = InSpec.logDecay u w0 w2 C := by
  pointwise [k0_pay23, k0_pay22]
  rw [hw0]
  unfold InSpec.logDecay
  refine congrArg (fun z => Ideal.ofBits .f32 0xBF1B4598#32 * Ideal.logistic (w0 C + z)) ?_
  refine (InSpec.sum_low _ (fun e => wda (ix2 e (⟨C.val, by omega⟩ : Fin 1024))) fun e => hhigh e C).trans ?_
  refine Finset.sum_congr rfl fun e _ => ?_
  rw [col_word, select_ite, if_pos (by exact e.isLt), hN, hlow]

/-- The rates. -/
theorem rate_at (N : FVec Ideal S256x128 .f32) (hN : ∀ e : Fin 64, N (ix2 r (⟨64 + e.val, by omega⟩ : Fin 128)) = u ⟨1600 + e.val, by omega⟩)
    (hlow : ∀ (e : Fin 64) (C : Fin 512), wda (ix2 (⟨e.val, by omega⟩ : Fin 128) (⟨512 + C.val, by omega⟩ : Fin 1024)) = 0)
    (hhigh : ∀ (e : Fin 64) (C : Fin 512), wda (ix2 (⟨64 + e.val, by omega⟩ : Fin 128) (⟨512 + C.val, by omega⟩ : Fin 1024)) = w2 e C)
    (C : Fin 512) :
    k0_pay24 N v0 wda (ix2 r C) = InSpec.rate u w0 w2 C := by
  pointwise [k0_pay24, k0_pay22]
  rw [hw0]
  unfold InSpec.rate
  refine congrArg (fun z => Ideal.logistic (w0 C + z)) ?_
  refine (InSpec.sum_high _ (fun e => wda (ix2 e (⟨512 + C.val, by omega⟩ : Fin 1024))) fun e => hlow e C).trans ?_
  refine Finset.sum_congr rfl fun e _ => ?_
  rw [col_word, select_ite, if_neg (by dsimp only; omega), hN, hhigh]

omit hw0

/-- The gates. -/
theorem gate_at (N : FVec Ideal S256x128 .f32) (hN : ∀ e : Fin 128, N (ix2 r e) = u ⟨1664 + e.val, by omega⟩)
    (x6 : FVec Ideal S128x512 .bf16) (g2 : AttSpec.Mat 128 512) (hg : ∀ e C, x6 (ix2 e C) = g2 e C) (C : Fin 512) :
    k0_pay25 N x6 (ix2 r C) = InSpec.gate u g2 C := by
  pointwise [k0_pay25]
  exact Finset.sum_congr rfl fun e _ => by rw [hN, hg]

variable (K : FVec Ideal S256x512 .f32) (hK : ∀ C : Fin 512, K (ix2 r C) = u ⟨576 + C.val, by omega⟩)

include hK

/-- The recurrence's keys. -/
theorem key_at (v3 : FVec Ideal S1x512 .f32) (A : FVec Ideal S256x512 .f32) (a ka : Fin 512 → EReal) (h3 : ∀ C, v3 (ix2 0 C) = ka C)
    (hA : ∀ C, A (ix2 r C) = a C) (C : Fin 512) :
    k0_pay28 K v3 A (ix2 r C) = InSpec.key u a ka C := by
  pointwise [k0_pay28]
  rw [hK, h3, hA]
  rfl

variable (bd : FVec Ideal S512x512 .bf16) (hbd : ∀ e C : Fin 512, bd (ix2 e C) = if e.val / 64 = C.val / 64 then 1 else 0)
  (hu : ∀ j, Real' (u j))

include hbd hu

/-- The scaled keys over their heads' lengths. -/
theorem unit_at (v2 : FVec Ideal S1x512 .f32) (kk : Fin 512 → EReal) (h2 : ∀ C, v2 (ix2 0 C) = kk C) (hkk : ∀ C, Real' (kk C)) (C : Fin 512) :
    k0_pay27 K v2 bd (ix2 r C) = InSpec.unit u kk C := by
  pointwise [k0_pay27, k0_pay26]
  simp only [hK, h2]
  have hs : ∀ C, Real' (InSpec.scaled u kk C) := fun C => (hu _).mul (hkk C)
  have key := InSpec.sum_parts (fun C => InSpec.scaled u kk C * InSpec.scaled u kk C) (fun e => bd (ix2 e C)) C (fun e => hbd e C)
    fun e => (hs e).mul (hs e)
  exact congrArg (fun z => Ideal.div (InSpec.scaled u kk C) (max (Ideal.sqrt z) (Ideal.ofBits .f32 0x2B8CBCCC#32))) key

/-- The bonuses. -/
theorem bonus_at (Q V : FVec Ideal S256x512 .f32) (hQ : ∀ C : Fin 512, Q (ix2 r C) = u ⟨C.val, by omega⟩)
    (hV : ∀ C : Fin 512, V (ix2 r C) = u ⟨1088 + C.val, by omega⟩) (v3 v4 : FVec Ideal S1x512 .f32) (A : FVec Ideal S256x512 .f32) (a ka rk : Fin 512 → EReal) (h3 : ∀ C, v3 (ix2 0 C) = ka C)
    (h4 : ∀ C, v4 (ix2 0 C) = rk C) (hA : ∀ C, A (ix2 r C) = a C) (ha : ∀ C, Real' (a C)) (hka : ∀ C, Real' (ka C))
    (hrk : ∀ C, Real' (rk C)) (C : Fin 512) :
    k0_pay29 Q K V v3 v4 A bd (ix2 r C) = InSpec.bonus u a ka rk C := by
  pointwise [k0_pay29, k0_pay28]
  simp only [hQ, hK, hV, h3, h4, hA]
  have h1 : Real' (1 : EReal) := ⟨1, EReal.coe_one.symm⟩
  have hk : ∀ C, Real' (InSpec.key u a ka C) := fun C =>
    (hu _).mul (InSpec.real_add h1 ((InSpec.real_sub (ha C) h1).mul (hka C)))
  have key := InSpec.sum_parts (fun C => u ⟨C.val, by omega⟩ * InSpec.key u a ka C * rk C) (fun e => bd (ix2 e C)) C (fun e => hbd e C)
    fun e => ((hu _).mul (hk e)).mul (hrk e)
  exact congrArg (fun z => z * u ⟨1088 + C.val, by omega⟩) key

end Cert.Kernel3Ideal.In

end
-- ==== Proof.InHost.lean ====
module

public import proofs.«01_k».proof.Proof.InBody

/-! # The blocks that the projection's body reads

Each window's block at a point, as a part of the arguments: the rows and the weights as the host code orders them. -/

@[expose] public section

set_option maxRecDepth 16384

noncomputable section

namespace Cert.Kernel3Ideal.In

open Idealize.ShloMosaic Idealize.ShloMosaic.TcCoe Idealize.SL.Sem
open Idealize.ShloMosaic.Pipeline (Dat)
open Cert.Kernel3Ideal.Gen
open Cert
open AttSpec (Real')

variable (m : (ℓ : Loc nD τ sig) → Buf (Elt Ideal) ℓ)

/-- The arguments on a device. -/
abbrev args (c : Dev nD) : InSpec.Args :=
  InSpec.argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))

/-- The input windows' block indices at a point, and its number. -/
theorem idx : ∀ t : Fin cfg0.N, win0_0.index t = ![t.val, 0] ∧ win0_1.index t = ![t.val / 16, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ (grid0.coords t 0).val = t.val :=
  (by decide +kernel : ∀ t : Fin grid0.N, _)

/-- The result windows' block indices at a point. -/
theorem idxOut : ∀ t : Fin cfg0.N, win0_9.index t = ![t.val, 0] ∧ win0_10.index t = ![t.val, 0] ∧ win0_11.index t = ![t.val, 0]
    ∧ win0_12.index t = ![t.val, 0] ∧ win0_13.index t = ![t.val, 0] ∧ win0_14.index t = ![t.val, 0] ∧ win0_15.index t = ![t.val, 0]
    ∧ win0_16.index t = ![t.val, 0] ∧ win0_17.index t = ![t.val, 0] ∧ win0_18.index t = ![t.val, 0] ∧ win0_19.index t = ![t.val, 0] :=
  (by decide +kernel : ∀ t : Fin grid0.N, _)

variable (c : Dev nD) (t : Fin cfg0.N)

/-- Row `r` of point `t`. -/
abbrev rowAt (r : Fin 256) : Fin 16384 := ⟨256 * t.val + r.val, by have : t.val < 64 := t.isLt; omega⟩

/-- A block of rows. -/
theorem x_at (r : Fin 256) (d : Fin 1024) : (iblk m c 0 t : FVec Ideal S256x1024 .f32) (ix2 r d) = (args m c).x (rowAt t r) d := by
  unfold args InSpec.argsOf
  blk_ext [iblk, V, idx t]

/-- The row before the sequence. -/
theorem s_at (d : Fin 1024) : (iblk m c 1 t : FVec Ideal S1x1x1024 .f32) (ix3 0 0 d)
    = (args m c).s ⟨t.val / 16, by have : t.val < 64 := t.isLt; omega⟩ d := by
  blk_simp [iblk, idx t]
  generalize hi : ((View.whole main_v41).slice (win0_1.rect t)).emb (ix3 0 0 d) = i
  obtain rfl : i = ix3 (⟨t.val / 16, by have : t.val < 64 := t.isLt; omega⟩ : Fin 4) (0 : Fin 1) d := by
    rw [← hi]
    funext a
    match a with
    | ⟨0, _⟩ => exact Fin.ext (by blk_simp [idx t]; rfl)
    | ⟨1, _⟩ => exact Fin.ext (by blk_simp [idx t])
    | ⟨2, _⟩ => exact Fin.ext (by blk_simp [idx t])
  unfold V
  simp only [List.flatten_cons, List.flatten_nil, List.append_nil, List.cons_append, List.nil_append, hostOps0, hostOps0_1, hostOps0_2]
  after_results_simp
  pointwise
  rfl

/-- The first 768 columns of the weights. -/
theorem watt_at (d : Fin 1024) (C : Fin 768) : (iblk m c 2 t : FVec Ideal S1024x768 .bf16) (ix2 d C)
    = (args m c).w d ⟨C.val, by omega⟩ := by
  blk_simp [iblk, idx t]
  generalize hi : ((View.whole main_v4).slice (win0_2.rect t)).emb (ix2 d C) = i
  obtain rfl : i = ix2 d C := by
    rw [← hi]
    funext a
    match a with
    | ⟨0, _⟩ => exact Fin.ext (by blk_simp [idx t])
    | ⟨1, _⟩ => exact Fin.ext (by blk_simp [idx t])
  unfold V
  simp only [List.flatten_cons, List.flatten_nil, List.append_nil, List.cons_append, List.nil_append, hostOps0, hostOps0_1, hostOps0_2]
  after_results_simp
  pointwise
  exact congrArg (fun k : Fin 2560 => (m ((c.tc : Thread nD τ).loc main_arg2) : FVec Ideal S1024x2560 .f32) (ix2 d k)) (Fin.ext (by dsimp only; try omega))

/-- The other columns of the weights, reordered. -/
theorem wrw_at (d : Fin 1024) (j : Fin 1792) : (iblk m c 3 t : FVec Ideal S1024x1792 .bf16) (ix2 d j)
    = (args m c).w d ⟨768 + (src j).val, by omega⟩ := by
  blk_simp [iblk, idx t]
  generalize hi : ((View.whole main_v13).slice (win0_3.rect t)).emb (ix2 d j) = i
  obtain rfl : i = ix2 d j := by
    rw [← hi]
    funext a
    match a with
    | ⟨0, _⟩ => exact Fin.ext (by blk_simp [idx t])
    | ⟨1, _⟩ => exact Fin.ext (by blk_simp [idx t])
  unfold V
  simp only [List.flatten_cons, List.flatten_nil, List.append_nil, List.cons_append, List.nil_append, hostOps0, hostOps0_1, hostOps0_2]
  after_results_simp
  pointwise
  after_results_simp
  pointwise
  split_ifs <;> refine congrArg (fun k : Fin 2560 => (m ((c.tc : Thread nD τ).loc main_arg2) : FVec Ideal S1024x2560 .f32) (ix2 d k)) (Fin.ext ?_)
    <;> (try dsimp only) <;> unfold src <;> split_ifs <;> (try dsimp only) <;> first | omega | (exfalso; simp_all)

/-- The coefficients of the token shift, reordered. -/
theorem mu_at (j : Fin 1792) : (iblk m c 4 t : FVec Ideal S1x1792 .f32) (ix2 0 j) = (args m c).mu (src j) := by
  blk_simp [iblk, idx t]
  generalize hi : ((View.whole main_v21).slice (win0_4.rect t)).emb (ix2 0 j) = i
  obtain rfl : i = ix2 0 j := by
    rw [← hi]
    funext a
    match a with
    | ⟨0, _⟩ => exact Fin.ext (by blk_simp [idx t])
    | ⟨1, _⟩ => exact Fin.ext (by blk_simp [idx t])
  unfold V
  simp only [List.flatten_cons, List.flatten_nil, List.append_nil, List.cons_append, List.nil_append, hostOps0, hostOps0_1, hostOps0_2]
  after_results_simp
  pointwise
  after_results_simp
  pointwise
  split_ifs <;> refine congrArg (fun k : Fin 1792 => (m ((c.tc : Thread nD τ).loc main_arg3) : FVec Ideal S1792 .f32) (ix1 k)) (Fin.ext ?_)
    <;> (try dsimp only) <;> unfold src <;> split_ifs <;> (try dsimp only) <;> first | omega | (exfalso; simp_all)

/-- The decay's low-rank weights. -/
theorem wda_00 (e : Fin 64) (C : Fin 512) : (iblk m c 5 t : FVec Ideal S128x1024 .bf16) (ix2 (⟨e.val, by omega⟩ : Fin 128) (⟨C.val, by omega⟩ : Fin 1024))
    = (args m c).w2 e C := by
  blk_simp [iblk, idx t]
  generalize hi : ((View.whole main_v25).slice (win0_5.rect t)).emb (ix2 (⟨e.val, by omega⟩ : Fin 128) (⟨C.val, by omega⟩ : Fin 1024)) = i
  obtain rfl : i = ix2 (⟨e.val, by omega⟩ : Fin 128) (⟨C.val, by omega⟩ : Fin 1024) := by
    rw [← hi]
    funext a
    match a with
    | ⟨0, _⟩ => exact Fin.ext (by blk_simp [idx t])
    | ⟨1, _⟩ => exact Fin.ext (by blk_simp [idx t])
  unfold V
  simp only [List.flatten_cons, List.flatten_nil, List.append_nil, List.cons_append, List.nil_append, hostOps0, hostOps0_1, hostOps0_2]
  after_results_simp
  pointwise
  after_results_simp
  pointwise
  rfl

/-- Zeros beside them. -/
theorem wda_01 (e : Fin 64) (C : Fin 512) : (iblk m c 5 t : FVec Ideal S128x1024 .bf16) (ix2 (⟨e.val, by omega⟩ : Fin 128) (⟨512 + C.val, by omega⟩ : Fin 1024))
    = (0 : EReal) := by
  blk_simp [iblk, idx t]
  generalize hi : ((View.whole main_v25).slice (win0_5.rect t)).emb (ix2 (⟨e.val, by omega⟩ : Fin 128) (⟨512 + C.val, by omega⟩ : Fin 1024)) = i
  obtain rfl : i = ix2 (⟨e.val, by omega⟩ : Fin 128) (⟨512 + C.val, by omega⟩ : Fin 1024) := by
    rw [← hi]
    funext a
    match a with
    | ⟨0, _⟩ => exact Fin.ext (by blk_simp [idx t])
    | ⟨1, _⟩ => exact Fin.ext (by blk_simp [idx t])
  unfold V
  simp only [List.flatten_cons, List.flatten_nil, List.append_nil, List.cons_append, List.nil_append, hostOps0, hostOps0_1, hostOps0_2]
  after_results_simp
  pointwise
  after_results_simp
  pointwise
  all_goals first | rfl | simp [Ideal.ofBits, Ideal.ieee]

/-- Zeros below them. -/
theorem wda_10 (e : Fin 64) (C : Fin 512) : (iblk m c 5 t : FVec Ideal S128x1024 .bf16) (ix2 (⟨64 + e.val, by omega⟩ : Fin 128) (⟨C.val, by omega⟩ : Fin 1024))
    = (0 : EReal) := by
  blk_simp [iblk, idx t]
  generalize hi : ((View.whole main_v25).slice (win0_5.rect t)).emb (ix2 (⟨64 + e.val, by omega⟩ : Fin 128) (⟨C.val, by omega⟩ : Fin 1024)) = i
  obtain rfl : i = ix2 (⟨64 + e.val, by omega⟩ : Fin 128) (⟨C.val, by omega⟩ : Fin 1024) := by
    rw [← hi]
    funext a
    match a with
    | ⟨0, _⟩ => exact Fin.ext (by blk_simp [idx t])
    | ⟨1, _⟩ => exact Fin.ext (by blk_simp [idx t])
  unfold V
  simp only [List.flatten_cons, List.flatten_nil, List.append_nil, List.cons_append, List.nil_append, hostOps0, hostOps0_1, hostOps0_2]
  after_results_simp
  pointwise
  after_results_simp
  pointwise
  all_goals first | rfl | simp [Ideal.ofBits, Ideal.ieee]

/-- The rate's low-rank weights. -/
theorem wda_11 (e : Fin 64) (C : Fin 512) : (iblk m c 5 t : FVec Ideal S128x1024 .bf16) (ix2 (⟨64 + e.val, by omega⟩ : Fin 128) (⟨512 + C.val, by omega⟩ : Fin 1024))
    = (args m c).a2 e C := by
  blk_simp [iblk, idx t]
  generalize hi : ((View.whole main_v25).slice (win0_5.rect t)).emb (ix2 (⟨64 + e.val, by omega⟩ : Fin 128) (⟨512 + C.val, by omega⟩ : Fin 1024)) = i
  obtain rfl : i = ix2 (⟨64 + e.val, by omega⟩ : Fin 128) (⟨512 + C.val, by omega⟩ : Fin 1024) := by
    rw [← hi]
    funext a
    match a with
    | ⟨0, _⟩ => exact Fin.ext (by blk_simp [idx t])
    | ⟨1, _⟩ => exact Fin.ext (by blk_simp [idx t])
  unfold V
  simp only [List.flatten_cons, List.flatten_nil, List.append_nil, List.cons_append, List.nil_append, hostOps0, hostOps0_1, hostOps0_2]
  after_results_simp
  pointwise
  after_results_simp
  pointwise
  rfl

/-- The gate's low-rank weights. -/
theorem g2_at (e : Fin 128) (C : Fin 512) : (iblk m c 6 t : FVec Ideal S128x512 .bf16) (ix2 e C) = (args m c).g2 e C := by
  blk_simp [iblk, idx t]
  generalize hi : ((View.whole main_v26).slice (win0_6.rect t)).emb (ix2 e C) = i
  obtain rfl : i = ix2 e C := by
    rw [← hi]
    funext a
    match a with
    | ⟨0, _⟩ => exact Fin.ext (by blk_simp [idx t])
    | ⟨1, _⟩ => exact Fin.ext (by blk_simp [idx t])
  unfold V
  simp only [List.flatten_cons, List.flatten_nil, List.append_nil, List.cons_append, List.nil_append, hostOps0, hostOps0_1, hostOps0_2]
  after_results_simp
  pointwise
  rfl

/-- The decay's bias. -/
theorem vec0_at (C : Fin 512) : (iblk m c 7 t : FVec Ideal S8x512 .f32) (ix2 0 C) = (args m c).w0 C := by
  blk_simp [iblk, idx t]
  generalize hi : ((View.whole main_v34).slice (win0_7.rect t)).emb (ix2 0 C) = i
  obtain rfl : i = ix2 0 C := by
    rw [← hi]
    funext a
    match a with
    | ⟨0, _⟩ => exact Fin.ext (by blk_simp [idx t])
    | ⟨1, _⟩ => exact Fin.ext (by blk_simp [idx t])
  unfold V
  simp only [List.flatten_cons, List.flatten_nil, List.append_nil, List.cons_append, List.nil_append, hostOps0, hostOps0_1, hostOps0_2]
  after_results_simp
  pointwise
  after_results_simp
  pointwise
  rfl

/-- The rate's bias. -/
theorem vec1_at (C : Fin 512) : (iblk m c 7 t : FVec Ideal S8x512 .f32) (ix2 1 C) = (args m c).a0 C := by
  blk_simp [iblk, idx t]
  generalize hi : ((View.whole main_v34).slice (win0_7.rect t)).emb (ix2 1 C) = i
  obtain rfl : i = ix2 1 C := by
    rw [← hi]
    funext a
    match a with
    | ⟨0, _⟩ => exact Fin.ext (by blk_simp [idx t])
    | ⟨1, _⟩ => exact Fin.ext (by blk_simp [idx t])
  unfold V
  simp only [List.flatten_cons, List.flatten_nil, List.append_nil, List.cons_append, List.nil_append, hostOps0, hostOps0_1, hostOps0_2]
  after_results_simp
  pointwise
  after_results_simp
  pointwise
  rfl

/-- The scales of the keys. -/
theorem vec2_at (C : Fin 512) : (iblk m c 7 t : FVec Ideal S8x512 .f32) (ix2 2 C) = (args m c).kk C := by
  blk_simp [iblk, idx t]
  generalize hi : ((View.whole main_v34).slice (win0_7.rect t)).emb (ix2 2 C) = i
  obtain rfl : i = ix2 2 C := by
    rw [← hi]
    funext a
    match a with
    | ⟨0, _⟩ => exact Fin.ext (by blk_simp [idx t])
    | ⟨1, _⟩ => exact Fin.ext (by blk_simp [idx t])
  unfold V
  simp only [List.flatten_cons, List.flatten_nil, List.append_nil, List.cons_append, List.nil_append, hostOps0, hostOps0_1, hostOps0_2]
  after_results_simp
  pointwise
  after_results_simp
  pointwise
  rfl

/-- The rates' weights in the keys. -/
theorem vec3_at (C : Fin 512) : (iblk m c 7 t : FVec Ideal S8x512 .f32) (ix2 3 C) = (args m c).ka C := by
  blk_simp [iblk, idx t]
  generalize hi : ((View.whole main_v34).slice (win0_7.rect t)).emb (ix2 3 C) = i
  obtain rfl : i = ix2 3 C := by
    rw [← hi]
    funext a
    match a with
    | ⟨0, _⟩ => exact Fin.ext (by blk_simp [idx t])
    | ⟨1, _⟩ => exact Fin.ext (by blk_simp [idx t])
  unfold V
  simp only [List.flatten_cons, List.flatten_nil, List.append_nil, List.cons_append, List.nil_append, hostOps0, hostOps0_1, hostOps0_2]
  after_results_simp
  pointwise
  after_results_simp
  pointwise
  rfl

/-- The bonus's weights. -/
theorem vec4_at (C : Fin 512) : (iblk m c 7 t : FVec Ideal S8x512 .f32) (ix2 4 C) = (args m c).rk C := by
  blk_simp [iblk, idx t]
  generalize hi : ((View.whole main_v34).slice (win0_7.rect t)).emb (ix2 4 C) = i
  obtain rfl : i = ix2 4 C := by
    rw [← hi]
    funext a
    match a with
    | ⟨0, _⟩ => exact Fin.ext (by blk_simp [idx t])
    | ⟨1, _⟩ => exact Fin.ext (by blk_simp [idx t])
  unfold V
  simp only [List.flatten_cons, List.flatten_nil, List.append_nil, List.cons_append, List.nil_append, hostOps0, hostOps0_1, hostOps0_2]
  after_results_simp
  pointwise
  after_results_simp
  pointwise
  rfl

/-- The head of a column, as the host code computes it. -/
abbrev headWord (e : BitVec 32) : BitVec 32 :=
  Scalar.select (IntOp.andi (IntOp.cmpi .ne (if e = 0 then 0 else if e.msb = true then -1 else 1)
      (if 64#32 = 0 then (0 : BitVec 32) else if (64#32).msb = true then -1 else 1))
    (IntOp.cmpi .ne (IntOp.remsi .host e 64#32) 0#32))
    (IntOp.subi (IntOp.divsi .host e 64#32) 1#32) (IntOp.divsi .host e 64#32)

/-- A column's head is its 64th part. -/
theorem head_word : ∀ e : Fin 512, headWord (BitVec.ofNat 32 e.val) = BitVec.ofNat 32 (e.val / 64) := by decide +kernel

/-- A comparison of heads. -/
theorem heads_word : ∀ a b : Fin 8, IntOp.cmpi .eq (BitVec.ofNat 32 a.val) (BitVec.ofNat 32 b.val) = if a.val = b.val then 1#1 else 0#1 := by
  decide +kernel

/-- Ones where two columns lie in the same head. -/
theorem bd_at (e C : Fin 512) : (iblk m c 8 t : FVec Ideal S512x512 .bf16) (ix2 e C) = (if e.val / 64 = C.val / 64 then 1 else 0 : EReal) := by
  blk_simp [iblk, idx t]
  generalize hi : ((View.whole main_v40).slice (win0_8.rect t)).emb (ix2 e C) = i
  obtain rfl : i = ix2 e C := by
    rw [← hi]
    funext a
    match a with
    | ⟨0, _⟩ => exact Fin.ext (by blk_simp [idx t])
    | ⟨1, _⟩ => exact Fin.ext (by blk_simp [idx t])
  unfold V
  simp only [List.flatten_cons, List.flatten_nil, List.append_nil, List.cons_append, List.nil_append, hostOps0, hostOps0_1, hostOps0_2]
  after_results_simp
  simp only [StableHlo.TRef.ofBuf, StableHlo.TRef.toBuf, StableHlo.TRef.of, cast_eq, id_eq]
  pointwise
  refine (congrArg₂ (fun a b => FloatOps.uitofp (F := Ideal) .bf16 (IntOp.cmpi .eq a b)) (head_word e) (head_word C)).trans ?_
  have h := heads_word ⟨e.val / 64, by omega⟩ ⟨C.val / 64, by omega⟩
  dsimp only at h
  rw [h]
  split_ifs <;> simp [FloatOps.uitofp]

end Cert.Kernel3Ideal.In

end
-- ==== Proof.InValue.lean ====
module

public import proofs.«01_k».proof.Proof.InHost

/-! # The projection's results

What every point stores, as the results' formulas, and the arrays that the points leave. -/

@[expose] public section

set_option maxRecDepth 16384

noncomputable section

namespace Cert.Kernel3Ideal.In

open Idealize.ShloMosaic Idealize.ShloMosaic.TcCoe Idealize.SL.Sem
open Idealize.ShloMosaic.Pipeline (Dat)
open Cert.Kernel3Ideal.Gen
open Cert
open AttSpec (Real')

variable (m : (ℓ : Loc nD τ sig) → Buf (Elt Ideal) ℓ) (c : Dev nD) (t : Fin cfg0.N)

/-- The row that a point leaves to the next: its last one's projection. -/
theorem carry_at (j : Fin 1792) :
    ((outsAt0 m c t.val t.isLt).2.2.2.2.2.2.2.2.2.2.2 : FVec Ideal S8x1792 .f32) (ix2 7 j)
      = InSpec.proj (args m c).x (args m c).w (rowAt t ⟨255, by omega⟩) ⟨768 + (src j).val, by omega⟩ := by
  by_cases h : t.val % 64 = 0
  · rw [outsAt0_A m c t h]
    dsimp only
    frame_out
    pointwise [k0_pay10, k0_pay6, k0_pay5]
    exact Finset.sum_congr rfl fun d _ => congrArg₂ (fun a b : EReal => a * b) (x_at m c t ⟨255, by omega⟩ d) (wrw_at m c t d j)
  · rw [outsAt0_B m c t h]
    dsimp only
    frame_out
    pointwise [k0_pay10, k0_pay6, k0_pay5]
    exact Finset.sum_congr rfl fun d _ => congrArg₂ (fun a b : EReal => a * b) (x_at m c t ⟨255, by omega⟩ d) (wrw_at m c t d j)

/-- The mixed columns of a point's rows are those of the rows, reordered. -/
theorem mixed_at (i : BitVec 32) (hi : i = BitVec.ofNat 32 t.val) (p : FVec Ideal S1x1792 .f32)
    (hp : ∀ h : t.val % 16 ≠ 0, ∀ j : Fin 1792, p (ix2 0 j)
      = InSpec.proj (args m c).x (args m c).w ⟨256 * t.val - 1, by have : t.val < 64 := t.isLt; omega⟩ ⟨768 + (src j).val, by omega⟩)
    (r : Fin 256) (j : Fin 1792) :
    mixOf i (iblk m c 0 t) (iblk m c 1 t) (iblk m c 3 t) (iblk m c 4 t) p (ix2 r j) = (args m c).row (rowAt t r) (src j) := by
  subst hi
  have ht : t.val < 64 := t.isLt
  have hx : ∀ r : Fin 256, ∑ d : Fin 1024, @HMul.hMul EReal EReal EReal _ ((iblk m c 0 t : FVec Ideal S256x1024 .f32) (ix2 r d)) ((iblk m c 3 t : FVec Ideal S1024x1792 .bf16) (ix2 d j))
      = InSpec.proj (args m c).x (args m c).w (rowAt t r) ⟨768 + (src j).val, by omega⟩ := fun r =>
    Finset.sum_congr rfl fun d _ => congrArg₂ (fun a b : EReal => a * b) (x_at m c t r d) (wrw_at m c t d j)
  have hb : beforeOf (iblk m c 0 t) (iblk m c 1 t) (iblk m c 3 t) p t.val r j
      = InSpec.before (args m c).x (args m c).s (args m c).w (rowAt t r) ⟨768 + (src j).val, by omega⟩ := by
    unfold beforeOf InSpec.before
    by_cases hr : r.val = 0
    · by_cases h16 : t.val % 16 = 0
      · rw [if_pos hr, if_pos h16, if_pos (by dsimp only; omega)]
        refine (Finset.sum_congr rfl fun d _ => congrArg₂ (fun a b : EReal => a * b) (s_at m c t d) (wrw_at m c t d j)).trans ?_
        exact congrArg (fun b => InSpec.first (args m c).s (args m c).w b _) (Fin.ext (by dsimp only; omega))
      · rw [if_pos hr, if_neg h16, if_neg (by dsimp only; omega), hp h16]
        exact congrArg (fun R => InSpec.proj (args m c).x (args m c).w R _) (Fin.ext (by dsimp only; omega))
    · rw [if_neg hr, if_neg (by dsimp only; omega), hx]
      exact congrArg (fun R => InSpec.proj (args m c).x (args m c).w R _) (Fin.ext (by dsimp only; omega))
  refine (mix_at _ _ _ _ p (⟨t.val, ht⟩ : Fin 64) r j).trans ?_
  rw [hx, hb, mu_at]
  rfl

/-- The row that the body reads from the point before. -/
theorem left_at (h : t.val % 16 ≠ 0) (j : Fin 1792) :
    (View.ld (View.read (Elt Ideal) (View.whole cc0_scratch0)
        ((Memref.isWhole_whole cc0_scratch0).unread (outsAt0 m c (t.val - 1) (by have := t.isLt; omega)).2.2.2.2.2.2.2.2.2.2.2))
      (Rect.unit ![7, 0] ![1, 1792] inb_S8x1792_S1x1792_7_0) : FVec Ideal S1x1792 .f32) (ix2 0 j)
      = InSpec.proj (args m c).x (args m c).w ⟨256 * t.val - 1, by have : t.val < 64 := t.isLt; omega⟩ ⟨768 + (src j).val, by omega⟩ := by
  have ht : t.val < 64 := t.isLt
  have e := (Memref.isWhole_whole cc0_scratch0).read_unread (Val := Elt Ideal) (outsAt0 m c (t.val - 1) (by have := t.isLt; omega)).2.2.2.2.2.2.2.2.2.2.2
  refine (congrArg (fun z => (View.ld z (Rect.unit ![7, 0] ![1, 1792] inb_S8x1792_S1x1792_7_0) : FVec Ideal S1x1792 .f32) (ix2 0 j)) e).trans ?_
  pointwise
  refine (carry_at m c ⟨t.val - 1, by have := t.isLt; omega⟩ j).trans ?_
  exact congrArg (fun R => InSpec.proj (args m c).x (args m c).w R _) (Fin.ext (by dsimp only; omega))

/-! ## The vectors of the body -/

/-- The queries, of any block. -/
theorem att0 (x0 : FVec Ideal S256x1024 .f32) (x2 : FVec Ideal S1024x768 .bf16) (r : Fin 256) (C : Fin 512) :
    k0_pay2 x0 x2 (ix2 r C) = ∑ d : Fin 1024, x0 (ix2 r d) * x2 (ix2 d ⟨C.val, by omega⟩) := by
  pointwise [k0_pay2, k0_pay1]

/-- Attention's keys, of any block. -/
theorem att1 (x0 : FVec Ideal S256x1024 .f32) (x2 : FVec Ideal S1024x768 .bf16) (r : Fin 256) (C : Fin 128) :
    k0_pay3 x0 x2 (ix2 r C) = ∑ d : Fin 1024, x0 (ix2 r d) * x2 (ix2 d ⟨512 + C.val, by omega⟩) := by
  pointwise [k0_pay3, k0_pay1]

/-- Attention's values, of any block. -/
theorem att2 (x0 : FVec Ideal S256x1024 .f32) (x2 : FVec Ideal S1024x768 .bf16) (r : Fin 256) (C : Fin 128) :
    k0_pay4 x0 x2 (ix2 r C) = ∑ d : Fin 1024, x0 (ix2 r d) * x2 (ix2 d ⟨640 + C.val, by omega⟩) := by
  pointwise [k0_pay4, k0_pay1]

/-- The decay's bias. -/
theorem bias0 (C : Fin 512) : k0_pay17 (F := Ideal) (View.ld (iblk m c 7 t) (Rect.unit ![0, 0] ![1, 512] inb_S8x512_S1x512_0_0)) (ix2 0 C) = (args m c).w0 C := by
  pointwise [k0_pay17]; exact vec0_at m c t C
/-- The rate's bias. -/
theorem bias1 (C : Fin 512) : k0_pay18 (F := Ideal) (View.ld (iblk m c 7 t) (Rect.unit ![1, 0] ![1, 512] inb_S8x512_S1x512_1_0)) (ix2 0 C) = (args m c).a0 C := by
  pointwise [k0_pay18]; exact vec1_at m c t C
/-- The scales of the keys. -/
theorem scale2 (C : Fin 512) : k0_pay19 (F := Ideal) (View.ld (iblk m c 7 t) (Rect.unit ![2, 0] ![1, 512] inb_S8x512_S1x512_2_0)) (ix2 0 C) = (args m c).kk C := by
  pointwise [k0_pay19]; exact vec2_at m c t C
/-- The rates' weights in the keys. -/
theorem weight3 (C : Fin 512) : k0_pay20 (F := Ideal) (View.ld (iblk m c 7 t) (Rect.unit ![3, 0] ![1, 512] inb_S8x512_S1x512_3_0)) (ix2 0 C) = (args m c).ka C := by
  pointwise [k0_pay20]; exact vec3_at m c t C
/-- The bonus's weights. -/
theorem weight4 (C : Fin 512) : k0_pay21 (F := Ideal) (View.ld (iblk m c 7 t) (Rect.unit ![4, 0] ![1, 512] inb_S8x512_S1x512_4_0)) (ix2 0 C) = (args m c).rk C := by
  pointwise [k0_pay21]; exact vec4_at m c t C
/-- Ones where two columns lie in the same head. -/
theorem heads_at (e C : Fin 512) : k0_pay26 (F := Ideal) (iblk m c 8 t) (ix2 e C) = (if e.val / 64 = C.val / 64 then 1 else 0 : EReal) := by
  pointwise [k0_pay26]; exact bd_at m c t e C

/-! ## What a point stores, of mixed columns `M` that are the rows' -/

variable (M : FVec Ideal S256x1792 .f32) (r : Fin 256) (hM : ∀ j, M (ix2 r j) = (args m c).row (rowAt t r) (src j))

include hM

/-- The logarithms of the decay. -/
theorem st4 (C : Fin 512) : k0_pay23 (col4 M) (k0_pay17 (View.ld (iblk m c 7 t) (Rect.unit ![0, 0] ![1, 512] inb_S8x512_S1x512_0_0))) (iblk m c 5 t) (ix2 r C)
    = InSpec.out4 (args m c) (rowAt t r) C :=
  decay_at (u := ((args m c).row (rowAt t r))) (r := r) (w2 := (args m c).w2) (hw0 := bias0 m c t) (hN := col4_low M ((args m c).row (rowAt t r)) r hM) (hlow := wda_00 m c t) (hhigh := wda_10 m c t) (C := C)

/-- The rates. -/
theorem stA (C : Fin 512) : k0_pay24 (col4 M) (k0_pay18 (View.ld (iblk m c 7 t) (Rect.unit ![1, 0] ![1, 512] inb_S8x512_S1x512_1_0))) (iblk m c 5 t) (ix2 r C)
    = (args m c).rates (rowAt t r) C :=
  rate_at (u := ((args m c).row (rowAt t r))) (r := r) (w2 := (args m c).a2) (hw0 := bias1 m c t) (hN := col4_high M ((args m c).row (rowAt t r)) r hM) (hlow := wda_01 m c t) (hhigh := wda_11 m c t) (C := C)

/-- The keys. -/
theorem st5 (C : Fin 512) : k0_pay28 (col1 M) (k0_pay20 (View.ld (iblk m c 7 t) (Rect.unit ![3, 0] ![1, 512] inb_S8x512_S1x512_3_0)))
    (k0_pay24 (col4 M) (k0_pay18 (View.ld (iblk m c 7 t) (Rect.unit ![1, 0] ![1, 512] inb_S8x512_S1x512_1_0))) (iblk m c 5 t)) (ix2 r C)
    = InSpec.out5 (args m c) (rowAt t r) C :=
  key_at (u := ((args m c).row (rowAt t r))) (r := r) (hK := col1_at M ((args m c).row (rowAt t r)) r hM) (h3 := weight3 m c t) (hA := stA m c t M r hM) (C := C)

/-- The gates. -/
theorem st9 (C : Fin 512) : k0_pay25 (col3 M) (iblk m c 6 t) (ix2 r C) = InSpec.out9 (args m c) (rowAt t r) C :=
  gate_at (u := ((args m c).row (rowAt t r))) (r := r) (hN := col3_at M ((args m c).row (rowAt t r)) r hM) (hg := g2_at m c t) (C := C)

variable (hA : (args m c).Finite)

include hA

omit hM in
/-- A row of finite arguments is finite. -/
theorem row_real (j : Fin 1792) : Real' ((args m c).row (rowAt t r) j) := InSpec.real_mixed hA.x hA.s hA.w hA.mu _ j

/-- The scaled keys over their heads' lengths. -/
theorem stU (C : Fin 512) : k0_pay27 (col1 M) (k0_pay19 (View.ld (iblk m c 7 t) (Rect.unit ![2, 0] ![1, 512] inb_S8x512_S1x512_2_0))) (iblk m c 8 t) (ix2 r C)
    = InSpec.unit ((args m c).row (rowAt t r)) (args m c).kk C :=
  unit_at (u := ((args m c).row (rowAt t r))) (r := r) (hK := col1_at M ((args m c).row (rowAt t r)) r hM) (hbd := bd_at m c t) (hu := row_real m c t r hA) (h2 := scale2 m c t) (hkk := hA.kk) (C := C)

/-- Their negatives. -/
theorem st7 (C : Fin 512) : k0_pay30 (k0_pay27 (col1 M) (k0_pay19 (View.ld (iblk m c 7 t) (Rect.unit ![2, 0] ![1, 512] inb_S8x512_S1x512_2_0))) (iblk m c 8 t)) (ix2 r C)
    = InSpec.out7 (args m c) (rowAt t r) C := by
  have e := stU m c t M r hM hA C
  generalize (k0_pay27 (col1 M) (k0_pay19 (View.ld (iblk m c 7 t) (Rect.unit ![2, 0] ![1, 512] inb_S8x512_S1x512_2_0))) (iblk m c 8 t)) = U at e ⊢
  pointwise [k0_pay30]
  rw [e]
  unfold InSpec.out7
  simp [Ideal.ofBits, Ideal.ieee]

/-- Their products with the rates. -/
theorem st8 (C : Fin 512) : k0_pay31 (k0_pay24 (col4 M) (k0_pay18 (View.ld (iblk m c 7 t) (Rect.unit ![1, 0] ![1, 512] inb_S8x512_S1x512_1_0))) (iblk m c 5 t))
      (k0_pay27 (col1 M) (k0_pay19 (View.ld (iblk m c 7 t) (Rect.unit ![2, 0] ![1, 512] inb_S8x512_S1x512_2_0))) (iblk m c 8 t)) (ix2 r C)
    = InSpec.out8 (args m c) (rowAt t r) C := by
  have e := stU m c t M r hM hA C
  have e' := stA m c t M r hM C
  generalize (k0_pay27 (col1 M) (k0_pay19 (View.ld (iblk m c 7 t) (Rect.unit ![2, 0] ![1, 512] inb_S8x512_S1x512_2_0))) (iblk m c 8 t)) = U at e ⊢
  generalize (k0_pay24 (col4 M) (k0_pay18 (View.ld (iblk m c 7 t) (Rect.unit ![1, 0] ![1, 512] inb_S8x512_S1x512_1_0))) (iblk m c 5 t)) = A at e' ⊢
  pointwise [k0_pay31]
  rw [e, e']
  rfl

/-- The bonuses. -/
theorem st10 (C : Fin 512) : k0_pay29 (col0 M) (col1 M) (col2 M) (k0_pay20 (View.ld (iblk m c 7 t) (Rect.unit ![3, 0] ![1, 512] inb_S8x512_S1x512_3_0)))
      (k0_pay21 (View.ld (iblk m c 7 t) (Rect.unit ![4, 0] ![1, 512] inb_S8x512_S1x512_4_0)))
      (k0_pay24 (col4 M) (k0_pay18 (View.ld (iblk m c 7 t) (Rect.unit ![1, 0] ![1, 512] inb_S8x512_S1x512_1_0))) (iblk m c 5 t))
      (k0_pay26 (iblk m c 8 t)) (ix2 r C)
    = InSpec.out10 (args m c) (rowAt t r) C :=
  bonus_at (u := ((args m c).row (rowAt t r))) (r := r) (hK := col1_at M ((args m c).row (rowAt t r)) r hM) (hbd := heads_at m c t) (hu := row_real m c t r hA) (hQ := col0_at M ((args m c).row (rowAt t r)) r hM) (hV := col2_at M ((args m c).row (rowAt t r)) r hM)
    (h3 := weight3 m c t) (h4 := weight4 m c t) (hA := stA m c t M r hM) (ha := fun C => InSpec.real_logistic _) (hka := hA.ka) (hrk := hA.rk) (C := C)

omit hM hA

/-! ## The points -/

/-- A point's queries. -/
theorem point0 (C : Fin 512) : ((outsAt0 m c t.val t.isLt).1 : FVec Ideal S256x512 .f32) (ix2 r C) = InSpec.out0 (args m c) (rowAt t r) C := by
  by_cases h : t.val % 64 = 0
  · rw [outsAt0_A m c t h]
    dsimp only
    frame_out
    refine (att0 _ _ r C).trans ?_
    unfold InSpec.out0 InSpec.proj
    exact Finset.sum_congr rfl fun d _ => congrArg₂ (fun a b : EReal => a * b) (x_at m c t r d) (watt_at m c t d ⟨C.val, by omega⟩)
  · rw [outsAt0_B m c t h]
    dsimp only
    frame_out
    refine (att0 _ _ r C).trans ?_
    unfold InSpec.out0 InSpec.proj
    exact Finset.sum_congr rfl fun d _ => congrArg₂ (fun a b : EReal => a * b) (x_at m c t r d) (watt_at m c t d ⟨C.val, by omega⟩)

/-- A point's attention's keys. -/
theorem point1 (C : Fin 128) : ((outsAt0 m c t.val t.isLt).2.1 : FVec Ideal S256x128 .f32) (ix2 r C) = InSpec.out1 (args m c) (rowAt t r) C := by
  by_cases h : t.val % 64 = 0
  · rw [outsAt0_A m c t h]
    dsimp only
    frame_out
    refine (att1 _ _ r C).trans ?_
    unfold InSpec.out1 InSpec.proj
    exact Finset.sum_congr rfl fun d _ => congrArg₂ (fun a b : EReal => a * b) (x_at m c t r d) (watt_at m c t d ⟨512 + C.val, by omega⟩)
  · rw [outsAt0_B m c t h]
    dsimp only
    frame_out
    refine (att1 _ _ r C).trans ?_
    unfold InSpec.out1 InSpec.proj
    exact Finset.sum_congr rfl fun d _ => congrArg₂ (fun a b : EReal => a * b) (x_at m c t r d) (watt_at m c t d ⟨512 + C.val, by omega⟩)

/-- A point's attention's values. -/
theorem point2 (C : Fin 128) : ((outsAt0 m c t.val t.isLt).2.2.1 : FVec Ideal S256x128 .f32) (ix2 r C) = InSpec.out2 (args m c) (rowAt t r) C := by
  by_cases h : t.val % 64 = 0
  · rw [outsAt0_A m c t h]
    dsimp only
    frame_out
    refine (att2 _ _ r C).trans ?_
    unfold InSpec.out2 InSpec.proj
    exact Finset.sum_congr rfl fun d _ => congrArg₂ (fun a b : EReal => a * b) (x_at m c t r d) (watt_at m c t d ⟨640 + C.val, by omega⟩)
  · rw [outsAt0_B m c t h]
    dsimp only
    frame_out
    refine (att2 _ _ r C).trans ?_
    unfold InSpec.out2 InSpec.proj
    exact Finset.sum_congr rfl fun d _ => congrArg₂ (fun a b : EReal => a * b) (x_at m c t r d) (watt_at m c t d ⟨640 + C.val, by omega⟩)

/-- A point's receptances. -/
theorem point3 (C : Fin 512) : ((outsAt0 m c t.val t.isLt).2.2.2.1 : FVec Ideal S256x512 .f32) (ix2 r C) = InSpec.out3 (args m c) (rowAt t r) C := by
  by_cases h : t.val % 64 = 0
  · rw [outsAt0_A m c t h]
    dsimp only
    frame_out
    exact col0_at _ ((args m c).row (rowAt t r)) r (mixed_at m c t _ (congrArg (BitVec.ofNat 32) (idx t).2.2.2.2.2.2.2.2.2) _ (fun h' => absurd (by omega) h') r) C
  · rw [outsAt0_B m c t h]
    dsimp only
    frame_out
    exact col0_at _ ((args m c).row (rowAt t r)) r (mixed_at m c t _ (congrArg (BitVec.ofNat 32) (idx t).2.2.2.2.2.2.2.2.2) _ (left_at m c t) r) C

/-- A point's logarithms of the decay. -/
theorem point4 (C : Fin 512) : ((outsAt0 m c t.val t.isLt).2.2.2.2.1 : FVec Ideal S256x512 .f32) (ix2 r C) = InSpec.out4 (args m c) (rowAt t r) C := by
  by_cases h : t.val % 64 = 0
  · rw [outsAt0_A m c t h]
    dsimp only
    frame_out
    exact st4 m c t _ r (mixed_at m c t _ (congrArg (BitVec.ofNat 32) (idx t).2.2.2.2.2.2.2.2.2) _ (fun h' => absurd (by omega) h') r) C
  · rw [outsAt0_B m c t h]
    dsimp only
    frame_out
    exact st4 m c t _ r (mixed_at m c t _ (congrArg (BitVec.ofNat 32) (idx t).2.2.2.2.2.2.2.2.2) _ (left_at m c t) r) C

/-- A point's recurrence's keys. -/
theorem point5 (C : Fin 512) : ((outsAt0 m c t.val t.isLt).2.2.2.2.2.1 : FVec Ideal S256x512 .f32) (ix2 r C) = InSpec.out5 (args m c) (rowAt t r) C := by
  by_cases h : t.val % 64 = 0
  · rw [outsAt0_A m c t h]
    dsimp only
    frame_out
    exact st5 m c t _ r (mixed_at m c t _ (congrArg (BitVec.ofNat 32) (idx t).2.2.2.2.2.2.2.2.2) _ (fun h' => absurd (by omega) h') r) C
  · rw [outsAt0_B m c t h]
    dsimp only
    frame_out
    exact st5 m c t _ r (mixed_at m c t _ (congrArg (BitVec.ofNat 32) (idx t).2.2.2.2.2.2.2.2.2) _ (left_at m c t) r) C

/-- A point's recurrence's values. -/
theorem point6 (C : Fin 512) : ((outsAt0 m c t.val t.isLt).2.2.2.2.2.2.1 : FVec Ideal S256x512 .f32) (ix2 r C) = InSpec.out6 (args m c) (rowAt t r) C := by
  by_cases h : t.val % 64 = 0
  · rw [outsAt0_A m c t h]
    dsimp only
    frame_out
    exact col2_at _ ((args m c).row (rowAt t r)) r (mixed_at m c t _ (congrArg (BitVec.ofNat 32) (idx t).2.2.2.2.2.2.2.2.2) _ (fun h' => absurd (by omega) h') r) C
  · rw [outsAt0_B m c t h]
    dsimp only
    frame_out
    exact col2_at _ ((args m c).row (rowAt t r)) r (mixed_at m c t _ (congrArg (BitVec.ofNat 32) (idx t).2.2.2.2.2.2.2.2.2) _ (left_at m c t) r) C

/-- A point's negated scaled keys over their heads' lengths. -/
theorem point7 (hA : (args m c).Finite) (C : Fin 512) : ((outsAt0 m c t.val t.isLt).2.2.2.2.2.2.2.1 : FVec Ideal S256x512 .f32) (ix2 r C) = InSpec.out7 (args m c) (rowAt t r) C := by
  by_cases h : t.val % 64 = 0
  · rw [outsAt0_A m c t h]
    dsimp only
    frame_out
    exact st7 m c t _ r (mixed_at m c t _ (congrArg (BitVec.ofNat 32) (idx t).2.2.2.2.2.2.2.2.2) _ (fun h' => absurd (by omega) h') r) hA C
  · rw [outsAt0_B m c t h]
    dsimp only
    frame_out
    exact st7 m c t _ r (mixed_at m c t _ (congrArg (BitVec.ofNat 32) (idx t).2.2.2.2.2.2.2.2.2) _ (left_at m c t) r) hA C

/-- A point's scaled keys over their heads' lengths, by the rates. -/
theorem point8 (hA : (args m c).Finite) (C : Fin 512) : ((outsAt0 m c t.val t.isLt).2.2.2.2.2.2.2.2.1 : FVec Ideal S256x512 .f32) (ix2 r C) = InSpec.out8 (args m c) (rowAt t r) C := by
  by_cases h : t.val % 64 = 0
  · rw [outsAt0_A m c t h]
    dsimp only
    frame_out
    exact st8 m c t _ r (mixed_at m c t _ (congrArg (BitVec.ofNat 32) (idx t).2.2.2.2.2.2.2.2.2) _ (fun h' => absurd (by omega) h') r) hA C
  · rw [outsAt0_B m c t h]
    dsimp only
    frame_out
    exact st8 m c t _ r (mixed_at m c t _ (congrArg (BitVec.ofNat 32) (idx t).2.2.2.2.2.2.2.2.2) _ (left_at m c t) r) hA C

/-- A point's gates. -/
theorem point9 (C : Fin 512) : ((outsAt0 m c t.val t.isLt).2.2.2.2.2.2.2.2.2.1 : FVec Ideal S256x512 .f32) (ix2 r C) = InSpec.out9 (args m c) (rowAt t r) C := by
  by_cases h : t.val % 64 = 0
  · rw [outsAt0_A m c t h]
    dsimp only
    frame_out
    exact st9 m c t _ r (mixed_at m c t _ (congrArg (BitVec.ofNat 32) (idx t).2.2.2.2.2.2.2.2.2) _ (fun h' => absurd (by omega) h') r) C
  · rw [outsAt0_B m c t h]
    dsimp only
    frame_out
    exact st9 m c t _ r (mixed_at m c t _ (congrArg (BitVec.ofNat 32) (idx t).2.2.2.2.2.2.2.2.2) _ (left_at m c t) r) C

/-- A point's bonuses. -/
theorem point10 (hA : (args m c).Finite) (C : Fin 512) : ((outsAt0 m c t.val t.isLt).2.2.2.2.2.2.2.2.2.2.1 : FVec Ideal S256x512 .f32) (ix2 r C) = InSpec.out10 (args m c) (rowAt t r) C := by
  by_cases h : t.val % 64 = 0
  · rw [outsAt0_A m c t h]
    dsimp only
    frame_out
    exact st10 m c t _ r (mixed_at m c t _ (congrArg (BitVec.ofNat 32) (idx t).2.2.2.2.2.2.2.2.2) _ (fun h' => absurd (by omega) h') r) hA C
  · rw [outsAt0_B m c t h]
    dsimp only
    frame_out
    exact st10 m c t _ r (mixed_at m c t _ (congrArg (BitVec.ofNat 32) (idx t).2.2.2.2.2.2.2.2.2) _ (left_at m c t) r) hA C

end Cert.Kernel3Ideal.In

end
-- ==== Proof.InArray.lean ====
module

public import proofs.«01_k».proof.Proof.InValue

/-! # The arrays that the projection's points leave -/

@[expose] public section

set_option maxRecDepth 16384

noncomputable section

namespace Cert.Kernel3Ideal.In

open Idealize.ShloMosaic Idealize.ShloMosaic.TcCoe Idealize.SL.Sem
open Idealize.ShloMosaic.Pipeline (Dat)
open Cert.Kernel3Ideal.Gen
open Cert

variable (m : (ℓ : Loc nD τ sig) → Buf (Elt Ideal) ℓ) (c : Dev nD)

/-- The queries, after the run. -/
theorem last0 : (dats m 0 c).arrAt 9 (cfgs 0).N = InSpec.array (InSpec.out0 (args m c)) := by
  refine (dats m 0 c).arrAt_eq_of_covers 9 _ (by decide +kernel) fun t _ y => ?_
  blk_simp
  rw [after0_9]
  have ht : t.val < 64 := t.isLt
  obtain ⟨r, C, rfl⟩ : ∃ (r : Fin 256) (C : Fin 512), y = ix2 r C := ⟨y 0, y 1, by ext a; fin_cases a <;> rfl⟩
  refine (point0 m c t r C).trans ?_
  have e := (idxOut t).1
  have h0 : rowAt t r = (win0_9.blk t).view.emb (ix2 r C) 0 := Fin.ext (by
    change 256 * t.val + r.val = ((win0_9.blk t).view.emb (ix2 r C) 0).val
    blk_simp [e]
    omega)
  have h1 : C = (win0_9.blk t).view.emb (ix2 r C) 1 := Fin.ext (by blk_simp [e])
  exact congrArg₂ (InSpec.out0 (args m c)) h0 h1

/-- The attention's keys, after the run. -/
theorem last1 : (dats m 0 c).arrAt 10 (cfgs 0).N = InSpec.array (InSpec.out1 (args m c)) := by
  refine (dats m 0 c).arrAt_eq_of_covers 10 _ (by decide +kernel) fun t _ y => ?_
  blk_simp
  rw [after0_10]
  have ht : t.val < 64 := t.isLt
  obtain ⟨r, C, rfl⟩ : ∃ (r : Fin 256) (C : Fin 128), y = ix2 r C := ⟨y 0, y 1, by ext a; fin_cases a <;> rfl⟩
  refine (point1 m c t r C).trans ?_
  have e := (idxOut t).2.1
  have h0 : rowAt t r = (win0_10.blk t).view.emb (ix2 r C) 0 := Fin.ext (by
    change 256 * t.val + r.val = ((win0_10.blk t).view.emb (ix2 r C) 0).val
    blk_simp [e]
    omega)
  have h1 : C = (win0_10.blk t).view.emb (ix2 r C) 1 := Fin.ext (by blk_simp [e])
  exact congrArg₂ (InSpec.out1 (args m c)) h0 h1

/-- The attention's values, after the run. -/
theorem last2 : (dats m 0 c).arrAt 11 (cfgs 0).N = InSpec.array (InSpec.out2 (args m c)) := by
  refine (dats m 0 c).arrAt_eq_of_covers 11 _ (by decide +kernel) fun t _ y => ?_
  blk_simp
  rw [after0_11]
  have ht : t.val < 64 := t.isLt
  obtain ⟨r, C, rfl⟩ : ∃ (r : Fin 256) (C : Fin 128), y = ix2 r C := ⟨y 0, y 1, by ext a; fin_cases a <;> rfl⟩
  refine (point2 m c t r C).trans ?_
  have e := (idxOut t).2.2.1
  have h0 : rowAt t r = (win0_11.blk t).view.emb (ix2 r C) 0 := Fin.ext (by
    change 256 * t.val + r.val = ((win0_11.blk t).view.emb (ix2 r C) 0).val
    blk_simp [e]
    omega)
  have h1 : C = (win0_11.blk t).view.emb (ix2 r C) 1 := Fin.ext (by blk_simp [e])
  exact congrArg₂ (InSpec.out2 (args m c)) h0 h1

/-- The receptances, after the run. -/
theorem last3 : (dats m 0 c).arrAt 12 (cfgs 0).N = InSpec.array (InSpec.out3 (args m c)) := by
  refine (dats m 0 c).arrAt_eq_of_covers 12 _ (by decide +kernel) fun t _ y => ?_
  blk_simp
  rw [after0_12]
  have ht : t.val < 64 := t.isLt
  obtain ⟨r, C, rfl⟩ : ∃ (r : Fin 256) (C : Fin 512), y = ix2 r C := ⟨y 0, y 1, by ext a; fin_cases a <;> rfl⟩
  refine (point3 m c t r C).trans ?_
  have e := (idxOut t).2.2.2.1
  have h0 : rowAt t r = (win0_12.blk t).view.emb (ix2 r C) 0 := Fin.ext (by
    change 256 * t.val + r.val = ((win0_12.blk t).view.emb (ix2 r C) 0).val
    blk_simp [e]
    omega)
  have h1 : C = (win0_12.blk t).view.emb (ix2 r C) 1 := Fin.ext (by blk_simp [e])
  exact congrArg₂ (InSpec.out3 (args m c)) h0 h1

/-- The logarithms of the decay, after the run. -/
theorem last4 : (dats m 0 c).arrAt 13 (cfgs 0).N = InSpec.array (InSpec.out4 (args m c)) := by
  refine (dats m 0 c).arrAt_eq_of_covers 13 _ (by decide +kernel) fun t _ y => ?_
  blk_simp
  rw [after0_13]
  have ht : t.val < 64 := t.isLt
  obtain ⟨r, C, rfl⟩ : ∃ (r : Fin 256) (C : Fin 512), y = ix2 r C := ⟨y 0, y 1, by ext a; fin_cases a <;> rfl⟩
  refine (point4 m c t r C).trans ?_
  have e := (idxOut t).2.2.2.2.1
  have h0 : rowAt t r = (win0_13.blk t).view.emb (ix2 r C) 0 := Fin.ext (by
    change 256 * t.val + r.val = ((win0_13.blk t).view.emb (ix2 r C) 0).val
    blk_simp [e]
    omega)
  have h1 : C = (win0_13.blk t).view.emb (ix2 r C) 1 := Fin.ext (by blk_simp [e])
  exact congrArg₂ (InSpec.out4 (args m c)) h0 h1

/-- The recurrence's keys, after the run. -/
theorem last5 : (dats m 0 c).arrAt 14 (cfgs 0).N = InSpec.array (InSpec.out5 (args m c)) := by
  refine (dats m 0 c).arrAt_eq_of_covers 14 _ (by decide +kernel) fun t _ y => ?_
  blk_simp
  rw [after0_14]
  have ht : t.val < 64 := t.isLt
  obtain ⟨r, C, rfl⟩ : ∃ (r : Fin 256) (C : Fin 512), y = ix2 r C := ⟨y 0, y 1, by ext a; fin_cases a <;> rfl⟩
  refine (point5 m c t r C).trans ?_
  have e := (idxOut t).2.2.2.2.2.1
  have h0 : rowAt t r = (win0_14.blk t).view.emb (ix2 r C) 0 := Fin.ext (by
    change 256 * t.val + r.val = ((win0_14.blk t).view.emb (ix2 r C) 0).val
    blk_simp [e]
    omega)
  have h1 : C = (win0_14.blk t).view.emb (ix2 r C) 1 := Fin.ext (by blk_simp [e])
  exact congrArg₂ (InSpec.out5 (args m c)) h0 h1

/-- The recurrence's values, after the run. -/
theorem last6 : (dats m 0 c).arrAt 15 (cfgs 0).N = InSpec.array (InSpec.out6 (args m c)) := by
  refine (dats m 0 c).arrAt_eq_of_covers 15 _ (by decide +kernel) fun t _ y => ?_
  blk_simp
  rw [after0_15]
  have ht : t.val < 64 := t.isLt
  obtain ⟨r, C, rfl⟩ : ∃ (r : Fin 256) (C : Fin 512), y = ix2 r C := ⟨y 0, y 1, by ext a; fin_cases a <;> rfl⟩
  refine (point6 m c t r C).trans ?_
  have e := (idxOut t).2.2.2.2.2.2.1
  have h0 : rowAt t r = (win0_15.blk t).view.emb (ix2 r C) 0 := Fin.ext (by
    change 256 * t.val + r.val = ((win0_15.blk t).view.emb (ix2 r C) 0).val
    blk_simp [e]
    omega)
  have h1 : C = (win0_15.blk t).view.emb (ix2 r C) 1 := Fin.ext (by blk_simp [e])
  exact congrArg₂ (InSpec.out6 (args m c)) h0 h1

/-- The negated scaled keys over their heads' lengths, after the run. -/
theorem last7 (hA : (args m c).Finite) : (dats m 0 c).arrAt 16 (cfgs 0).N = InSpec.array (InSpec.out7 (args m c)) := by
  refine (dats m 0 c).arrAt_eq_of_covers 16 _ (by decide +kernel) fun t _ y => ?_
  blk_simp
  rw [after0_16]
  have ht : t.val < 64 := t.isLt
  obtain ⟨r, C, rfl⟩ : ∃ (r : Fin 256) (C : Fin 512), y = ix2 r C := ⟨y 0, y 1, by ext a; fin_cases a <;> rfl⟩
  refine (point7 m c t r hA C).trans ?_
  have e := (idxOut t).2.2.2.2.2.2.2.1
  have h0 : rowAt t r = (win0_16.blk t).view.emb (ix2 r C) 0 := Fin.ext (by
    change 256 * t.val + r.val = ((win0_16.blk t).view.emb (ix2 r C) 0).val
    blk_simp [e]
    omega)
  have h1 : C = (win0_16.blk t).view.emb (ix2 r C) 1 := Fin.ext (by blk_simp [e])
  exact congrArg₂ (InSpec.out7 (args m c)) h0 h1

/-- The scaled keys over their heads' lengths, by the rates, after the run. -/
theorem last8 (hA : (args m c).Finite) : (dats m 0 c).arrAt 17 (cfgs 0).N = InSpec.array (InSpec.out8 (args m c)) := by
  refine (dats m 0 c).arrAt_eq_of_covers 17 _ (by decide +kernel) fun t _ y => ?_
  blk_simp
  rw [after0_17]
  have ht : t.val < 64 := t.isLt
  obtain ⟨r, C, rfl⟩ : ∃ (r : Fin 256) (C : Fin 512), y = ix2 r C := ⟨y 0, y 1, by ext a; fin_cases a <;> rfl⟩
  refine (point8 m c t r hA C).trans ?_
  have e := (idxOut t).2.2.2.2.2.2.2.2.1
  have h0 : rowAt t r = (win0_17.blk t).view.emb (ix2 r C) 0 := Fin.ext (by
    change 256 * t.val + r.val = ((win0_17.blk t).view.emb (ix2 r C) 0).val
    blk_simp [e]
    omega)
  have h1 : C = (win0_17.blk t).view.emb (ix2 r C) 1 := Fin.ext (by blk_simp [e])
  exact congrArg₂ (InSpec.out8 (args m c)) h0 h1

/-- The gates, after the run. -/
theorem last9 : (dats m 0 c).arrAt 18 (cfgs 0).N = InSpec.array (InSpec.out9 (args m c)) := by
  refine (dats m 0 c).arrAt_eq_of_covers 18 _ (by decide +kernel) fun t _ y => ?_
  blk_simp
  rw [after0_18]
  have ht : t.val < 64 := t.isLt
  obtain ⟨r, C, rfl⟩ : ∃ (r : Fin 256) (C : Fin 512), y = ix2 r C := ⟨y 0, y 1, by ext a; fin_cases a <;> rfl⟩
  refine (point9 m c t r C).trans ?_
  have e := (idxOut t).2.2.2.2.2.2.2.2.2.1
  have h0 : rowAt t r = (win0_18.blk t).view.emb (ix2 r C) 0 := Fin.ext (by
    change 256 * t.val + r.val = ((win0_18.blk t).view.emb (ix2 r C) 0).val
    blk_simp [e]
    omega)
  have h1 : C = (win0_18.blk t).view.emb (ix2 r C) 1 := Fin.ext (by blk_simp [e])
  exact congrArg₂ (InSpec.out9 (args m c)) h0 h1

/-- The bonuses, after the run. -/
theorem last10 (hA : (args m c).Finite) : (dats m 0 c).arrAt 19 (cfgs 0).N = InSpec.array (InSpec.out10 (args m c)) := by
  refine (dats m 0 c).arrAt_eq_of_covers 19 _ (by decide +kernel) fun t _ y => ?_
  blk_simp
  rw [after0_19]
  have ht : t.val < 64 := t.isLt
  obtain ⟨r, C, rfl⟩ : ∃ (r : Fin 256) (C : Fin 512), y = ix2 r C := ⟨y 0, y 1, by ext a; fin_cases a <;> rfl⟩
  refine (point10 m c t r hA C).trans ?_
  have e := (idxOut t).2.2.2.2.2.2.2.2.2.2
  have h0 : rowAt t r = (win0_19.blk t).view.emb (ix2 r C) 0 := Fin.ext (by
    change 256 * t.val + r.val = ((win0_19.blk t).view.emb (ix2 r C) 0).val
    blk_simp [e]
    omega)
  have h1 : C = (win0_19.blk t).view.emb (ix2 r C) 1 := Fin.ext (by blk_simp [e])
  exact congrArg₂ (InSpec.out10 (args m c)) h0 h1

end Cert.Kernel3Ideal.In

end
-- ==== Proof.InRef.lean ====
module

public import proofs.«01_k».proof.Proof.InSpec
public import proofs.«01_k».proof.Proof.Gen.Reference3Ideal.Run
public import Idealize.ShloMosaic.Lib.Pointwise

/-! # The reference's input projection

The reference's terms in stages — the projection, the mixed columns, the rates, the scaled keys, the results — and each stage
read at an index. -/

@[expose] public section

set_option maxRecDepth 16384

noncomputable section

namespace Cert.Reference3Ideal.In

open Idealize.ShloMosaic Idealize.ShloMosaic.TcCoe Idealize.SL.Sem
open Cert.Reference3Ideal.Gen
open AttSpec (Mat Real')

/-! ## The stages -/

/-- The projection of every row and of the rows before the sequences. -/
def prj (x : FVec Ideal S16384x1024 .f32) (s : FVec Ideal S4x1024 .f32) (w : FVec Ideal S1024x2560 .f32) : FVec Ideal S4x4097x2560 .f32 :=
  Host.dotGeneral dot_S4x4097x1024_S1024x2560_S4x4097x2560_2_0_01_1_n_n none (concatenate S4x4097x1024 1 [⟨S4x1x1024, (broadcastInDim S4x1x1024 ![0, 2] bcast_S4x1024_S4x1x1024_0_2 s)⟩, ⟨S4x4096x1024, (shapeCast _ x shapeCasts_S16384x1024_S4x4096x1024)⟩] concatenates_S4x1x1024_S4x4096x1024_S4x4097x1024_d1) w

/-- The mixed columns. -/
def mix (x : FVec Ideal S16384x1024 .f32) (s : FVec Ideal S4x1024 .f32) (w : FVec Ideal S1024x2560 .f32) (mu : FVec Ideal S1792 .f32) :
    FVec Ideal S4x4096x1792 .f32 :=
  addf (extractStridedSlice S4x4096x1792 ![0, 1, 768] (prj x s w) slices_S4x4097x2560_S4x4096x1792_0_1_768) (mulf (subf (extractStridedSlice S4x4096x1792 ![0, 0, 768] (prj x s w) slices_S4x4097x2560_S4x4096x1792_0_0_768) (extractStridedSlice S4x4096x1792 ![0, 1, 768] (prj x s w) slices_S4x4097x2560_S4x4096x1792_0_1_768)) (broadcastInDim S4x4096x1792 ![0, 1, 2] bcast_S1x1x1792_S4x4096x1792_0_1_2 (broadcastInDim S1x1x1792 ![2] bcast_S1792_S1x1x1792_2 mu)))

variable (M : FVec Ideal S4x4096x1792 .f32)

/-- A vector along the rows. -/
def along (v : FVec Ideal S512 .f32) : FVec Ideal S4x4096x512 .f32 :=
  broadcastInDim S4x4096x512 ![0, 1, 2] bcast_S1x1x512_S4x4096x512_0_1_2 (broadcastInDim S1x1x512 ![2] bcast_S512_S1x1x512_2 v)

/-- The ones. -/
def ones : FVec Ideal S4x4096x512 .f32 := broadcastInDim S4x4096x512 ![] bcast_S_S4x4096x512 (constant S_ .f32 0x3F800000#32)

/-- The logistic function. -/
def sigm (z : FVec Ideal S4x4096x512 .f32) : FVec Ideal S4x4096x512 .f32 := Host.divf ones (addf ones (Host.exp (Host.negf z)))

/-- The rates. -/
def rate (a0 : FVec Ideal S512 .f32) (a2 : FVec Ideal S64x512 .f32) : FVec Ideal S4x4096x512 .f32 :=
  sigm (addf (along a0) (Host.dotGeneral dot_S4x4096x64_S64x512_S4x4096x512_2_0_01_1_n_n none (extractStridedSlice S4x4096x64 ![0, 0, 1600] M slices_S4x4096x1792_S4x4096x64_0_0_1600) a2))

/-- The logarithms of the decay. -/
def decay (w0 : FVec Ideal S512 .f32) (w2 : FVec Ideal S64x512 .f32) : FVec Ideal S4x4096x512 .f32 :=
  mulf (broadcastInDim S4x4096x512 ![] bcast_S_S4x4096x512 (constant S_ .f32 0xBF1B4598#32)) (sigm (addf (along w0) (Host.dotGeneral dot_S4x4096x64_S64x512_S4x4096x512_2_0_01_1_n_n none (Host.tanh (extractStridedSlice S4x4096x64 ![0, 0, 512] M slices_S4x4096x1792_S4x4096x64_0_0_512)) w2)))

/-- The scaled keys, by heads. -/
def scaled (kk : FVec Ideal S512 .f32) : FVec Ideal S4x4096x8x64 .f32 :=
  shapeCast _ (mulf (extractStridedSlice S4x4096x512 ![0, 0, 576] M slices_S4x4096x1792_S4x4096x512_0_0_576) (along kk)) shapeCasts_S4x4096x512_S4x4096x8x64

/-- The scaled keys over their heads' lengths. -/
def unit (kk : FVec Ideal S512 .f32) : FVec Ideal S4x4096x8x64 .f32 :=
  Host.divf (scaled M kk) (broadcastInDim S4x4096x8x64 ![0, 1, 2, 3] bcast_S4x4096x8x1_S4x4096x8x64_0_1_2_3 (maximumf (Host.sqrt (broadcastInDim S4x4096x8x1 ![0, 1, 2] bcast_S4x4096x8_S4x4096x8x1_0_1_2 (Host.reduceAdd (mulf (scaled M kk) (scaled M kk)) (constant S_ .f32 0x00000000#32) reducesTo_S4x4096x8x64_S4x4096x8_d3 h_S_))) (broadcastInDim S4x4096x8x1 ![] bcast_S_S4x4096x8x1 (constant S_ .f32 0x2B8CBCCC#32))))

/-- The recurrence's keys. -/
def key (A : FVec Ideal S4x4096x512 .f32) (ka : FVec Ideal S512 .f32) : FVec Ideal S4x4096x512 .f32 :=
  mulf (extractStridedSlice S4x4096x512 ![0, 0, 576] M slices_S4x4096x1792_S4x4096x512_0_0_576) (addf ones (mulf (subf A ones) (along ka)))

/-- The gates. -/
def gate (g2 : FVec Ideal S128x512 .f32) : FVec Ideal S4x4096x512 .f32 :=
  Host.dotGeneral dot_S4x4096x128_S128x512_S4x4096x512_2_0_01_1_n_n none (Host.divf (broadcastInDim S4x4096x128 ![] bcast_S_S4x4096x128 (constant S_ .f32 0x3F800000#32)) (addf (broadcastInDim S4x4096x128 ![] bcast_S_S4x4096x128 (constant S_ .f32 0x3F800000#32)) (Host.exp (Host.negf (extractStridedSlice S4x4096x128 ![0, 0, 1664] M slices_S4x4096x1792_S4x4096x128_0_0_1664))))) g2

/-- The bonuses. -/
def bonus (K : FVec Ideal S4x4096x512 .f32) (rk : FVec Ideal S8x64 .f32) : FVec Ideal S4x4096x8x64 .f32 :=
  mulf (broadcastInDim S4x4096x8x64 ![0, 1, 2, 3] bcast_S4x4096x8x1_S4x4096x8x64_0_1_2_3 (broadcastInDim S4x4096x8x1 ![0, 1, 2] bcast_S4x4096x8_S4x4096x8x1_0_1_2 (Host.reduceAdd (mulf (mulf (shapeCast _ (extractStridedSlice S4x4096x512 ![0, 0, 0] M slices_S4x4096x1792_S4x4096x512_0_0_0) shapeCasts_S4x4096x512_S4x4096x8x64) (shapeCast _ K shapeCasts_S4x4096x512_S4x4096x8x64)) (broadcastInDim S4x4096x8x64 ![0, 1, 2, 3] bcast_S1x1x8x64_S4x4096x8x64_0_1_2_3 (broadcastInDim S1x1x8x64 ![2, 3] bcast_S8x64_S1x1x8x64_2_3 rk))) (constant S_ .f32 0x00000000#32) reducesTo_S4x4096x8x64_S4x4096x8_d3 h_S_))) (shapeCast _ (extractStridedSlice S4x4096x512 ![0, 0, 1088] M slices_S4x4096x1792_S4x4096x512_0_0_1088) shapeCasts_S4x4096x512_S4x4096x8x64)

/-- By rows, of 512 columns. -/
def rows (z : FVec Ideal S4x4096x512 .f32) : FVec Ideal S16384x512 .f32 := shapeCast _ z shapeCasts_S4x4096x512_S16384x512
/-- By rows, of heads. -/
def rowsH (z : FVec Ideal S4x4096x8x64 .f32) : FVec Ideal S16384x512 .f32 := shapeCast _ z shapeCasts_S4x4096x8x64_S16384x512

/-! ## The stages at an index -/

/-- A projection: of a sequence's shift row, or of the row before. -/
theorem prj_at (x : FVec Ideal S16384x1024 .f32) (s : FVec Ideal S4x1024 .f32) (w : FVec Ideal S1024x2560 .f32) (b : Fin 4) (i : Fin 4097)
    (c : Fin 2560) : prj x s w (ix3 b i c) =
      if h : i.val < 1 then InSpec.first (fun b d => s (ix2 b d)) (fun d c => w (ix2 d c)) b c
      else InSpec.proj (fun R d => x (ix2 R d)) (fun d c => w (ix2 d c)) ⟨b.val * 4096 + (i.val - 1), by omega⟩ c := by
  pointwise [prj]
  split_ifs <;> rfl

/-- A mixed column. -/
theorem mix_at (x : FVec Ideal S16384x1024 .f32) (s : FVec Ideal S4x1024 .f32) (w : FVec Ideal S1024x2560 .f32) (mu : FVec Ideal S1792 .f32)
    (R : Fin 16384) (j : Fin 1792) :
    mix x s w mu (ix3 (⟨R.val / 4096, by omega⟩ : Fin 4) (⟨R.val % 4096, by omega⟩ : Fin 4096) j) =
      InSpec.mixed (fun R d => x (ix2 R d)) (fun b d => s (ix2 b d)) (fun d c => w (ix2 d c)) (fun j => mu (ix1 j)) R j := by
  pointwise [mix]
  rw [prj_at, prj_at, dif_neg (by dsimp only; omega)]
  have e1 : (⟨R.val / 4096 * 4096 + (1 + R.val % 4096 - 1), by omega⟩ : Fin 16384) = R := Fin.ext (by dsimp only; omega)
  unfold InSpec.mixed
  have e2 : (if h : R.val % 4096 < 1 then InSpec.first (fun b d => s (ix2 b d)) (fun d c => w (ix2 d c)) (⟨R.val / 4096, by omega⟩ : Fin 4) ⟨768 + j.val, by omega⟩
      else InSpec.proj (fun R d => x (ix2 R d)) (fun d c => w (ix2 d c)) ⟨R.val / 4096 * 4096 + (R.val % 4096 - 1), by omega⟩ ⟨768 + j.val, by omega⟩)
      = InSpec.before (fun R d => x (ix2 R d)) (fun b d => s (ix2 b d)) (fun d c => w (ix2 d c)) R ⟨768 + j.val, by omega⟩ := by
    unfold InSpec.before
    by_cases h : R.val % 4096 = 0
    · rw [dif_pos (by omega), if_pos h]
    · rw [dif_neg (by omega), if_neg h]
      exact congrArg (fun R => InSpec.proj _ _ R _) (Fin.ext (by dsimp only; omega))
  refine congrArg₂ (fun a b : EReal => a + b) (congrArg (fun R => InSpec.proj _ _ R _) e1) ?_
  refine congrArg (fun a : EReal => a * mu (ix1 j)) ?_
  exact congrArg₂ (fun a b : EReal => a - b) e2 (congrArg (fun R => InSpec.proj _ _ R _) e1)

variable (u : Fin 1792 → EReal) (R : Fin 16384)
  (hM : ∀ j, M (ix3 (⟨R.val / 4096, by omega⟩ : Fin 4) (⟨R.val % 4096, by omega⟩ : Fin 4096) j) = u j)

include hM

/-- A logarithm of the decay. -/
theorem decay_at (w0 : FVec Ideal S512 .f32) (w2 : FVec Ideal S64x512 .f32) (C : Fin 512) :
    rows (decay M w0 w2) (ix2 R C) = InSpec.logDecay u (fun C => w0 (ix1 C)) (fun e C => w2 (ix2 e C)) C := by
  pointwise [rows]
  pointwise [decay, sigm, along, ones]
  simp only [hM]
  rfl

/-- A rate. -/
theorem rate_at (a0 : FVec Ideal S512 .f32) (a2 : FVec Ideal S64x512 .f32) (C : Fin 512) :
    rate M a0 a2 (ix3 (⟨R.val / 4096, by omega⟩ : Fin 4) (⟨R.val % 4096, by omega⟩ : Fin 4096) C)
      = InSpec.rate u (fun C => a0 (ix1 C)) (fun e C => a2 (ix2 e C)) C := by
  pointwise [rate, sigm, along, ones]
  simp only [hM]
  rfl

/-- A gate. -/
theorem gate_at (g2 : FVec Ideal S128x512 .f32) (C : Fin 512) :
    rows (gate M g2) (ix2 R C) = InSpec.gate u (fun e C => g2 (ix2 e C)) C := by
  pointwise [rows]
  pointwise [gate]
  simp only [hM]
  rfl

/-- A scaled key over its head's length. -/
theorem unit_at (kk : FVec Ideal S512 .f32) (C : Fin 512) :
    unit M kk (ix4 (⟨R.val / 4096, by omega⟩ : Fin 4) (⟨R.val % 4096, by omega⟩ : Fin 4096) (⟨C.val / 64, by omega⟩ : Fin 8) (⟨C.val % 64, by omega⟩ : Fin 64))
      = InSpec.unit u (fun C => kk (ix1 C)) C := by
  have e : ∀ d : Fin 64, M (ix3 (⟨R.val / 4096, by omega⟩ : Fin 4) (⟨R.val % 4096, by omega⟩ : Fin 4096) (⟨576 + (C.val / 64 * 64 + d.val), by omega⟩ : Fin 1792))
      * kk (ix1 (⟨C.val / 64 * 64 + d.val, by omega⟩ : Fin 512)) = InSpec.scaled u (fun C => kk (ix1 C)) ⟨64 * (C.val / 64) + d.val, by omega⟩ := fun d => by
    have e0 : (⟨C.val / 64 * 64 + d.val, by omega⟩ : Fin 512) = ⟨64 * (C.val / 64) + d.val, by omega⟩ := Fin.ext (by dsimp only; omega)
    rw [hM]
    unfold InSpec.scaled
    exact congrArg₂ (fun a b : EReal => a * b) (congrArg u (Fin.ext (by dsimp only; omega))) (congrArg (fun z => kk (ix1 z)) e0)
  pointwise [unit, scaled, along]
  refine congrArg₂ (fun a b : EReal => Ideal.div a (max (Ideal.sqrt b) (Ideal.ofBits .f32 0x2B8CBCCC#32))) ?_ ?_
  · rw [hM]; rfl
  · exact Finset.sum_congr rfl fun d _ => congrArg₂ (fun a b : EReal => a * b) (e d) (e d)

/-- A key of the recurrence. -/
theorem key_at (A : FVec Ideal S4x4096x512 .f32) (ka : FVec Ideal S512 .f32) (a : Fin 512 → EReal)
    (hA : ∀ C, A (ix3 (⟨R.val / 4096, by omega⟩ : Fin 4) (⟨R.val % 4096, by omega⟩ : Fin 4096) C) = a C) (C : Fin 512) :
    key M A ka (ix3 (⟨R.val / 4096, by omega⟩ : Fin 4) (⟨R.val % 4096, by omega⟩ : Fin 4096) C) = InSpec.key u a (fun C => ka (ix1 C)) C := by
  pointwise [key, along, ones]
  simp only [hM, hA]
  rfl

/-- A bonus. -/
theorem bonus_at (K : FVec Ideal S4x4096x512 .f32) (rk : FVec Ideal S8x64 .f32) (a ka : Fin 512 → EReal)
    (hK : ∀ C, K (ix3 (⟨R.val / 4096, by omega⟩ : Fin 4) (⟨R.val % 4096, by omega⟩ : Fin 4096) C) = InSpec.key u a ka C) (C : Fin 512) :
    rowsH (bonus M K rk) (ix2 R C)
      = InSpec.bonus u a ka (fun C => rk (ix2 (⟨C.val / 64, by omega⟩ : Fin 8) (⟨C.val % 64, by omega⟩ : Fin 64))) C := by
  pointwise [rowsH]
  pointwise [bonus]
  simp only [hM, hK]
  unfold InSpec.bonus InSpec.headSum
  refine congrArg₂ (fun a b : EReal => a * b) (Finset.sum_congr rfl fun d _ => ?_) rfl
  have e0 : (⟨C.val / 64 * 64 + d.val, by omega⟩ : Fin 512) = ⟨64 * (C.val / 64) + d.val, by omega⟩ := Fin.ext (by dsimp only; omega)
  refine congrArg₂ (fun a b : EReal => a * b) (congrArg₂ (fun a b : EReal => a * b) (congrArg u (Fin.ext (by dsimp only; omega)))
    (congrArg (InSpec.key u a ka) e0)) ?_
  exact congrArg₂ (fun a b => rk (ix2 a b)) (Fin.ext (by dsimp only; omega)) (Fin.ext (by dsimp only; omega))

omit hM

/-- A stage by rows. -/
theorem rows_at (z : FVec Ideal S4x4096x512 .f32) (C : Fin 512) :
    rows z (ix2 R C) = z (ix3 (⟨R.val / 4096, by omega⟩ : Fin 4) (⟨R.val % 4096, by omega⟩ : Fin 4096) C) := by
  pointwise [rows]

/-- A stage of heads by rows. -/
theorem rowsH_at (z : FVec Ideal S4x4096x8x64 .f32) (C : Fin 512) :
    rowsH z (ix2 R C) = z (ix4 (⟨R.val / 4096, by omega⟩ : Fin 4) (⟨R.val % 4096, by omega⟩ : Fin 4096) (⟨C.val / 64, by omega⟩ : Fin 8) (⟨C.val % 64, by omega⟩ : Fin 64)) := by
  pointwise [rowsH]

/-! ## The results -/

section Results

variable (x : FVec Ideal S16384x1024 .f32) (s : FVec Ideal S4x1024 .f32) (w : FVec Ideal S1024x2560 .f32) (mu : FVec Ideal S1792 .f32)
  (w0 : FVec Ideal S512 .f32) (w2 : FVec Ideal S64x512 .f32) (a0 : FVec Ideal S512 .f32) (a2 : FVec Ideal S64x512 .f32)
  (g2 : FVec Ideal S128x512 .f32) (kk ka : FVec Ideal S512 .f32) (rk : FVec Ideal S8x64 .f32) (R : Fin 16384)

/-- The queries. -/
theorem out0_at (C : Fin 512) : shapeCast S16384x512 (extractStridedSlice S4x4096x512 ![0, 0, 0] (extractStridedSlice S4x4096x768 ![0, 1, 0] (prj x s w) slices_S4x4097x2560_S4x4096x768_0_1_0) slices_S4x4096x768_S4x4096x512_0_0_0) shapeCasts_S4x4096x512_S16384x512 (ix2 R C)
    = InSpec.out0 (InSpec.argsOf x s w mu w0 w2 a0 a2 g2 kk ka rk) R C := by
  pointwise
  rw [prj_at, dif_neg (by dsimp only; omega)]
  exact congrArg₂ (InSpec.proj _ _) (Fin.ext (by dsimp only; omega)) (Fin.ext (by dsimp only; try omega))

/-- The attention's keys. -/
theorem out1_at (C : Fin 128) : shapeCast S16384x128 (extractStridedSlice S4x4096x128 ![0, 0, 512] (extractStridedSlice S4x4096x768 ![0, 1, 0] (prj x s w) slices_S4x4097x2560_S4x4096x768_0_1_0) slices_S4x4096x768_S4x4096x128_0_0_512) shapeCasts_S4x4096x128_S16384x128 (ix2 R C)
    = InSpec.out1 (InSpec.argsOf x s w mu w0 w2 a0 a2 g2 kk ka rk) R C := by
  pointwise
  rw [prj_at, dif_neg (by dsimp only; omega)]
  exact congrArg₂ (InSpec.proj _ _) (Fin.ext (by dsimp only; omega)) (Fin.ext (by dsimp only; try omega))

/-- The attention's values. -/
theorem out2_at (C : Fin 128) : shapeCast S16384x128 (extractStridedSlice S4x4096x128 ![0, 0, 640] (extractStridedSlice S4x4096x768 ![0, 1, 0] (prj x s w) slices_S4x4097x2560_S4x4096x768_0_1_0) slices_S4x4096x768_S4x4096x128_0_0_640) shapeCasts_S4x4096x128_S16384x128 (ix2 R C)
    = InSpec.out2 (InSpec.argsOf x s w mu w0 w2 a0 a2 g2 kk ka rk) R C := by
  pointwise
  rw [prj_at, dif_neg (by dsimp only; omega)]
  exact congrArg₂ (InSpec.proj _ _) (Fin.ext (by dsimp only; omega)) (Fin.ext (by dsimp only; try omega))

/-- The receptances. -/
theorem out3_at (C : Fin 512) : rows (extractStridedSlice S4x4096x512 ![0, 0, 0] (mix x s w mu) slices_S4x4096x1792_S4x4096x512_0_0_0) (ix2 R C)
    = InSpec.out3 (InSpec.argsOf x s w mu w0 w2 a0 a2 g2 kk ka rk) R C := by
  pointwise [rows]
  exact mix_at x s w mu R _

/-- The logarithms of the decay. -/
theorem out4_at (C : Fin 512) : rows (decay (mix x s w mu) w0 w2) (ix2 R C)
    = InSpec.out4 (InSpec.argsOf x s w mu w0 w2 a0 a2 g2 kk ka rk) R C :=
  decay_at _ _ R (mix_at x s w mu R) w0 w2 C

/-- The recurrence's keys. -/
theorem out5_at (C : Fin 512) : rows (key (mix x s w mu) (rate (mix x s w mu) a0 a2) ka) (ix2 R C)
    = InSpec.out5 (InSpec.argsOf x s w mu w0 w2 a0 a2 g2 kk ka rk) R C :=
  (rows_at R _ C).trans (key_at _ _ R (mix_at x s w mu R) _ ka _ (rate_at _ _ R (mix_at x s w mu R) a0 a2) C)

/-- The recurrence's values. -/
theorem out6_at (C : Fin 512) : rows (extractStridedSlice S4x4096x512 ![0, 0, 1088] (mix x s w mu) slices_S4x4096x1792_S4x4096x512_0_0_1088) (ix2 R C)
    = InSpec.out6 (InSpec.argsOf x s w mu w0 w2 a0 a2 g2 kk ka rk) R C := by
  pointwise [rows]
  exact mix_at x s w mu R _

/-- The negated scaled keys over their heads' lengths. -/
theorem out7_at (C : Fin 512) : rowsH (Host.negf (unit (mix x s w mu) kk)) (ix2 R C)
    = InSpec.out7 (InSpec.argsOf x s w mu w0 w2 a0 a2 g2 kk ka rk) R C := by
  rw [rowsH_at]
  exact congrArg (fun z : EReal => -z) (unit_at _ _ R (mix_at x s w mu R) kk C)

/-- The scaled keys over their heads' lengths, by the rates. -/
theorem out8_at (C : Fin 512) : rowsH (mulf (unit (mix x s w mu) kk) (shapeCast _ (rate (mix x s w mu) a0 a2) shapeCasts_S4x4096x512_S4x4096x8x64)) (ix2 R C)
    = InSpec.out8 (InSpec.argsOf x s w mu w0 w2 a0 a2 g2 kk ka rk) R C := by
  rw [rowsH_at]
  pointwise
  exact congrArg₂ (fun a b : EReal => a * b) (unit_at _ _ R (mix_at x s w mu R) kk C) (rate_at _ _ R (mix_at x s w mu R) a0 a2 C)

/-- The gates. -/
theorem out9_at (C : Fin 512) : rows (gate (mix x s w mu) g2) (ix2 R C)
    = InSpec.out9 (InSpec.argsOf x s w mu w0 w2 a0 a2 g2 kk ka rk) R C :=
  gate_at _ _ R (mix_at x s w mu R) g2 C

/-- The bonuses. -/
theorem out10_at (C : Fin 512) : rowsH (bonus (mix x s w mu) (key (mix x s w mu) (rate (mix x s w mu) a0 a2) ka) rk) (ix2 R C)
    = InSpec.out10 (InSpec.argsOf x s w mu w0 w2 a0 a2 g2 kk ka rk) R C :=
  bonus_at _ _ R (mix_at x s w mu R) _ rk _ _ (key_at _ _ R (mix_at x s w mu R) _ ka _ (rate_at _ _ R (mix_at x s w mu R) a0 a2)) C

end Results

end Cert.Reference3Ideal.In

end
-- ==== Proof.InRun.lean ====
module

public import proofs.«01_k».proof.Proof.InRef
public import proofs.«01_k».proof.Proof.Gen.Reference3Ideal.Run

/-! # The reference's run, its results as formulas -/

@[expose] public section

set_option maxRecDepth 16384

noncomputable section

namespace Cert.Reference3Ideal.In

open Idealize.ShloMosaic Idealize.ShloMosaic.TcCoe Idealize.SL.Sem
open Cert.Reference3Ideal.Gen
open AttSpec (Mat Real')

variable (m : (ℓ : Loc nD τ sig) → Buf (Elt Ideal) ℓ)

/-- The arguments on a device. -/
abbrev args (c : Dev nD) : InSpec.Args :=
  InSpec.argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))

set_option maxHeartbeats 2000000 in
/-- The reference's run, its results as formulas. -/
theorem run (ρ : Dev nD → PrngReg) :
    θ_run defs (onTc (τ := τ) (main (F := Ideal))) ⟨m, fun _ => 0, ρ⟩ fun r => ∀ c : Dev nD,
      r.2.mem ((c.tc : Thread nD τ).loc main_v85) = InSpec.array (InSpec.out0 (args m c))
      ∧ r.2.mem ((c.tc : Thread nD τ).loc main_v86) = InSpec.array (InSpec.out1 (args m c))
      ∧ r.2.mem ((c.tc : Thread nD τ).loc main_v87) = InSpec.array (InSpec.out2 (args m c))
      ∧ r.2.mem ((c.tc : Thread nD τ).loc main_v88) = InSpec.array (InSpec.out3 (args m c))
      ∧ r.2.mem ((c.tc : Thread nD τ).loc main_v89) = InSpec.array (InSpec.out4 (args m c))
      ∧ r.2.mem ((c.tc : Thread nD τ).loc main_v90) = InSpec.array (InSpec.out5 (args m c))
      ∧ r.2.mem ((c.tc : Thread nD τ).loc main_v91) = InSpec.array (InSpec.out6 (args m c))
      ∧ r.2.mem ((c.tc : Thread nD τ).loc main_v92) = InSpec.array (InSpec.out7 (args m c))
      ∧ r.2.mem ((c.tc : Thread nD τ).loc main_v93) = InSpec.array (InSpec.out8 (args m c))
      ∧ r.2.mem ((c.tc : Thread nD τ).loc main_v94) = InSpec.array (InSpec.out9 (args m c))
      ∧ r.2.mem ((c.tc : Thread nD τ).loc main_v95) = InSpec.array (InSpec.out10 (args m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) := by
  refine (θ_run defs _ _).mono (fun _ h c => ?_) (Cert.Reference3Ideal.Value.run m ρ)
  obtain ⟨h0, h1, h2, h3, h4, h5, h6, h7, h8, h9, h10, hr⟩ := h c
  exact ⟨h0.trans ((show _ = shapeCast S16384x512 (extractStridedSlice S4x4096x512 ![0, 0, 0] (extractStridedSlice S4x4096x768 ![0, 1, 0] (prj (m ((c.tc : Thread nD τ).loc main_arg0)) (m ((c.tc : Thread nD τ).loc main_arg1)) (m ((c.tc : Thread nD τ).loc main_arg2))) slices_S4x4097x2560_S4x4096x768_0_1_0) slices_S4x4096x768_S4x4096x512_0_0_0) shapeCasts_S4x4096x512_S16384x512 from rfl).trans
      (InSpec.array_of _ _ fun R C => out0_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) R C)),
    h1.trans ((show _ = shapeCast S16384x128 (extractStridedSlice S4x4096x128 ![0, 0, 512] (extractStridedSlice S4x4096x768 ![0, 1, 0] (prj (m ((c.tc : Thread nD τ).loc main_arg0)) (m ((c.tc : Thread nD τ).loc main_arg1)) (m ((c.tc : Thread nD τ).loc main_arg2))) slices_S4x4097x2560_S4x4096x768_0_1_0) slices_S4x4096x768_S4x4096x128_0_0_512) shapeCasts_S4x4096x128_S16384x128 from rfl).trans
      (InSpec.array_of _ _ fun R C => out1_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) R C)),
    h2.trans ((show _ = shapeCast S16384x128 (extractStridedSlice S4x4096x128 ![0, 0, 640] (extractStridedSlice S4x4096x768 ![0, 1, 0] (prj (m ((c.tc : Thread nD τ).loc main_arg0)) (m ((c.tc : Thread nD τ).loc main_arg1)) (m ((c.tc : Thread nD τ).loc main_arg2))) slices_S4x4097x2560_S4x4096x768_0_1_0) slices_S4x4096x768_S4x4096x128_0_0_640) shapeCasts_S4x4096x128_S16384x128 from rfl).trans
      (InSpec.array_of _ _ fun R C => out2_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) R C)),
    h3.trans ((show _ = rows (extractStridedSlice S4x4096x512 ![0, 0, 0] (mix (m ((c.tc : Thread nD τ).loc main_arg0)) (m ((c.tc : Thread nD τ).loc main_arg1)) (m ((c.tc : Thread nD τ).loc main_arg2)) (m ((c.tc : Thread nD τ).loc main_arg3))) slices_S4x4096x1792_S4x4096x512_0_0_0) from rfl).trans
      (InSpec.array_of _ _ fun R C => out3_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) R C)),
    h4.trans ((show _ = rows (decay (mix (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5))) from rfl).trans
      (InSpec.array_of _ _ fun R C => out4_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) R C)),
    h5.trans ((show _ = rows (key (mix (m ((c.tc : Thread nD τ).loc main_arg0)) (m ((c.tc : Thread nD τ).loc main_arg1)) (m ((c.tc : Thread nD τ).loc main_arg2)) (m ((c.tc : Thread nD τ).loc main_arg3))) (rate (mix (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg6)) (m ((c.tc : Thread nD τ).loc main_arg7))) (m ((c.tc : Thread nD τ).loc main_arg10))) from rfl).trans
      (InSpec.array_of _ _ fun R C => out5_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) R C)),
    h6.trans ((show _ = rows (extractStridedSlice S4x4096x512 ![0, 0, 1088] (mix (m ((c.tc : Thread nD τ).loc main_arg0)) (m ((c.tc : Thread nD τ).loc main_arg1)) (m ((c.tc : Thread nD τ).loc main_arg2)) (m ((c.tc : Thread nD τ).loc main_arg3))) slices_S4x4096x1792_S4x4096x512_0_0_1088) from rfl).trans
      (InSpec.array_of _ _ fun R C => out6_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) R C)),
    h7.trans ((show _ = rowsH (Host.negf (unit (mix (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg9)))) from rfl).trans
      (InSpec.array_of _ _ fun R C => out7_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) R C)),
    h8.trans ((show _ = rowsH (mulf (unit (mix (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg9))) (shapeCast _ (rate (mix (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg6)) (m ((c.tc : Thread nD τ).loc main_arg7))) shapeCasts_S4x4096x512_S4x4096x8x64)) from rfl).trans
      (InSpec.array_of _ _ fun R C => out8_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) R C)),
    h9.trans ((show _ = rows (gate (mix (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg8))) from rfl).trans
      (InSpec.array_of _ _ fun R C => out9_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) R C)),
    h10.trans ((show _ = rowsH (bonus (mix (m ((c.tc : Thread nD τ).loc main_arg0)) (m ((c.tc : Thread nD τ).loc main_arg1)) (m ((c.tc : Thread nD τ).loc main_arg2)) (m ((c.tc : Thread nD τ).loc main_arg3))) (key (mix (m ((c.tc : Thread nD τ).loc main_arg0)) (m ((c.tc : Thread nD τ).loc main_arg1)) (m ((c.tc : Thread nD τ).loc main_arg2)) (m ((c.tc : Thread nD τ).loc main_arg3))) (rate (mix (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg6)) (m ((c.tc : Thread nD τ).loc main_arg7))) (m ((c.tc : Thread nD τ).loc main_arg10))) (m ((c.tc : Thread nD τ).loc main_arg11))) from rfl).trans
      (InSpec.array_of _ _ fun R C => out10_at (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) R C)), hr⟩

end Cert.Reference3Ideal.In

end
-- ==== Proof.InClaim.lean ====
module

public import proofs.«01_k».proof.Defs
public import proofs.«01_k».proof.Proof.AttClaim
public import proofs.«01_k».proof.Proof.InArray
public import proofs.«01_k».proof.Proof.InRun
public import proofs.«01_k».proof.Proof.Gen.Kernel3Ideal.Value
public import proofs.«01_k».proof.Proof.Gen.Pre_finite_rows
public import Idealize.ShloMosaic.Lib.ReduceAll
public import Idealize.ShloMosaic.Lib.Claim

/-! # The projection computes the reference's values

The precondition read back and the two runs put side by side: every result is the same formula of the arguments. -/

@[expose] public section

set_option maxRecDepth 16384

noncomputable section

namespace Cert.InClaim

open Idealize.ShloMosaic Idealize.SL.Sem

instance : Subsingleton Cert.Pre_finite_rows.S_.Idx := ⟨fun a b => funext fun i => absurd i.isLt (by simp [Cert.Pre_finite_rows.S_])⟩

/-- What the precondition says of the arguments. -/
theorem finite (x : FVec Ideal Cert.Pre_finite_rows.S16384x1024 .f32) (s : FVec Ideal Cert.Pre_finite_rows.S4x1024 .f32)
    (w : FVec Ideal Cert.Pre_finite_rows.S1024x2560 .f32) (mu : FVec Ideal Cert.Pre_finite_rows.S1792 .f32)
    (w0 : FVec Ideal Cert.Pre_finite_rows.S512 .f32) (w2 : FVec Ideal Cert.Pre_finite_rows.S64x512 .f32)
    (a0 : FVec Ideal Cert.Pre_finite_rows.S512 .f32) (a2 : FVec Ideal Cert.Pre_finite_rows.S64x512 .f32)
    (g2 : FVec Ideal Cert.Pre_finite_rows.S128x512 .f32) (kk ka : FVec Ideal Cert.Pre_finite_rows.S512 .f32)
    (rk : FVec Ideal Cert.Pre_finite_rows.S8x64 .f32)
    (h : Cert.Pre_finite_rows.fn (F := Ideal) x s w mu w0 w2 a0 a2 g2 kk ka rk = fun _ => 1#1) :
    (InSpec.argsOf x s w mu w0 w2 a0 a2 g2 kk ka rk).Finite := by
  have hand : ∀ a b : BitVec 1, IntOp.andi a b = 1#1 → a = 1#1 ∧ b = 1#1 := by decide
  have h0 := congrFun h (fun i => absurd i.isLt (by simp [Cert.Pre_finite_rows.S_]))
  dsimp only [Cert.Pre_finite_rows.fn, Cert.Pre_finite_rows.fn_part1] at h0
  obtain ⟨h1, hrk⟩ := hand _ _ h0
  obtain ⟨h2, hka⟩ := hand _ _ h1
  obtain ⟨h3, hkk⟩ := hand _ _ h2
  obtain ⟨h4, hmu⟩ := hand _ _ h3
  obtain ⟨h5, hw⟩ := hand _ _ h4
  obtain ⟨hx, hs⟩ := hand _ _ h5
  exact {
    x := fun R d => AttClaim.real_of_abs (lt_of_lt_of_eq (AttClaim.lt_of_olt (Host.reduce_andi_all _ _ _ _ _ hx (ix2 R d))) AttClaim.posInf)
    s := fun b d => AttClaim.real_of_abs (lt_of_lt_of_eq (AttClaim.lt_of_olt (Host.reduce_andi_all _ _ _ _ _ hs (ix2 b d))) AttClaim.posInf)
    w := fun d j => AttClaim.real_of_abs (lt_of_lt_of_eq (AttClaim.lt_of_olt (Host.reduce_andi_all _ _ _ _ _ hw (ix2 d j))) AttClaim.posInf)
    mu := fun j => AttClaim.real_of_abs (lt_of_lt_of_eq (AttClaim.lt_of_olt (Host.reduce_andi_all _ _ _ _ _ hmu (ix1 j))) AttClaim.posInf)
    kk := fun C => AttClaim.real_of_abs (lt_of_lt_of_eq (AttClaim.lt_of_olt (Host.reduce_andi_all _ _ _ _ _ hkk (ix1 C))) AttClaim.posInf)
    ka := fun C => AttClaim.real_of_abs (lt_of_lt_of_eq (AttClaim.lt_of_olt (Host.reduce_andi_all _ _ _ _ _ hka (ix1 C))) AttClaim.posInf)
    rk := fun C => AttClaim.real_of_abs (lt_of_lt_of_eq (AttClaim.lt_of_olt (Host.reduce_andi_all _ _ _ _ _ hrk
      (ix2 (⟨C.val / 64, by omega⟩ : Fin 8) (⟨C.val % 64, by omega⟩ : Fin 64)))) AttClaim.posInf) }

/-- Equal arrays are equal arguments. -/
theorem argsOf_eq {x x' : FVec Ideal ⟨2, ![16384, 1024]⟩ .f32} {s s' : FVec Ideal ⟨2, ![4, 1024]⟩ .f32} {w w' : FVec Ideal ⟨2, ![1024, 2560]⟩ .f32} {mu mu' : FVec Ideal ⟨1, ![1792]⟩ .f32} {w0 w0' : FVec Ideal ⟨1, ![512]⟩ .f32} {w2 w2' : FVec Ideal ⟨2, ![64, 512]⟩ .f32} {a0 a0' : FVec Ideal ⟨1, ![512]⟩ .f32} {a2 a2' : FVec Ideal ⟨2, ![64, 512]⟩ .f32} {g2 g2' : FVec Ideal ⟨2, ![128, 512]⟩ .f32} {kk kk' : FVec Ideal ⟨1, ![512]⟩ .f32} {ka ka' : FVec Ideal ⟨1, ![512]⟩ .f32} {rk rk' : FVec Ideal ⟨2, ![8, 64]⟩ .f32}
    (h0 : x = x') (h1 : s = s') (h2 : w = w') (h3 : mu = mu') (h4 : w0 = w0') (h5 : w2 = w2') (h6 : a0 = a0') (h7 : a2 = a2') (h8 : g2 = g2') (h9 : kk = kk') (h10 : ka = ka') (h11 : rk = rk') :
    InSpec.argsOf x s w mu w0 w2 a0 a2 g2 kk ka rk = InSpec.argsOf x' s' w' mu' w0' w2' a0' a2' g2' kk' ka' rk' := by
  subst h0 h1 h2 h3 h4 h5 h6 h7 h8 h9 h10 h11
  rfl

variable (m : (ℓ : Loc Cert.Kernel3Ideal.nD Cert.Kernel3Ideal.τ Cert.Kernel3Ideal.sig) → Buf (Elt Ideal) ℓ)
  (m' : (ℓ : Loc Cert.Reference3Ideal.nD Cert.Reference3Ideal.τ Cert.Reference3Ideal.sig) → Buf (Elt Ideal) ℓ)
  (c : Dev Cert.Kernel3Ideal.nD)

/-- Where the memories agree on the arguments, both programs have the same. -/
theorem agree
    (h : m' (c.tc.loc Cert.Reference3Ideal.main_arg0) = m (c.tc.loc Cert.Kernel3Ideal.main_arg0)
      ∧ m' (c.tc.loc Cert.Reference3Ideal.main_arg1) = m (c.tc.loc Cert.Kernel3Ideal.main_arg1)
      ∧ m' (c.tc.loc Cert.Reference3Ideal.main_arg2) = m (c.tc.loc Cert.Kernel3Ideal.main_arg2)
      ∧ m' (c.tc.loc Cert.Reference3Ideal.main_arg3) = m (c.tc.loc Cert.Kernel3Ideal.main_arg3)
      ∧ m' (c.tc.loc Cert.Reference3Ideal.main_arg4) = m (c.tc.loc Cert.Kernel3Ideal.main_arg4)
      ∧ m' (c.tc.loc Cert.Reference3Ideal.main_arg5) = m (c.tc.loc Cert.Kernel3Ideal.main_arg5)
      ∧ m' (c.tc.loc Cert.Reference3Ideal.main_arg6) = m (c.tc.loc Cert.Kernel3Ideal.main_arg6)
      ∧ m' (c.tc.loc Cert.Reference3Ideal.main_arg7) = m (c.tc.loc Cert.Kernel3Ideal.main_arg7)
      ∧ m' (c.tc.loc Cert.Reference3Ideal.main_arg8) = m (c.tc.loc Cert.Kernel3Ideal.main_arg8)
      ∧ m' (c.tc.loc Cert.Reference3Ideal.main_arg9) = m (c.tc.loc Cert.Kernel3Ideal.main_arg9)
      ∧ m' (c.tc.loc Cert.Reference3Ideal.main_arg10) = m (c.tc.loc Cert.Kernel3Ideal.main_arg10)
      ∧ m' (c.tc.loc Cert.Reference3Ideal.main_arg11) = m (c.tc.loc Cert.Kernel3Ideal.main_arg11)) :
    Cert.Reference3Ideal.In.args m' c = Cert.Kernel3Ideal.In.args m c := by
  obtain ⟨h0, h1, h2, h3, h4, h5, h6, h7, h8, h9, h10, h11⟩ := h
  exact argsOf_eq h0 h1 h2 h3 h4 h5 h6 h7 h8 h9 h10 h11

attribute [local irreducible] InSpec.argsOf InSpec.out0 InSpec.out1 InSpec.out2 InSpec.out3 InSpec.out4 InSpec.out5 InSpec.out6 InSpec.out7
  InSpec.out8 InSpec.out9 InSpec.out10

set_option maxHeartbeats 4000000 in
/-- From the same finite arguments the projection and its reference end with equal results. -/
theorem algebraic : Cert.algebraic_Kernel3Ideal_Reference3Ideal_pre_finite_rows := by
  intro m g m' g' hpre hagree
  have hA := fun c => agree m m' c (hagree c)
  have hf : ∀ c, (Cert.Kernel3Ideal.In.args m c).Finite := fun c => finite _ _ _ _ _ _ _ _ _ _ _ _ (hpre c)
  refine ⟨fun c => InSpec.array (InSpec.out0 (Cert.Kernel3Ideal.In.args m c)),
    fun c => InSpec.array (InSpec.out1 (Cert.Kernel3Ideal.In.args m c)),
    fun c => InSpec.array (InSpec.out2 (Cert.Kernel3Ideal.In.args m c)),
    fun c => InSpec.array (InSpec.out3 (Cert.Kernel3Ideal.In.args m c)),
    fun c => InSpec.array (InSpec.out4 (Cert.Kernel3Ideal.In.args m c)),
    fun c => InSpec.array (InSpec.out5 (Cert.Kernel3Ideal.In.args m c)),
    fun c => InSpec.array (InSpec.out6 (Cert.Kernel3Ideal.In.args m c)),
    fun c => InSpec.array (InSpec.out7 (Cert.Kernel3Ideal.In.args m c)),
    fun c => InSpec.array (InSpec.out8 (Cert.Kernel3Ideal.In.args m c)),
    fun c => InSpec.array (InSpec.out9 (Cert.Kernel3Ideal.In.args m c)),
    fun c => InSpec.array (InSpec.out10 (Cert.Kernel3Ideal.In.args m c)), ?_, ?_⟩
  · refine (θ_run Cert.Kernel3Ideal.defs _ _).mono (fun r h c => ?_) (Cert.Kernel3Ideal.Value.run_blocks m g)
    obtain ⟨h0, h1, h2, h3, h4, h5, h6, h7, h8, h9, h10, hr⟩ := h c
    exact ⟨h0.trans (Cert.Kernel3Ideal.In.last0 m c), h1.trans (Cert.Kernel3Ideal.In.last1 m c), h2.trans (Cert.Kernel3Ideal.In.last2 m c), h3.trans (Cert.Kernel3Ideal.In.last3 m c), h4.trans (Cert.Kernel3Ideal.In.last4 m c), h5.trans (Cert.Kernel3Ideal.In.last5 m c), h6.trans (Cert.Kernel3Ideal.In.last6 m c), h7.trans (Cert.Kernel3Ideal.In.last7 m c (hf c)), h8.trans (Cert.Kernel3Ideal.In.last8 m c (hf c)), h9.trans (Cert.Kernel3Ideal.In.last9 m c), h10.trans (Cert.Kernel3Ideal.In.last10 m c (hf c)), hr⟩
  · refine (θ_run Cert.Reference3Ideal.defs _ _).mono (fun r h c => ?_) (Cert.Reference3Ideal.In.run m' g')
    obtain ⟨h0, h1, h2, h3, h4, h5, h6, h7, h8, h9, h10, hr⟩ := h c
    exact ⟨h0.trans (congrArg (fun A => InSpec.array (InSpec.out0 A)) (hA c)), h1.trans (congrArg (fun A => InSpec.array (InSpec.out1 A)) (hA c)), h2.trans (congrArg (fun A => InSpec.array (InSpec.out2 A)) (hA c)), h3.trans (congrArg (fun A => InSpec.array (InSpec.out3 A)) (hA c)), h4.trans (congrArg (fun A => InSpec.array (InSpec.out4 A)) (hA c)), h5.trans (congrArg (fun A => InSpec.array (InSpec.out5 A)) (hA c)), h6.trans (congrArg (fun A => InSpec.array (InSpec.out6 A)) (hA c)), h7.trans (congrArg (fun A => InSpec.array (InSpec.out7 A)) (hA c)), h8.trans (congrArg (fun A => InSpec.array (InSpec.out8 A)) (hA c)), h9.trans (congrArg (fun A => InSpec.array (InSpec.out9 A)) (hA c)), h10.trans (congrArg (fun A => InSpec.array (InSpec.out10 A)) (hA c)), hr⟩

end Cert.InClaim

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Pre_finite_scores
public import proofs.«01_k».proof.Proof.Gen.Kernel2
public import proofs.«01_k».proof.Proof.Gen.Kernel2.Launch
public import proofs.«01_k».proof.Proof.Gen.Kernel2.Skeleton
public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Gen.Reference2Ideal
public import proofs.«01_k».proof.Proof.Gen.Pre_routed
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Kernel3Ideal.Launch
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Pre_finite_rows
public import proofs.«01_k».proof.Proof.AttClaim
public import proofs.«01_k».proof.Proof.MoeClaim
public import proofs.«01_k».proof.Proof.InClaim
public import Idealize.ShloMosaic.Adequacy
public import Idealize.ShloMosaic.Init

@[expose] public section

noncomputable section

namespace Cert.Proof

open Idealize.ShloMosaic Idealize.SL.Sem

/-- The reference's run leaves its arguments, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The experts' reference's run leaves its arguments, and it has no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The projection's reference's run leaves its arguments, and it has no semaphore. -/
theorem frame_reference3 : Cert.quiescent_Reference3Ideal := fun m ρ _ =>
  (θ_run Cert.Reference3Ideal.defs _ _).mono
    (fun r h => ⟨fun c => (h c).2.2.2.2.2.2.2.2.2.2.2, sem_eq_zero_of_no_sems (by decide) r.2⟩)
    (Cert.Reference3Ideal.Value.run (F := Ideal) m ρ)

/-- Every claim: the runs with their arguments unchanged, the ideal programs the kernels' own, the values equal. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Pre_finite_scores.Gen.facts, Cert.Pre_routed.Gen.facts, Cert.Pre_finite_rows.Gen.facts,
    fun m ρ _ => Cert.Kernel.Gen.frame m ρ,
    fun m ρ _ => Cert.KernelIdeal.Gen.frame m ρ,
    fun m ρ _ => Cert.KernelIdeal.Gen.frame m ρ,
    fun m ρ _ => frame_reference m ρ trivial,
    fun m ρ _ => frame_reference m ρ trivial,
    Cert.MoeFrame.frame_kernel,
    Cert.MoeFrame.frame_ideal,
    frame_reference2,
    fun m ρ _ => frame_reference2 m ρ trivial,
    fun m ρ _ => Cert.Kernel3.Gen.frame m ρ,
    fun m ρ _ => Cert.Kernel3Ideal.Gen.frame m ρ,
    fun m ρ _ => Cert.Kernel3Ideal.Gen.frame m ρ,
    frame_reference3,
    fun m ρ _ => frame_reference3 m ρ trivial,
    trivial,
    Cert.AttClaim.algebraic,
    trivial,
    Cert.MoeClaim.algebraic,
    trivial,
    Cert.InClaim.algebraic⟩

end Cert.Proof

end
